-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S6x256x5120 : Shape := ⟨3, ![6, 256, 5120]⟩
abbrev S22528x5120 : Shape := ⟨2, ![22528, 5120]⟩
abbrev S5120 : Shape := ⟨1, ![5120]⟩
abbrev S_ : Shape := ⟨0, ![]⟩
abbrev S6x256 : Shape := ⟨2, ![6, 256]⟩

class Facts : Prop where
  bitsLt_bf16_f32 : FTy.bits .bf16 < FTy.bits .f32
  reducesTo_S6x256x5120_S6x256_d2 : S6x256x5120.ReducesTo [2] S6x256
  h_S_ : 0 < S_.numel
  bcast_S_S6x256 : S_.BroadcastsInDim S6x256 (![] : Fin 0 → Fin S6x256.rank)
  reducesTo_S6x256_S_d0_1 : S6x256.ReducesTo [0, 1] S_
  bcast_S_S22528x5120 : S_.BroadcastsInDim S22528x5120 (![] : Fin 0 → Fin S22528x5120.rank)
  reducesTo_S22528x5120_S_d0_1 : S22528x5120.ReducesTo [0, 1] S_
  bcast_S_S5120 : S_.BroadcastsInDim S5120 (![] : Fin 0 → Fin S5120.rank)
  reducesTo_S5120_S_d0 : S5120.ReducesTo [0] S_

variable [Facts]

def fn_part1 {F : FTy → Type} [FloatOps F] (main_arg2 : FVec F S5120 .f32) (main_v16 : IVec S_ 1) : IVec S_ 1 :=
  let main_v17 : FVec F S5120 .f32 := Host.absf main_arg2
  let main_cst_5 : FVec F S_ .f32 := constant S_ .f32 0x7F800000#32
  let main_v18 : FVec F S5120 .f32 := broadcastInDim S5120 ![] bcast_S_S5120 main_cst_5
  let main_v19 : IVec S5120 1 := cmpf .olt main_v17 main_v18
  let main_c_6 : IVec S_ 1 := constantI S_ 1 1#1
  let main_v20 : IVec S_ 1 := (fun x v => Host.reduce IntOp.andi x v reducesTo_S5120_S_d0 h_S_) main_v19 main_c_6
  let main_v21 : IVec S_ 1 := andi main_v16 main_v20
  main_v21

def fn {F : FTy → Type} [FloatOps F] (main_arg0 : FVec F S6x256x5120 .bf16) (main_arg1 : FVec F S22528x5120 .f32) (main_arg2 : FVec F S5120 .f32) : IVec S_ 1 :=
  let main_v0 : FVec F S6x256x5120 .f32 := (extf .f32 · bitsLt_bf16_f32) main_arg0
  let main_v1 : FVec F S6x256x5120 .f32 := Host.absf main_v0
  let main_cst : FVec F S_ .f32 := constant S_ .f32 0xFF800000#32
  let main_v2 : FVec F S6x256 .f32 := (fun x v => Host.reduce FloatOps.maximumf x v reducesTo_S6x256x5120_S6x256_d2 h_S_) main_v1 main_cst
  let main_cst_0 : FVec F S_ .f32 := constant S_ .f32 0x00000000#32
  let main_v3 : FVec F S6x256 .f32 := broadcastInDim S6x256 ![] bcast_S_S6x256 main_cst_0
  let main_v4 : IVec S6x256 1 := cmpf .oeq main_v2 main_v3
  let main_cst_1 : FVec F S_ .f32 := constant S_ .f32 0x08600000#32
  let main_v5 : FVec F S6x256 .f32 := broadcastInDim S6x256 ![] bcast_S_S6x256 main_cst_1
  let main_v6 : IVec S6x256 1 := cmpf .oge main_v2 main_v5
  let main_cst_2 : FVec F S_ .f32 := constant S_ .f32 0x7F7F0000#32
  let main_v7 : FVec F S6x256 .f32 := broadcastInDim S6x256 ![] bcast_S_S6x256 main_cst_2
  let main_v8 : IVec S6x256 1 := cmpf .ole main_v2 main_v7
  let main_v9 : IVec S6x256 1 := andi main_v6 main_v8
  let main_v10 : IVec S6x256 1 := ori main_v4 main_v9
  let main_c : IVec S_ 1 := constantI S_ 1 1#1
  let main_v11 : IVec S_ 1 := (fun x v => Host.reduce IntOp.andi x v reducesTo_S6x256_S_d0_1 h_S_) main_v10 main_c
  let main_v12 : FVec F S22528x5120 .f32 := Host.absf main_arg1
  let main_cst_3 : FVec F S_ .f32 := constant S_ .f32 0x7F800000#32
  let main_v13 : FVec F S22528x5120 .f32 := broadcastInDim S22528x5120 ![] bcast_S_S22528x5120 main_cst_3
  let main_v14 : IVec S22528x5120 1 := cmpf .olt main_v12 main_v13
  let main_c_4 : IVec S_ 1 := constantI S_ 1 1#1
  let main_v15 : IVec S_ 1 := (fun x v => Host.reduce IntOp.andi x v reducesTo_S22528x5120_S_d0_1 h_S_) main_v14 main_c_4
  let main_v16 : IVec S_ 1 := andi main_v11 main_v15
  fn_part1 (F := F) main_arg2 main_v16
-- ==== Kernel.lean ====
abbrev S6x256x5120 : Shape := ⟨3, ![6, 256, 5120]⟩
abbrev S22528x5120 : Shape := ⟨2, ![22528, 5120]⟩
abbrev S5120 : Shape := ⟨1, ![5120]⟩
abbrev S1536x5120 : Shape := ⟨2, ![1536, 5120]⟩
abbrev S1x5120 : Shape := ⟨2, ![1, 5120]⟩
abbrev S12x1x128 : Shape := ⟨3, ![12, 1, 128]⟩
abbrev S128x5120 : Shape := ⟨2, ![128, 5120]⟩
abbrev S1x1x128 : Shape := ⟨3, ![1, 1, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S128x128 : Shape := ⟨2, ![128, 128]⟩
abbrev S1x128 : Shape := ⟨2, ![1, 128]⟩
abbrev S_ : Shape := ⟨0, ![]⟩
abbrev S1x1536 : Shape := ⟨2, ![1, 1536]⟩
abbrev S12x44x512x128 : Shape := ⟨4, ![12, 44, 512, 128]⟩
abbrev S512x5120 : Shape := ⟨2, ![512, 5120]⟩
abbrev S12x1x512x128 : Shape := ⟨4, ![12, 1, 512, 128]⟩
abbrev S2x512x128 : Shape := ⟨3, ![2, 512, 128]⟩
abbrev S576x128 : Shape := ⟨2, ![576, 128]⟩
abbrev S256x5120 : Shape := ⟨2, ![256, 5120]⟩
abbrev S512x256 : Shape := ⟨2, ![512, 256]⟩
abbrev S512x128 : Shape := ⟨2, ![512, 128]⟩
abbrev S1x512x128 : Shape := ⟨3, ![1, 512, 128]⟩
abbrev S1x8x128 : Shape := ⟨3, ![1, 8, 128]⟩
abbrev S8x128 : Shape := ⟨2, ![8, 128]⟩
abbrev S1x1x8x128 : Shape := ⟨4, ![1, 1, 8, 128]⟩
abbrev S6x256 : Shape := ⟨2, ![6, 256]⟩

abbrev nBuf : Space → Nat
  | .hbm => 17
  | .vmem => 21
  | .smem => 1
  | _ => 0

abbrev bufTy : (tb : Table) → Fin (tcTables nBuf tb) → BufTy
  | .hbm, ⟨0, _⟩ => ⟨S6x256x5120, .bf16⟩
  | .hbm, ⟨1, _⟩ => ⟨S22528x5120, .f32⟩
  | .hbm, ⟨2, _⟩ => ⟨S5120, .f32⟩
  | .hbm, ⟨3, _⟩ => ⟨S22528x5120, .fp8e4m3⟩
  | .hbm, ⟨4, _⟩ => ⟨S1536x5120, .bf16⟩
  | .hbm, ⟨5, _⟩ => ⟨S1x5120, .f32⟩
  | .hbm, ⟨6, _⟩ => ⟨S1536x5120, .fp8e5m2⟩
  | .hbm, ⟨7, _⟩ => ⟨S1536x5120, .fp8e5m2⟩
  | .hbm, ⟨8, _⟩ => ⟨S12x1x128, .f32⟩
  | .hbm, ⟨9, _⟩ => ⟨S12x1x128, .i32⟩
  | .hbm, ⟨10, _⟩ => ⟨S_, .i32⟩
  | .hbm, ⟨11, _⟩ => ⟨S_, .i32⟩
  | .hbm, ⟨12, _⟩ => ⟨S1, .i32⟩
  | .hbm, ⟨13, _⟩ => ⟨S1x1536, .f32⟩
  | .hbm, ⟨14, _⟩ => ⟨S12x44x512x128, .f32⟩
  | .hbm, ⟨15, _⟩ => ⟨S6x256x5120, .fp8e5m2⟩
  | .hbm, ⟨16, _⟩ => ⟨S6x256, .f32⟩
  | .local _ .vmem, ⟨0, _⟩ => ⟨S128x5120, .bf16⟩
  | .local _ .vmem, ⟨1, _⟩ => ⟨S128x5120, .bf16⟩
  | .local _ .vmem, ⟨2, _⟩ => ⟨S1x5120, .f32⟩
  | .local _ .vmem, ⟨3, _⟩ => ⟨S128x5120, .fp8e5m2⟩
  | .local _ .vmem, ⟨4, _⟩ => ⟨S128x5120, .fp8e5m2⟩
  | .local _ .vmem, ⟨5, _⟩ => ⟨S128x5120, .fp8e5m2⟩
  | .local _ .vmem, ⟨6, _⟩ => ⟨S128x5120, .fp8e5m2⟩
  | .local _ .vmem, ⟨7, _⟩ => ⟨S1x1x128, .f32⟩
  | .local _ .vmem, ⟨8, _⟩ => ⟨S1x1x128, .f32⟩
  | .local _ .vmem, ⟨9, _⟩ => ⟨S1x1x128, .i32⟩
  | .local _ .vmem, ⟨10, _⟩ => ⟨S1x1x128, .i32⟩
  | .local _ .vmem, ⟨11, _⟩ => ⟨S512x5120, .fp8e4m3⟩
  | .local _ .vmem, ⟨12, _⟩ => ⟨S512x5120, .fp8e4m3⟩
  | .local _ .vmem, ⟨13, _⟩ => ⟨S1536x5120, .fp8e5m2⟩
  | .local _ .vmem, ⟨14, _⟩ => ⟨S1536x5120, .fp8e5m2⟩
  | .local _ .vmem, ⟨15, _⟩ => ⟨S1x5120, .f32⟩
  | .local _ .vmem, ⟨16, _⟩ => ⟨S1x1536, .f32⟩
  | .local _ .vmem, ⟨17, _⟩ => ⟨S12x1x512x128, .f32⟩
  | .local _ .vmem, ⟨18, _⟩ => ⟨S12x1x512x128, .f32⟩
  | .local _ .vmem, ⟨19, _⟩ => ⟨S2x512x128, .f32⟩
  | .local _ .vmem, ⟨20, _⟩ => ⟨S576x128, .f32⟩
  | .local _ .smem, ⟨0, _⟩ => ⟨S1, .i32⟩
  | _, _ => ⟨S6x256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc1_scratch1 : Ref sig .tc := ⟨.vmem, 20, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x5120 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5120 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![44], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .smem S1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x5120 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1536x5120 .fp8e5m2 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1536x5120 .fp8e5m2 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5120 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1536 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S12x1x512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S6x256x5120 : Shape := ⟨3, ![6, 256, 5120]⟩
abbrev S22528x5120 : Shape := ⟨2, ![22528, 5120]⟩
abbrev S5120 : Shape := ⟨1, ![5120]⟩
abbrev S1536x5120 : Shape := ⟨2, ![1536, 5120]⟩
abbrev S1x5120 : Shape := ⟨2, ![1, 5120]⟩
abbrev S1536x1 : Shape := ⟨2, ![1536, 1]⟩
abbrev S1536x22528 : Shape := ⟨2, ![1536, 22528]⟩
abbrev S1536 : Shape := ⟨1, ![1536]⟩
abbrev S1x254 : Shape := ⟨2, ![1, 254]⟩
abbrev S1536x254 : Shape := ⟨2, ![1536, 254]⟩
abbrev S512x512 : Shape := ⟨2, ![512, 512]⟩
abbrev S_ : Shape := ⟨0, ![]⟩
abbrev S1536x44x512 : Shape := ⟨3, ![1536, 44, 512]⟩
abbrev S12x128x44x8x8x8 : Shape := ⟨6, ![12, 128, 44, 8, 8, 8]⟩
abbrev S12x44x8x8x8x128 : Shape := ⟨6, ![12, 44, 8, 8, 8, 128]⟩
abbrev S12x44x512x128 : Shape := ⟨4, ![12, 44, 512, 128]⟩
abbrev S6x256 : Shape := ⟨2, ![6, 256]⟩

abbrev nBuf : Space → Nat
  | .hbm => 34
  | .vmem => 6
  | .smem => 0
  | _ => 0

abbrev bufTy : (tb : Table) → Fin (tcTables nBuf tb) → BufTy
  | .hbm, ⟨0, _⟩ => ⟨S6x256x5120, .bf16⟩
  | .hbm, ⟨1, _⟩ => ⟨S22528x5120, .f32⟩
  | .hbm, ⟨2, _⟩ => ⟨S5120, .f32⟩
  | .hbm, ⟨3, _⟩ => ⟨S22528x5120, .fp8e4m3⟩
  | .hbm, ⟨4, _⟩ => ⟨S1536x5120, .bf16⟩
  | .hbm, ⟨5, _⟩ => ⟨S1x5120, .f32⟩
  | .hbm, ⟨6, _⟩ => ⟨S1536x5120, .fp8e5m2⟩
  | .hbm, ⟨7, _⟩ => ⟨S1536x1, .f32⟩
  | .hbm, ⟨8, _⟩ => ⟨S1536x22528, .f32⟩
  | .hbm, ⟨9, _⟩ => ⟨S1536x22528, .f32⟩
  | .hbm, ⟨10, _⟩ => ⟨S1536x22528, .f32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i1⟩
  | .hbm, ⟨21, _⟩ => ⟨S_, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S1536x44x512, .f32⟩
  | .hbm, ⟨28, _⟩ => ⟨S1536x44x512, .f32⟩
  | .hbm, ⟨29, _⟩ => ⟨S12x128x44x8x8x8, .f32⟩
  | .hbm, ⟨30, _⟩ => ⟨S12x44x8x8x8x128, .f32⟩
  | .hbm, ⟨31, _⟩ => ⟨S12x44x512x128, .f32⟩
  | .hbm, ⟨32, _⟩ => ⟨S6x256x5120, .fp8e5m2⟩
  | .hbm, ⟨33, _⟩ => ⟨S6x256, .f32⟩
  | .local _ .vmem, ⟨0, _⟩ => ⟨S1536x5120, .bf16⟩
  | .local _ .vmem, ⟨1, _⟩ => ⟨S22528x5120, .fp8e4m3⟩
  | .local _ .vmem, ⟨2, _⟩ => ⟨S1x5120, .f32⟩
  | .local _ .vmem, ⟨3, _⟩ => ⟨S1536x5120, .fp8e5m2⟩
  | .local _ .vmem, ⟨4, _⟩ => ⟨S1536x1, .f32⟩
  | .local _ .vmem, ⟨5, _⟩ => ⟨S1536x22528, .f32⟩
  | _, _ => ⟨S6x256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S22528x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x5120 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x22528 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelQuant.lean ====
/- The quantise call's body as its loads, its stores and the values stored. -/
module

public import proofs.«01_k».proof.Proof.Gen.Kernel

@[expose] public section

set_option synthInstance.maxSize 4096
set_option maxRecDepth 16384

noncomputable section

namespace Cert.Kernel.Own

open Idealize.ShloMosaic
open Idealize.SL.Sem
open Cert.Kernel Cert.Kernel.Gen

variable {F : FTy → Type} [FloatOps F]
/-! ## `cc0_quantise` -/

/-- `%202 = vector.shape_cast %199 : vector<1x128xf32> to vector<1x1x128xf32>` of `cc0_quantise`,
   from the values read before it. Read by `tpu.vector_store %arg5[%c0_51, %c0_52, %c0_53], %202`. -/
noncomputable def k0_pay1 (v82 : FVec F S128x1 .f32) : FVec F S1x1x128 .f32 :=
  have v196 : FVec F S128x1 .f32 := shapeCast S128x1 v82 shapeCasts_S128x1_S128x1
  have v197 : FVec F S128x128 .f32 := broadcastTo S128x128 v196 broadcasts_S128x1_S128x128
  have v198 : FVec F S128x128 .f32 := transpose S128x128 [1, 0] v197 transposes_S128x128_p1_0_S128x128
  have v199 : FVec F S1x128 .f32 := extractStridedSlice S1x128 ![0, 0] v198 slices_S128x128_o0_0_S1x128
  have v202 : FVec F S1x1x128 .f32 := shapeCast S1x1x128 v199 shapeCasts_S1x128_S1x1x128
  v202

/-- `%209 = vector.shape_cast %206 : vector<1x128xi32> to vector<1x1x128xi32>` of `cc0_quantise`,
   from the values read before it. Read by `tpu.vector_store %arg6[%c0_54, %c0_55, %c0_56], %209`. -/
noncomputable def k0_pay2 (v99 : FVec F S1x5120 .f32) (v170 : FVec F S1x5120 .f32) (v173 : FVec F S128x5120 .f32) (v174 : FVec F S128x5120 .fp8e5m2) : IVec S1x1x128 32 :=
  have v176 : FVec F S128x5120 .f32 := extf .f32 v174 bitsLt_fp8e5m2_f32
  have v177 : IVec S128x5120 1 := cmpf .oeq v176 v173
  have v178 : IVec S128x5120 32 := broadcast S128x5120 0#32
  have v179 : IVec S128x5120 32 := broadcast S128x5120 1#32
  have v180 : IVec S128x5120 32 := select v177 v178 v179
  have v181 : FVec F S1x5120 .f32 := absf v170
  have cst_45 : F .f32 := Scalar.ofBits .f32 0x21800000#32
  have v182 : FVec F S1x5120 .f32 := broadcast S1x5120 cst_45
  have v183 : IVec S1x5120 1 := cmpf .oge v181 v182
  have cst_46 : F .f32 := Scalar.ofBits .f32 0x00000000#32
  have v184 : FVec F S1x5120 .f32 := broadcast S1x5120 cst_46
  have v185 : IVec S1x5120 1 := cmpf .oeq v99 v184
  have v186 : IVec S1x5120 1 := ori v183 v185
  have v187 : IVec S1x5120 32 := broadcast S1x5120 0#32
  have v188 : IVec S1x5120 32 := broadcast S1x5120 1#32
  have v189 : IVec S1x5120 32 := select v186 v187 v188
  have v190 : IVec S128 32 := multiReductionI .maxsi [1] S128 v180 2147483648#32 reduces_S128x5120_S128 rfl
  have v191 : IVec S128x1 32 := shapeCast S128x1 v190 shapeCasts_S128_S128x1
  have v192 : IVec S1 32 := multiReductionI .maxsi [1] S1 v189 2147483648#32 reduces_S1x5120_S1 rfl
  have v193 : IVec S1x1 32 := shapeCast S1x1 v192 shapeCasts_S1_S1x1
  have v194 : IVec S128x1 32 := broadcastTo S128x1 v193 broadcasts_S1x1_S128x1
  have v195 : IVec S128x1 32 := maxsi v191 v194
  have v203 : IVec S128x1 32 := shapeCast S128x1 v195 shapeCasts_S128x1_S128x1
  have v204 : IVec S128x128 32 := broadcastTo S128x128 v203 broadcasts_S128x1_S128x128
  have v205 : IVec S128x128 32 := transpose S128x128 [1, 0] v204 transposes_S128x128_p1_0_S128x128
  have v206 : IVec S1x128 32 := extractStridedSlice S1x128 ![0, 0] v205 slices_S128x128_o0_0_S1x128
  have v209 : IVec S1x1x128 32 := shapeCast S1x1x128 v206 shapeCasts_S1x128_S1x1x128
  v209

/-- `%2 = arith.extf %1 : vector<128x5120xbf16> to vector<128x5120xf32>` of `k0_part1`, from the
   values read before it. Read by the loop's rebinding, condition or exit; `k0_pay4`. -/
noncomputable def k0_pay3 (v0 : Vec F S128x5120 .bf16) : FVec F S128x5120 .f32 :=
  have v1 : FVec F S128x5120 .bf16 := shapeCast S128x5120 v0 shapeCasts_S128x5120_S128x5120
  have v2 : FVec F S128x5120 .f32 := extf .f32 v1 bitsLt_bf16_f32
  v2

/-- `%7 = arith.mulf %5, %6 : vector<128x1xf32>` of `k0_part1`, from the values read before it. Read
   by the loop's rebinding, condition or exit; `k0_pay5`. -/
noncomputable def k0_pay4 (v0 : Vec F S128x5120 .bf16) : FVec F S128x1 .f32 :=
  have v3 : FVec F S128x5120 .f32 := absf (k0_pay3 v0)
  have v4 : FVec F S128 .f32 := multiReduction .maximumf [1] S128 v3 0xFF800000#32 reduces_S128x5120_S128 (.inl rfl) rfl
  have v5 : FVec F S128x1 .f32 := shapeCast S128x1 v4 shapeCasts_S128_S128x1
  have cst_1 : F .f32 := Scalar.ofBits .f32 0x37924925#32
  have v6 : FVec F S128x1 .f32 := broadcast S128x1 cst_1
  have v7 : FVec F S128x1 .f32 := mulf v5 v6
  v7

/-- `%43 = arith.select %42, %36, %38 : vector<128x1xi1>, vector<128x1xi32>` of `k0_part1`, from the
   values read before it. Read by the loop's rebinding, condition or exit. -/
noncomputable def k0_pay5 (v0 : Vec F S128x5120 .bf16) : IVec S128x1 32 :=
  have v8 : IVec S128x1 32 := broadcast S128x1 0#32
  have v9 : IVec S128x1 32 := broadcast S128x1 128#32
  have v10 : IVec S128x1 32 := addi v8 v9
  have v11 : IVec S128x1 32 := broadcast S128x1 23#32
  have v12 : IVec S128x1 32 := shli v10 v11
  have v13 : FVec F S128x1 .f32 := bitcastToFloat .f32 v12
  have v14 : IVec S128x1 1 := cmpf .olt (k0_pay4 v0) v13
  have v15 : IVec S128x1 32 := select v14 v8 v10
  have v16 : IVec S128x1 32 := broadcast S128x1 64#32
  have v17 : IVec S128x1 32 := addi v15 v16
  have v18 : IVec S128x1 32 := broadcast S128x1 23#32
  have v19 : IVec S128x1 32 := shli v17 v18
  have v20 : FVec F S128x1 .f32 := bitcastToFloat .f32 v19
  have v21 : IVec S128x1 1 := cmpf .olt (k0_pay4 v0) v20
  have v22 : IVec S128x1 32 := select v21 v15 v17
  have v23 : IVec S128x1 32 := broadcast S128x1 32#32
  have v24 : IVec S128x1 32 := addi v22 v23
  have v25 : IVec S128x1 32 := broadcast S128x1 23#32
  have v26 : IVec S128x1 32 := shli v24 v25
  have v27 : FVec F S128x1 .f32 := bitcastToFloat .f32 v26
  have v28 : IVec S128x1 1 := cmpf .olt (k0_pay4 v0) v27
  have v29 : IVec S128x1 32 := select v28 v22 v24
  have v30 : IVec S128x1 32 := broadcast S128x1 16#32
  have v31 : IVec S128x1 32 := addi v29 v30
  have v32 : IVec S128x1 32 := broadcast S128x1 23#32
  have v33 : IVec S128x1 32 := shli v31 v32
  have v34 : FVec F S128x1 .f32 := bitcastToFloat .f32 v33
  have v35 : IVec S128x1 1 := cmpf .olt (k0_pay4 v0) v34
  have v36 : IVec S128x1 32 := select v35 v29 v31
  have v37 : IVec S128x1 32 := broadcast S128x1 8#32
  have v38 : IVec S128x1 32 := addi v36 v37
  have v39 : IVec S128x1 32 := broadcast S128x1 23#32
  have v40 : IVec S128x1 32 := shli v38 v39
  have v41 : FVec F S128x1 .f32 := bitcastToFloat .f32 v40
  have v42 : IVec S128x1 1 := cmpf .olt (k0_pay4 v0) v41
  have v43 : IVec S128x1 32 := select v42 v36 v38
  v43

/-- `%77 = arith.select %73, %76, %75 : vector<128x1xi1>, vector<128x1xi32>` of `k0_part2`, from the
   values read before it. Read by `k0_pay7`, `k0_pay8`. -/
noncomputable def k0_pay6 (v7 : FVec F S128x1 .f32) (v43 : IVec S128x1 32) : IVec S128x1 32 :=
  have v44 : IVec S128x1 32 := broadcast S128x1 4#32
  have v45 : IVec S128x1 32 := addi v43 v44
  have v46 : IVec S128x1 32 := broadcast S128x1 23#32
  have v47 : IVec S128x1 32 := shli v45 v46
  have v48 : FVec F S128x1 .f32 := bitcastToFloat .f32 v47
  have v49 : IVec S128x1 1 := cmpf .olt v7 v48
  have v50 : IVec S128x1 32 := select v49 v43 v45
  have v51 : IVec S128x1 32 := broadcast S128x1 2#32
  have v52 : IVec S128x1 32 := addi v50 v51
  have v53 : IVec S128x1 32 := broadcast S128x1 23#32
  have v54 : IVec S128x1 32 := shli v52 v53
  have v55 : FVec F S128x1 .f32 := bitcastToFloat .f32 v54
  have v56 : IVec S128x1 1 := cmpf .olt v7 v55
  have v57 : IVec S128x1 32 := select v56 v50 v52
  have v58 : IVec S128x1 32 := broadcast S128x1 1#32
  have v59 : IVec S128x1 32 := addi v57 v58
  have v60 : IVec S128x1 32 := broadcast S128x1 23#32
  have v61 : IVec S128x1 32 := shli v59 v60
  have v62 : FVec F S128x1 .f32 := bitcastToFloat .f32 v61
  have v63 : IVec S128x1 1 := cmpf .olt v7 v62
  have v64 : IVec S128x1 32 := select v63 v57 v59
  have v65 : IVec S128x1 32 := broadcast S128x1 23#32
  have v66 : IVec S128x1 32 := shli v64 v65
  have v67 : IVec S128x1 32 := broadcast S128x1 23#32
  have v68 : IVec S128x1 32 := shrsi v66 v67
  have v69 : IVec S128x1 32 := broadcast S128x1 0#32
  have v70 : IVec S128x1 1 := cmpi .eq v68 v69
  have v71 : IVec S128x1 32 := broadcast S128x1 255#32
  have v72 : IVec S128x1 1 := cmpi .eq v68 v71
  have v73 : IVec S128x1 1 := ori v70 v72
  have v74 : IVec S128x1 32 := broadcast S128x1 126#32
  have v75 : IVec S128x1 32 := subi v68 v74
  have v76 : IVec S128x1 32 := broadcast S128x1 0#32
  have v77 : IVec S128x1 32 := select v73 v76 v75
  v77

/-- `%82 = tpu.bitcast %81 : vector<128x1xi32> -> vector<128x1xf32>` of `k0_part2`, from the values
   read before it. Read by the loop's rebinding, condition or exit. -/
noncomputable def k0_pay7 (v7 : FVec F S128x1 .f32) (v43 : IVec S128x1 32) : FVec F S128x1 .f32 :=
  have v78 : IVec S128x1 32 := broadcast S128x1 127#32
  have v79 : IVec S128x1 32 := addi (k0_pay6 v7 v43) v78
  have v80 : IVec S128x1 32 := broadcast S128x1 23#32
  have v81 : IVec S128x1 32 := shli v79 v80
  have v82 : FVec F S128x1 .f32 := bitcastToFloat .f32 v81
  v82

/-- `%87 = tpu.bitcast %86 : vector<128x1xi32> -> vector<128x1xf32>` of `k0_part2`, from the values
   read before it. Read by the loop's rebinding, condition or exit. -/
noncomputable def k0_pay8 (v7 : FVec F S128x1 .f32) (v43 : IVec S128x1 32) : FVec F S128x1 .f32 :=
  have v83 : IVec S128x1 32 := broadcast S128x1 127#32
  have v84 : IVec S128x1 32 := subi v83 (k0_pay6 v7 v43)
  have v85 : IVec S128x1 32 := broadcast S128x1 23#32
  have v86 : IVec S128x1 32 := shli v84 v85
  have v87 : FVec F S128x1 .f32 := bitcastToFloat .f32 v86
  v87

/-- `%94 = arith.truncf %93 : vector<128x5120xf32> to vector<128x5120xf8E5M2>` of `k0_part3`, from
   the values read before it. Read by `tpu.vector_store %arg3[%c0_18, %c0_19], %94`, the loop's
   rebinding, condition or exit. -/
noncomputable def k0_pay9 (v2 : FVec F S128x5120 .f32) (v87 : FVec F S128x1 .f32) : FVec F S128x5120 .fp8e5m2 :=
  have v88 : FVec F S128x5120 .f32 := broadcastTo S128x5120 v87 broadcasts_S128x1_S128x5120
  have v89 : FVec F S128x5120 .f32 := mulf v2 v88
  have cst_16 : F .f32 := Scalar.ofBits .f32 0xC7600000#32
  have cst_17 : F .f32 := Scalar.ofBits .f32 0x47600000#32
  have v90 : FVec F S128x5120 .f32 := broadcast S128x5120 cst_16
  have v91 : FVec F S128x5120 .f32 := maximumf v90 v89
  have v92 : FVec F S128x5120 .f32 := broadcast S128x5120 cst_17
  have v93 : FVec F S128x5120 .f32 := minimumf v92 v91
  have v94 : FVec F S128x5120 .fp8e5m2 := truncf .fp8e5m2 v93 bitsLt_fp8e5m2_f32
  v94

/-- `%99 = arith.extf %98 : vector<1x5120xbf16> to vector<1x5120xf32>` of `k0_part3`, from the
   values read before it. Read by the loop's rebinding, condition or exit; `k0_pay11`. -/
noncomputable def k0_pay10 (v96 : Vec F S1x5120 .f32) : FVec F S1x5120 .f32 :=
  have v97 : FVec F S1x5120 .f32 := shapeCast S1x5120 v96 shapeCasts_S1x5120_S1x5120
  have v98 : FVec F S1x5120 .bf16 := truncf .bf16 v97 bitsLt_bf16_f32
  have v99 : FVec F S1x5120 .f32 := extf .f32 v98 bitsLt_bf16_f32
  v99

/-- `%102 = vector.shape_cast %101 : vector<1xf32> to vector<1x1xf32>` of `k0_part3`, from the
   values read before it. Read by the loop's rebinding, condition or exit; `k0_pay12`, `k0_pay14`. -/
noncomputable def k0_pay11 (v96 : Vec F S1x5120 .f32) : FVec F S1x1 .f32 :=
  have v100 : FVec F S1x5120 .f32 := absf (k0_pay10 v96)
  have v101 : FVec F S1 .f32 := multiReduction .maximumf [1] S1 v100 0xFF800000#32 reduces_S1x5120_S1 (.inl rfl) rfl
  have v102 : FVec F S1x1 .f32 := shapeCast S1x1 v101 shapeCasts_S1_S1x1
  v102

/-- `%124 = arith.select %123, %117, %119 : vector<1x1xi1>, vector<1x1xi32>` of `k0_part3`, from the
   values read before it. Read by the loop's rebinding, condition or exit; `k0_pay13`. -/
noncomputable def k0_pay12 (v96 : Vec F S1x5120 .f32) : IVec S1x1 32 :=
  have v103 : IVec S1x1 32 := broadcast S1x1 0#32
  have v104 : IVec S1x1 32 := broadcast S1x1 128#32
  have v105 : IVec S1x1 32 := addi v103 v104
  have v106 : IVec S1x1 32 := broadcast S1x1 23#32
  have v107 : IVec S1x1 32 := shli v105 v106
  have v108 : FVec F S1x1 .f32 := bitcastToFloat .f32 v107
  have v109 : IVec S1x1 1 := cmpf .olt (k0_pay11 v96) v108
  have v110 : IVec S1x1 32 := select v109 v103 v105
  have v111 : IVec S1x1 32 := broadcast S1x1 64#32
  have v112 : IVec S1x1 32 := addi v110 v111
  have v113 : IVec S1x1 32 := broadcast S1x1 23#32
  have v114 : IVec S1x1 32 := shli v112 v113
  have v115 : FVec F S1x1 .f32 := bitcastToFloat .f32 v114
  have v116 : IVec S1x1 1 := cmpf .olt (k0_pay11 v96) v115
  have v117 : IVec S1x1 32 := select v116 v110 v112
  have v118 : IVec S1x1 32 := broadcast S1x1 32#32
  have v119 : IVec S1x1 32 := addi v117 v118
  have v120 : IVec S1x1 32 := broadcast S1x1 23#32
  have v121 : IVec S1x1 32 := shli v119 v120
  have v122 : FVec F S1x1 .f32 := bitcastToFloat .f32 v121
  have v123 : IVec S1x1 1 := cmpf .olt (k0_pay11 v96) v122
  have v124 : IVec S1x1 32 := select v123 v117 v119
  v124

/-- `%126 = arith.addi %124, %125 : vector<1x1xi32>` of `k0_part3`, from the values read before it.
   Read by the loop's rebinding, condition or exit; `k0_pay14`. -/
noncomputable def k0_pay13 (v96 : Vec F S1x5120 .f32) : IVec S1x1 32 :=
  have v125 : IVec S1x1 32 := broadcast S1x1 16#32
  have v126 : IVec S1x1 32 := addi (k0_pay12 v96) v125
  v126

/-- `%130 = arith.cmpf olt, %102, %129 : vector<1x1xf32>` of `k0_part3`, from the values read before
   it. Read by the loop's rebinding, condition or exit. -/
noncomputable def k0_pay14 (v96 : Vec F S1x5120 .f32) : IVec S1x1 1 :=
  have v127 : IVec S1x1 32 := broadcast S1x1 23#32
  have v128 : IVec S1x1 32 := shli (k0_pay13 v96) v127
  have v129 : FVec F S1x1 .f32 := bitcastToFloat .f32 v128
  have v130 : IVec S1x1 1 := cmpf .olt (k0_pay11 v96) v129
  v130

/-- `%170 = arith.mulf %99, %169 : vector<1x5120xf32>` of `k0_part4`, from the values read before
   it. Read by the loop's rebinding, condition or exit; `k0_pay16`. -/
noncomputable def k0_pay15 (v99 : FVec F S1x5120 .f32) (v102 : FVec F S1x1 .f32) (v124 : IVec S1x1 32) (v126 : IVec S1x1 32) (v130 : IVec S1x1 1) : FVec F S1x5120 .f32 :=
  have v131 : IVec S1x1 32 := select v130 v124 v126
  have v132 : IVec S1x1 32 := broadcast S1x1 8#32
  have v133 : IVec S1x1 32 := addi v131 v132
  have v134 : IVec S1x1 32 := broadcast S1x1 23#32
  have v135 : IVec S1x1 32 := shli v133 v134
  have v136 : FVec F S1x1 .f32 := bitcastToFloat .f32 v135
  have v137 : IVec S1x1 1 := cmpf .olt v102 v136
  have v138 : IVec S1x1 32 := select v137 v131 v133
  have v139 : IVec S1x1 32 := broadcast S1x1 4#32
  have v140 : IVec S1x1 32 := addi v138 v139
  have v141 : IVec S1x1 32 := broadcast S1x1 23#32
  have v142 : IVec S1x1 32 := shli v140 v141
  have v143 : FVec F S1x1 .f32 := bitcastToFloat .f32 v142
  have v144 : IVec S1x1 1 := cmpf .olt v102 v143
  have v145 : IVec S1x1 32 := select v144 v138 v140
  have v146 : IVec S1x1 32 := broadcast S1x1 2#32
  have v147 : IVec S1x1 32 := addi v145 v146
  have v148 : IVec S1x1 32 := broadcast S1x1 23#32
  have v149 : IVec S1x1 32 := shli v147 v148
  have v150 : FVec F S1x1 .f32 := bitcastToFloat .f32 v149
  have v151 : IVec S1x1 1 := cmpf .olt v102 v150
  have v152 : IVec S1x1 32 := select v151 v145 v147
  have v153 : IVec S1x1 32 := broadcast S1x1 1#32
  have v154 : IVec S1x1 32 := addi v152 v153
  have v155 : IVec S1x1 32 := broadcast S1x1 23#32
  have v156 : IVec S1x1 32 := shli v154 v155
  have v157 : FVec F S1x1 .f32 := bitcastToFloat .f32 v156
  have v158 : IVec S1x1 1 := cmpf .olt v102 v157
  have v159 : IVec S1x1 32 := select v158 v152 v154
  have v160 : IVec S1x1 32 := broadcast S1x1 23#32
  have v161 : IVec S1x1 32 := shli v159 v160
  have v162 : IVec S1x1 32 := broadcast S1x1 8388608#32
  have v163 : IVec S1x1 32 := maxsi v162 v161
  have v164 : IVec S1x1 32 := broadcast S1x1 2113929216#32
  have v165 : IVec S1x1 32 := minsi v164 v163
  have v166 : IVec S1x1 32 := broadcast S1x1 2130706432#32
  have v167 : IVec S1x1 32 := subi v166 v165
  have v168 : FVec F S1x1 .f32 := bitcastToFloat .f32 v167
  have v169 : FVec F S1x5120 .f32 := broadcastTo S1x5120 v168 broadcasts_S1x1_S1x5120
  have v170 : FVec F S1x5120 .f32 := mulf v99 v169
  v170

/-- `%173 = arith.mulf %171, %172 : vector<128x5120xf32>` of `k0_part4`, from the values read before
   it. Read by the loop's rebinding, condition or exit; `k0_pay17`. -/
noncomputable def k0_pay16 (v94 : FVec F S128x5120 .fp8e5m2) (v99 : FVec F S1x5120 .f32) (v102 : FVec F S1x1 .f32) (v124 : IVec S1x1 32) (v126 : IVec S1x1 32) (v130 : IVec S1x1 1) : FVec F S128x5120 .f32 :=
  have v171 : FVec F S128x5120 .f32 := extf .f32 v94 bitsLt_fp8e5m2_f32
  have v172 : FVec F S128x5120 .f32 := broadcastTo S128x5120 (k0_pay15 v99 v102 v124 v126 v130) broadcasts_S1x5120_S128x5120
  have v173 : FVec F S128x5120 .f32 := mulf v171 v172
  v173

/-- `%174 = arith.truncf %173 : vector<128x5120xf32> to vector<128x5120xf8E5M2>` of `k0_part4`, from
   the values read before it. Read by `tpu.vector_store %arg4[%c0_41, %c0_42], %174`, the loop's
   rebinding, condition or exit. -/
noncomputable def k0_pay17 (v94 : FVec F S128x5120 .fp8e5m2) (v99 : FVec F S1x5120 .f32) (v102 : FVec F S1x1 .f32) (v124 : IVec S1x1 32) (v126 : IVec S1x1 32) (v130 : IVec S1x1 1) : FVec F S128x5120 .fp8e5m2 :=
  have v174 : FVec F S128x5120 .fp8e5m2 := truncf .fp8e5m2 (k0_pay16 v94 v99 v102 v124 v126 v130) bitsLt_fp8e5m2_f32
  v174

/-- `cc0_quantise` as a skeleton of memory operations over payloads. -/
noncomputable def cc0_quantise_skel (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e5m2) (harg3 : arg3.IsWhole) (arg4 : Memref sig .tc .vmem S128x5120 .fp8e5m2) (harg4 : arg4.IsWhole) (arg5 : Memref sig .tc .vmem S1x1x128 .f32) (harg5 : arg5.IsWhole) (arg6 : Memref sig .tc .vmem S1x1x128 .i32) (harg6 : arg6.IsWhole) :
    Prog (TpuEff nD τ sig (Elt F) Λ₀ .tc) PUnit := do
  let ⟨v2, v7, v43⟩ : Σ' (v2 : FVec F S128x5120 .f32) (v7 : FVec F S128x1 .f32), IVec S128x1 32 ← k0_part1 i arg1 harg1 arg2 harg2 arg3 harg3 arg4 harg4 arg5 harg5 arg6 harg6
  let ⟨v82, v87⟩ : Σ' (v82 : FVec F S128x1 .f32), FVec F S128x1 .f32 ← k0_part2 i arg1 harg1 arg2 harg2 arg3 harg3 arg4 harg4 arg5 harg5 arg6 harg6 v7 v43
  let ⟨v94, v99, v102, v124, v126, v130⟩ : Σ' (v94 : FVec F S128x5120 .fp8e5m2) (v99 : FVec F S1x5120 .f32) (v102 : FVec F S1x1 .f32) (v124 : IVec S1x1 32) (v126 : IVec S1x1 32), IVec S1x1 1 ← k0_part3 i arg1 harg1 arg2 harg2 arg3 harg3 arg4 harg4 arg5 harg5 arg6 harg6 v2 v87
  let ⟨v170, v173, v174⟩ : Σ' (v170 : FVec F S1x5120 .f32) (v173 : FVec F S128x5120 .f32), FVec F S128x5120 .fp8e5m2 ← k0_part4 i arg1 harg1 arg2 harg2 arg3 harg3 arg4 harg4 arg5 harg5 arg6 harg6 v94 v99 v102 v124 v126 v130
  -- %cst_49 = arith.constant dense<-2147483648> : vector<128xi32>  — not in the skeleton
  -- %cst_50 = arith.constant dense<-2147483648> : vector<1xi32>  — not in the skeleton
  let v200 : Vec F S1x1x128 .f32 ← Prog.lift (.load arg5 (Rect.unit (s := S1x1x128) ![0, 0, 0] S1x1x128.size inb_S1x1x128_S1x1x128_0_0_0).toLoadRect (View.loadsAt_vmem h_S1x1x128))
  -- %201 = vector.shape_cast %200 : vector<1x1x128xf32> to vector<1x128xf32>  @ test_k:55  — not in the skeleton
  Prog.lift (.store arg5 (Rect.unit (s := S1x1x128) ![0, 0, 0] S1x1x128.size inb_S1x1x128_S1x1x128_0_0_0) (k0_pay1 v82) Finset.univ (View.stores_vmem_bits_univ h_S1x1x128 rfl) (.inl rfl))
  let v207 : Vec F S1x1x128 .i32 ← Prog.lift (.load arg6 (Rect.unit (s := S1x1x128) ![0, 0, 0] S1x1x128.size inb_S1x1x128_S1x1x128_0_0_0).toLoadRect (View.loadsAt_vmem h_S1x1x128))
  -- %208 = vector.shape_cast %207 : vector<1x1x128xi32> to vector<1x128xi32>  @ test_k:56  — not in the skeleton
  Prog.lift (.store arg6 (Rect.unit (s := S1x1x128) ![0, 0, 0] S1x1x128.size inb_S1x1x128_S1x1x128_0_0_0) (k0_pay2 v99 v170 v173 v174) Finset.univ (View.stores_vmem_bits_univ h_S1x1x128 rfl) (.inl rfl))
  pure ⟨⟩

set_option maxRecDepth 65536 in
/-- The printed `cc0_quantise` is its skeleton: by definitional unfolding. -/
theorem cc0_quantise_eq_skeleton : cc0_quantise (F := F) = cc0_quantise_skel (F := F) := rfl

/-- `k0_part1` as a skeleton of memory operations over payloads. -/
noncomputable def k0_part1_skel (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e5m2) (harg3 : arg3.IsWhole) (arg4 : Memref sig .tc .vmem S128x5120 .fp8e5m2) (harg4 : arg4.IsWhole) (arg5 : Memref sig .tc .vmem S1x1x128 .f32) (harg5 : arg5.IsWhole) (arg6 : Memref sig .tc .vmem S1x1x128 .i32) (harg6 : arg6.IsWhole) :
    Prog (TpuEff nD τ sig (Elt F) Λ₀ .tc) (Σ' (v2 : FVec F S128x5120 .f32) (v7 : FVec F S128x1 .f32), IVec S128x1 32) := do
  -- %arg0: i32, grid coordinate 0  — not in the skeleton
  let v0 : Vec F S128x5120 .bf16 ← Prog.lift (.load arg1 (Rect.unit (s := S128x5120) ![0, 0] S128x5120.size inb_S128x5120_S128x5120_0_0).toLoadRect (View.loadsAt_vmem h_S128x5120))
  -- %cst = arith.constant dense<0xFF800000> : vector<128xf32>  — not in the skeleton
  pure ⟨k0_pay3 v0, k0_pay4 v0, k0_pay5 v0⟩

set_option maxRecDepth 65536 in
/-- The printed `k0_part1` is its skeleton: by definitional unfolding. -/
theorem k0_part1_eq_skeleton : k0_part1 (F := F) = k0_part1_skel (F := F) := rfl

/-- `k0_part2` as a skeleton of memory operations over payloads. -/
noncomputable def k0_part2_skel (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e5m2) (harg3 : arg3.IsWhole) (arg4 : Memref sig .tc .vmem S128x5120 .fp8e5m2) (harg4 : arg4.IsWhole) (arg5 : Memref sig .tc .vmem S1x1x128 .f32) (harg5 : arg5.IsWhole) (arg6 : Memref sig .tc .vmem S1x1x128 .i32) (harg6 : arg6.IsWhole) (v7 : FVec F S128x1 .f32) (v43 : IVec S128x1 32) :
    Prog (TpuEff nD τ sig (Elt F) Λ₀ .tc) (Σ' (v82 : FVec F S128x1 .f32), FVec F S128x1 .f32) := do
  pure ⟨k0_pay7 v7 v43, k0_pay8 v7 v43⟩

set_option maxRecDepth 65536 in
/-- The printed `k0_part2` is its skeleton: by definitional unfolding. -/
theorem k0_part2_eq_skeleton : k0_part2 (F := F) = k0_part2_skel (F := F) := rfl

/-- `k0_part3` as a skeleton of memory operations over payloads. -/
noncomputable def k0_part3_skel (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e5m2) (harg3 : arg3.IsWhole) (arg4 : Memref sig .tc .vmem S128x5120 .fp8e5m2) (harg4 : arg4.IsWhole) (arg5 : Memref sig .tc .vmem S1x1x128 .f32) (harg5 : arg5.IsWhole) (arg6 : Memref sig .tc .vmem S1x1x128 .i32) (harg6 : arg6.IsWhole) (v2 : FVec F S128x5120 .f32) (v87 : FVec F S128x1 .f32) :
    Prog (TpuEff nD τ sig (Elt F) Λ₀ .tc) (Σ' (v94 : FVec F S128x5120 .fp8e5m2) (v99 : FVec F S1x5120 .f32) (v102 : FVec F S1x1 .f32) (v124 : IVec S1x1 32) (v126 : IVec S1x1 32), IVec S1x1 1) := do
  let v95 : Vec F S128x5120 .fp8e5m2 ← Prog.lift (.load arg3 (Rect.unit (s := S128x5120) ![0, 0] S128x5120.size inb_S128x5120_S128x5120_0_0).toLoadRect (View.loadsAt_vmem h_S128x5120))
  Prog.lift (.store arg3 (Rect.unit (s := S128x5120) ![0, 0] S128x5120.size inb_S128x5120_S128x5120_0_0) (k0_pay9 v2 v87) Finset.univ (View.stores_vmem h_S128x5120 (harg3.storeExact_slice rfl _ packedfp8e5m2_S128x5120_S128x5120_0_0) (fun _ => rfl)) (.inl rfl))
  let v96 : Vec F S1x5120 .f32 ← Prog.lift (.load arg2 (Rect.unit (s := S1x5120) ![0, 0] S1x5120.size inb_S1x5120_S1x5120_0_0).toLoadRect (View.loadsAt_vmem h_S1x5120))
  -- %cst_22 = arith.constant dense<0xFF800000> : vector<1xf32>  — not in the skeleton
  pure ⟨k0_pay9 v2 v87, k0_pay10 v96, k0_pay11 v96, k0_pay12 v96, k0_pay13 v96, k0_pay14 v96⟩

set_option maxRecDepth 65536 in
/-- The printed `k0_part3` is its skeleton: by definitional unfolding. -/
theorem k0_part3_eq_skeleton : k0_part3 (F := F) = k0_part3_skel (F := F) := rfl

/-- `k0_part4` as a skeleton of memory operations over payloads. -/
noncomputable def k0_part4_skel (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e5m2) (harg3 : arg3.IsWhole) (arg4 : Memref sig .tc .vmem S128x5120 .fp8e5m2) (harg4 : arg4.IsWhole) (arg5 : Memref sig .tc .vmem S1x1x128 .f32) (harg5 : arg5.IsWhole) (arg6 : Memref sig .tc .vmem S1x1x128 .i32) (harg6 : arg6.IsWhole) (v94 : FVec F S128x5120 .fp8e5m2) (v99 : FVec F S1x5120 .f32) (v102 : FVec F S1x1 .f32) (v124 : IVec S1x1 32) (v126 : IVec S1x1 32) (v130 : IVec S1x1 1) :
    Prog (TpuEff nD τ sig (Elt F) Λ₀ .tc) (Σ' (v170 : FVec F S1x5120 .f32) (v173 : FVec F S128x5120 .f32), FVec F S128x5120 .fp8e5m2) := do
  let v175 : Vec F S128x5120 .fp8e5m2 ← Prog.lift (.load arg4 (Rect.unit (s := S128x5120) ![0, 0] S128x5120.size inb_S128x5120_S128x5120_0_0).toLoadRect (View.loadsAt_vmem h_S128x5120))
  Prog.lift (.store arg4 (Rect.unit (s := S128x5120) ![0, 0] S128x5120.size inb_S128x5120_S128x5120_0_0) (k0_pay17 v94 v99 v102 v124 v126 v130) Finset.univ (View.stores_vmem h_S128x5120 (harg4.storeExact_slice rfl _ packedfp8e5m2_S128x5120_S128x5120_0_0) (fun _ => rfl)) (.inl rfl))
  pure ⟨k0_pay15 v99 v102 v124 v126 v130, k0_pay16 v94 v99 v102 v124 v126 v130, k0_pay17 v94 v99 v102 v124 v126 v130⟩

set_option maxRecDepth 65536 in
/-- The printed `k0_part4` is its skeleton: by definitional unfolding. -/
theorem k0_part4_eq_skeleton : k0_part4 (F := F) = k0_part4_skel (F := F) := rfl

end Cert.Kernel.Own
end
-- ==== Proof.KernelQuantRun.lean ====
/- The quantise call as one pipeline: what it leaves in its outputs, and its body's triple. -/
module

public import proofs.«01_k».proof.Proof.Gen.Kernel.Launch
public import proofs.«01_k».proof.Proof.Gen.Kernel.Points
public import proofs.«01_k».proof.Proof.KernelQuant
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option synthInstance.maxSize 4096
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)
variable (V : (c : Dev nD) → (b : Ref sig .tc) → Buf (Elt F) ((c : Thread nD τ).loc b))
/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x5120 := Rect.unit (s := S128x5120) ![0, 0] S128x5120.size inb_S128x5120_S128x5120_0_0
abbrev r0_1 : Rect S1x5120 := Rect.unit (s := S1x5120) ![0, 0] S1x5120.size inb_S1x5120_S1x5120_0_0
abbrev r0_2 : Rect S1x1x128 := Rect.unit (s := S1x1x128) ![0, 0, 0] S1x1x128.size inb_S1x1x128_S1x1x128_0_0_0

/-! ## What the body leaves in each output window's buffer -/

/-! ### Values of the body that the stores' payloads, spelt out, would write more than once

    Each is a vector the body binds (often a part call's result), stated over the input windows' blocks and
    numbered on from the skeleton's payload functions (`k0_pay18` …, after `k0_pay17`), so that
    `out0_W` and the values after it name it instead of spelling it out (`unfold_out out0_W` opens a canon
    with them, `unfold_payloads` opens them with the payloads); the comment after each is the printed function's
    name for the value (a count appended where that name is bound again). -/

def k0_pay18 (x0 : Vec F S128x5120 .bf16) (x1 : Vec F S1x5120 .f32) : FVec F S128x5120 .f32 :=
  k0_pay3 (View.ld x0 r0_0)
def k0_pay19 (x0 : Vec F S128x5120 .bf16) (x1 : Vec F S1x5120 .f32) : FVec F S128x1 .f32 :=
  k0_pay4 (View.ld x0 r0_0)
def k0_pay20 (x0 : Vec F S128x5120 .bf16) (x1 : Vec F S1x5120 .f32) : IVec S128x1 32 :=
  k0_pay5 (View.ld x0 r0_0)
def k0_pay21 (x0 : Vec F S128x5120 .bf16) (x1 : Vec F S1x5120 .f32) : FVec F S128x1 .f32 :=
  k0_pay8 (k0_pay19 x0 x1) (k0_pay20 x0 x1)
def k0_pay22 (x0 : Vec F S128x5120 .bf16) (x1 : Vec F S1x5120 .f32) : FVec F S128x5120 .fp8e5m2 :=
  k0_pay9 (k0_pay18 x0 x1) (k0_pay21 x0 x1)
def k0_pay23 (x0 : Vec F S128x5120 .bf16) (x1 : Vec F S1x5120 .f32) : FVec F S1x5120 .f32 :=
  k0_pay10 (View.ld x1 r0_1)
def k0_pay24 (x0 : Vec F S128x5120 .bf16) (x1 : Vec F S1x5120 .f32) : FVec F S1x1 .f32 :=
  k0_pay11 (View.ld x1 r0_1)
def k0_pay25 (x0 : Vec F S128x5120 .bf16) (x1 : Vec F S1x5120 .f32) : IVec S1x1 32 :=
  k0_pay12 (View.ld x1 r0_1)
def k0_pay26 (x0 : Vec F S128x5120 .bf16) (x1 : Vec F S1x5120 .f32) : IVec S1x1 32 :=
  k0_pay13 (View.ld x1 r0_1)
def k0_pay27 (x0 : Vec F S128x5120 .bf16) (x1 : Vec F S1x5120 .f32) : IVec S1x1 1 :=
  k0_pay14 (View.ld x1 r0_1)

/-- Window 2's staging buffer after the body, from the input windows' blocks: its 1 store as pieces, LAST
    FIRST (Lib/Pipeline/FrameBody.lean `View.canon`; the payloads are the skeleton's and the values stated above). -/
def out0_2 (x0 : Vec F S128x5120 .bf16) (x1 : Vec F S1x5120 .f32) : Vec F S128x5120 .fp8e5m2 :=
  View.canon [⟨r0_0, k0_pay9 (k0_pay18 x0 x1) (k0_pay21 x0 x1)⟩]

/-- Its stores tile the buffer (checked by evaluation), so they cover it. -/
theorem cover0_2 (p0 : Vec F S128x5120 .fp8e5m2) (y : S128x5120.Idx) :
    ∃ pc ∈ ([⟨r0_0, p0⟩] : List (View.Piece (Elt F) S128x5120 .fp8e5m2)), y ∈ pc.1.set :=
  View.cover_of_tiled [⟨r0_0, p0⟩] S128x5120.size (by rfl) y

/-- Window 3's staging buffer after the body, from the input windows' blocks: its 1 store as pieces, LAST
    FIRST (Lib/Pipeline/FrameBody.lean `View.canon`; the payloads are the skeleton's and the values stated above). -/
def out0_3 (x0 : Vec F S128x5120 .bf16) (x1 : Vec F S1x5120 .f32) : Vec F S128x5120 .fp8e5m2 :=
  View.canon [⟨r0_0, k0_pay17 (k0_pay22 x0 x1) (k0_pay23 x0 x1) (k0_pay24 x0 x1) (k0_pay25 x0 x1) (k0_pay26 x0 x1) (k0_pay27 x0 x1)⟩]

/-- Its stores tile the buffer (checked by evaluation), so they cover it. -/
theorem cover0_3 (p0 : Vec F S128x5120 .fp8e5m2) (y : S128x5120.Idx) :
    ∃ pc ∈ ([⟨r0_0, p0⟩] : List (View.Piece (Elt F) S128x5120 .fp8e5m2)), y ∈ pc.1.set :=
  View.cover_of_tiled [⟨r0_0, p0⟩] S128x5120.size (by rfl) y

/-- Window 4's staging buffer after the body, from the input windows' blocks: its 1 store as pieces, LAST
    FIRST (Lib/Pipeline/FrameBody.lean `View.canon`; the payloads are the skeleton's and the values stated above). -/
def out0_4 (x0 : Vec F S128x5120 .bf16) (x1 : Vec F S1x5120 .f32) : Vec F S1x1x128 .f32 :=
  View.canon [⟨r0_2, k0_pay1 (k0_pay7 (k0_pay19 x0 x1) (k0_pay20 x0 x1))⟩]

/-- Its stores tile the buffer (checked by evaluation), so they cover it. -/
theorem cover0_4 (p0 : Vec F S1x1x128 .f32) (y : S1x1x128.Idx) :
    ∃ pc ∈ ([⟨r0_2, p0⟩] : List (View.Piece (Elt F) S1x1x128 .f32)), y ∈ pc.1.set :=
  View.cover_of_tiled [⟨r0_2, p0⟩] S1x1x128.size (by rfl) y

/-- Window 5's staging buffer after the body, from the input windows' blocks: its 1 store as pieces, LAST
    FIRST (Lib/Pipeline/FrameBody.lean `View.canon`; the payloads are the skeleton's and the values stated above). -/
def out0_5 (x0 : Vec F S128x5120 .bf16) (x1 : Vec F S1x5120 .f32) : Vec F S1x1x128 .i32 :=
  View.canon [⟨r0_2, k0_pay2 (k0_pay23 x0 x1) (k0_pay15 (k0_pay23 x0 x1) (k0_pay24 x0 x1) (k0_pay25 x0 x1) (k0_pay26 x0 x1) (k0_pay27 x0 x1)) (k0_pay16 (k0_pay22 x0 x1) (k0_pay23 x0 x1) (k0_pay24 x0 x1) (k0_pay25 x0 x1) (k0_pay26 x0 x1) (k0_pay27 x0 x1)) (k0_pay17 (k0_pay22 x0 x1) (k0_pay23 x0 x1) (k0_pay24 x0 x1) (k0_pay25 x0 x1) (k0_pay26 x0 x1) (k0_pay27 x0 x1))⟩]

/-- Its stores tile the buffer (checked by evaluation), so they cover it. -/
theorem cover0_5 (p0 : Vec F S1x1x128 .i32) (y : S1x1x128.Idx) :
    ∃ pc ∈ ([⟨r0_2, p0⟩] : List (View.Piece (Elt F) S1x1x128 .i32)), y ∈ pc.1.set :=
  View.cover_of_tiled [⟨r0_2, p0⟩] S1x1x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e5m2) (harg3 : arg3.IsWhole) (arg4 : Memref sig .tc .vmem S128x5120 .fp8e5m2) (harg4 : arg4.IsWhole) (arg5 : Memref sig .tc .vmem S1x1x128 .f32) (harg5 : arg5.IsWhole) (arg6 : Memref sig .tc .vmem S1x1x128 .i32) (harg6 : arg6.IsWhole)
    (x0 : Vec F S128x5120 .bf16) (x1 : Vec F S1x5120 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1) ∗ owns (c : Thread nD τ) arg6 fullShare (out0_5 x0 x1)) -∗ K ⟨⟩))
      ⊢ wp frame (wpE (defs₀ (F := F)) Variants.none c none) E (cc0_quantise i arg1 harg1 arg2 harg2 arg3 harg3 arg4 harg4 arg5 harg5 arg6 harg6) K := by
  simp only [cc0_quantise_eq_skeleton]; unfold cc0_quantise_skel
  simp only [k0_part1_eq_skeleton, k0_part2_eq_skeleton, k0_part3_eq_skeleton, k0_part4_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  iexists _; isplitr
  swap; · iexact H5
  ipureintro
  refine (View.read_writes_eq_canon _ _ _ (cover0_5 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Own
end
-- ==== Proof.Wht.lean ====
/- The body of the main call, written as the loops it unrolls: the product branch, and
   per 128-row plane three stages of 8-way butterflies. -/
module

public import Idealize.ShloMosaic.Lib.Pipeline
public import Idealize.ShloMosaic.Lib.Scf
public import Idealize.ShloMosaic.Lib.Sig
public import Idealize.ShloMosaic.Lib.StableHlo
public import Idealize.ShloMosaic.PureOps

@[expose] public section

set_option maxRecDepth 16384

noncomputable section

namespace Cert.Wht

open Idealize.ShloMosaic Idealize.SL.Sem

abbrev T8 : Shape := ⟨2, ![8, 128]⟩
abbrev T1x8 : Shape := ⟨3, ![1, 8, 128]⟩
abbrev T1x1x8 : Shape := ⟨4, ![1, 1, 8, 128]⟩
abbrev TGs : Shape := ⟨2, ![1, 128]⟩
abbrev TAcc : Shape := ⟨3, ![2, 512, 128]⟩
abbrev TMid : Shape := ⟨2, ![576, 128]⟩
abbrev TY : Shape := ⟨4, ![12, 1, 512, 128]⟩

abbrev TW : Shape := ⟨2, ![512, 5120]⟩
abbrev TX : Shape := ⟨2, ![1536, 5120]⟩
abbrev TXj : Shape := ⟨2, ![256, 5120]⟩
abbrev TS : Shape := ⟨2, ![1, 5120]⟩
abbrev TG : Shape := ⟨2, ![1, 1536]⟩
abbrev TP : Shape := ⟨2, ![512, 256]⟩
abbrev TPh : Shape := ⟨2, ![512, 128]⟩
abbrev T1Ph : Shape := ⟨3, ![1, 512, 128]⟩
abbrev T11 : Shape := ⟨2, ![1, 1]⟩
abbrev T1 : Shape := ⟨1, ![1]⟩

theorem pos_W : 0 < TW.numel := by decide
theorem pos_Xj : 0 < TXj.numel := by decide
theorem pos_S : 0 < TS.numel := by decide
theorem pos_Gs : 0 < TGs.numel := by decide
theorem pos_1Ph : 0 < T1Ph.numel := by decide
theorem one_1 : T1.numel = 1 := by decide
theorem sc_W : TW.ShapeCasts TW := by decide
theorem sc_Xj : TXj.ShapeCasts TXj := by decide
theorem sc_S : TS.ShapeCasts TS := by decide
theorem sc_Gs : TGs.ShapeCasts TGs := by decide
theorem sc_1_11 : T1.ShapeCasts T11 := by decide
theorem sc_Ph_1Ph : TPh.ShapeCasts T1Ph := by decide
theorem red_S : TS.Reduces [1] T1 := by decide
theorem bc_11_P : T11.Broadcasts TP := by decide
theorem bc_S_W : TS.Broadcasts TW := by decide
theorem slc_lo : TP.Slices ![0, 0] TPh := by decide
theorem slc_hi : TP.Slices ![0, 128] TPh := by decide
theorem inb_1 : ∀ a, (![0] : Fin 1 → Nat) a + T1.size a ≤ T1.size a := by decide
theorem inb_W : ∀ a, (![0, 0] : Fin 2 → Nat) a + TW.size a ≤ TW.size a := by decide
theorem inb_S : ∀ a, (![0, 0] : Fin 2 → Nat) a + TS.size a ≤ TS.size a := by decide
theorem inb_X (j : Nat) (hj : j < 6) : ∀ a, (![256 * j, 0] : Fin 2 → Nat) a + TXj.size a ≤ TX.size a := by
  intro a; fin_cases a <;> simp [TXj, TX] <;> omega
theorem inb_G (p : Nat) (hp : p < 12) : ∀ a, (![0, 128 * p] : Fin 2 → Nat) a + TGs.size a ≤ TG.size a := by
  intro a; fin_cases a <;> simp [TGs, TG] <;> omega
theorem inb_half (q : Nat) (hq : q < 2) : ∀ a, (![q, 0, 0] : Fin 3 → Nat) a + T1Ph.size a ≤ TAcc.size a := by
  intro a; fin_cases a <;> simp [T1Ph, TAcc] <;> omega
theorem lt_bf16 : FTy.bits .bf16 < FTy.bits .f32 := by decide
theorem lt_e4m3 : FTy.bits .fp8e4m3 < FTy.bits .bf16 := by decide
theorem lt_e5m2 : FTy.bits .fp8e5m2 < FTy.bits .bf16 := by decide
theorem dotP_wf : DotDims.WF TW TXj TP [1] [1] [0] [0] [] [] := by decide

/-- The product's dimensions: both operands contracted on their columns. -/
def dotP : DotDims TW TXj TP where
  lhsContracting := [1]
  rhsContracting := [1]
  lhsNonContracting := [0]
  rhsNonContracting := [0]
  lhsBatch := []
  rhsBatch := []
  wf := dotP_wf

theorem sc_1x8 : T1x8.ShapeCasts T8 := by decide
theorem sc_8_1x8 : T8.ShapeCasts T1x8 := by decide
theorem sc_1x1x8 : T1x1x8.ShapeCasts T8 := by decide
theorem sc_8_1x1x8 : T8.ShapeCasts T1x1x8 := by decide
theorem sc_8 : T8.ShapeCasts T8 := by decide
theorem bc_gs : TGs.Broadcasts T8 := by decide
theorem pos_8 : 0 < T8.numel := by decide
theorem pos_1x8 : 0 < T1x8.numel := by decide
theorem pos_1x1x8 : 0 < T1x1x8.numel := by decide

/-- The eight rows `64 i + 8 r …` of plane `q` of the accumulator. -/
theorem inb1 (q i r : Nat) (hq : q < 2) (hi : i < 8) (hr : r < 8) :
    ∀ a, (![q, 64 * i + 8 * r, 0] : Fin 3 → Nat) a + T1x8.size a ≤ TAcc.size a := by
  intro a; fin_cases a <;> simp [T1x8, TAcc] <;> omega

/-- The eight rows from `9 k` of the padded scratch. -/
theorem inb2 (k : Nat) (hk : k < 64) :
    ∀ a, (![9 * k, 0] : Fin 2 → Nat) a + T8.size a ≤ TMid.size a := by
  intro a; fin_cases a <;> simp [T8, TMid] <;> omega

/-- The eight rows from `o` of plane `p` of the output. -/
theorem inb3 (p o : Nat) (hp : p < 12) (ho : o < 64) :
    ∀ a, (![p, 0, 8 * o, 0] : Fin 4 → Nat) a + T1x1x8.size a ≤ TY.size a := by
  intro a; fin_cases a <;> simp [T1x1x8, TY] <;> omega

abbrev r1 (q i r : Nat) (hq : q < 2) (hi : i < 8) (hr : r < 8) : Rect TAcc :=
  Rect.unit (s := TAcc) ![q, 64 * i + 8 * r, 0] T1x8.size (inb1 q i r hq hi hr)

abbrev r2 (k : Nat) (hk : k < 64) : Rect TMid := Rect.unit (s := TMid) ![9 * k, 0] T8.size (inb2 k hk)

abbrev r3 (p o : Nat) (hp : p < 12) (ho : o < 64) : Rect TY :=
  Rect.unit (s := TY) ![p, 0, 8 * o, 0] T1x1x8.size (inb3 p o hp ho)

section
variable {F : FTy → Type} [FloatOps F] {nD : Nat} {τ : Topo} {sig : RefSig} {Λ : Labels}

/-- A program of the TensorCore without a result. -/
abbrev PU (F : FTy → Type) [FloatOps F] (nD : Nat) (τ : Topo) (sig : RefSig) (Λ : Labels) : Type 1 :=
  Prog (TpuEff nD τ sig (Elt F) Λ .tc) PUnit.{1}
/-- An 8 × 128 block. -/
abbrev V8 (F : FTy → Type) [FloatOps F] : Type := FVec F T8 .f32

/-! The eight results of one butterfly of eight, in the order of its three add/subtract rounds. -/
section
variable (x0 x1 x2 x3 x4 x5 x6 x7 : V8 F)
def b0 : V8 F := addf (addf (addf x0 x1) (addf x2 x3)) (addf (addf x4 x5) (addf x6 x7))
def b1 : V8 F := addf (addf (subf x0 x1) (subf x2 x3)) (addf (subf x4 x5) (subf x6 x7))
def b2 : V8 F := addf (subf (addf x0 x1) (addf x2 x3)) (subf (addf x4 x5) (addf x6 x7))
def b3 : V8 F := addf (subf (subf x0 x1) (subf x2 x3)) (subf (subf x4 x5) (subf x6 x7))
def b4 : V8 F := subf (addf (addf x0 x1) (addf x2 x3)) (addf (addf x4 x5) (addf x6 x7))
def b5 : V8 F := subf (addf (subf x0 x1) (subf x2 x3)) (addf (subf x4 x5) (subf x6 x7))
def b6 : V8 F := subf (subf (addf x0 x1) (addf x2 x3)) (subf (addf x4 x5) (addf x6 x7))
def b7 : V8 F := subf (subf (subf x0 x1) (subf x2 x3)) (subf (subf x4 x5) (subf x6 x7))
end

/-- Load eight accumulator rows and go on with them as a block. -/
def ld1 (m : Memref sig .tc .vmem TAcc .f32) (q i r : Nat) (hq : q < 2) (hi : i < 8) (hr : r < 8) (k : V8 F → PU F nD τ sig Λ) : PU F nD τ sig Λ :=
  .op (.load m (r1 q i r hq hi hr).toLoadRect (View.loadsAt_vmem pos_1x8)) fun v => k (shapeCast T8 v sc_1x8)

/-- Store a block to eight accumulator rows (after a load that is not used). -/
def st1 (m : Memref sig .tc .vmem TAcc .f32) (q i r : Nat) (hq : q < 2) (hi : i < 8) (hr : r < 8) (w : V8 F) (k : PUnit → PU F nD τ sig Λ) : PU F nD τ sig Λ :=
  .op (.load m (r1 q i r hq hi hr).toLoadRect (View.loadsAt_vmem pos_1x8)) fun _ =>
  .op (.store m (r1 q i r hq hi hr) (shapeCast T1x8 w sc_8_1x8) Finset.univ (View.stores_vmem_bits_univ pos_1x8 rfl) (.inl rfl)) k

/-- Stage one on the rows `8 r …` of every group of 64 rows of plane `q`, in place. -/
def g1 (m : Memref sig .tc .vmem TAcc .f32) (q r : Nat) (hq : q < 2) (hr : r < 8) : PU F nD τ sig Λ :=
  ld1 m q 0 r hq (by decide) hr fun x0 => ld1 m q 1 r hq (by decide) hr fun x1 =>
  ld1 m q 2 r hq (by decide) hr fun x2 => ld1 m q 3 r hq (by decide) hr fun x3 =>
  ld1 m q 4 r hq (by decide) hr fun x4 => ld1 m q 5 r hq (by decide) hr fun x5 =>
  ld1 m q 6 r hq (by decide) hr fun x6 => ld1 m q 7 r hq (by decide) hr fun x7 =>
  st1 m q 0 r hq (by decide) hr (b0 x0 x1 x2 x3 x4 x5 x6 x7) fun _ =>
  st1 m q 1 r hq (by decide) hr (b1 x0 x1 x2 x3 x4 x5 x6 x7) fun _ =>
  st1 m q 2 r hq (by decide) hr (b2 x0 x1 x2 x3 x4 x5 x6 x7) fun _ =>
  st1 m q 3 r hq (by decide) hr (b3 x0 x1 x2 x3 x4 x5 x6 x7) fun _ =>
  st1 m q 4 r hq (by decide) hr (b4 x0 x1 x2 x3 x4 x5 x6 x7) fun _ =>
  st1 m q 5 r hq (by decide) hr (b5 x0 x1 x2 x3 x4 x5 x6 x7) fun _ =>
  st1 m q 6 r hq (by decide) hr (b6 x0 x1 x2 x3 x4 x5 x6 x7) fun _ =>
  st1 m q 7 r hq (by decide) hr (b7 x0 x1 x2 x3 x4 x5 x6 x7) .ret

/-- The same block loaded, going on with it: from the padded scratch, rows `9 k …`. -/
def st2 (m : Memref sig .tc .vmem TMid .f32) (k : Nat) (hk : k < 64) (w : V8 F) (K : PUnit → PU F nD τ sig Λ) : PU F nD τ sig Λ :=
  .op (.load m (r2 k hk).toLoadRect (View.loadsAt_vmem pos_8)) fun _ =>
  .op (.store m (r2 k hk) (shapeCast T8 w sc_8) Finset.univ (View.stores_vmem_bits_univ pos_8 rfl) (.inl rfl)) K

/-- Stage two: the group of 64 rows `h` of plane `q`, into the padded scratch. -/
def g2 (m : Memref sig .tc .vmem TAcc .f32) (m2 : Memref sig .tc .vmem TMid .f32) (q h : Nat) (hq : q < 2) (hh : h < 8) : PU F nD τ sig Λ :=
  ld1 m q h 0 hq hh (by decide) fun x0 => ld1 m q h 1 hq hh (by decide) fun x1 =>
  ld1 m q h 2 hq hh (by decide) fun x2 => ld1 m q h 3 hq hh (by decide) fun x3 =>
  ld1 m q h 4 hq hh (by decide) fun x4 => ld1 m q h 5 hq hh (by decide) fun x5 =>
  ld1 m q h 6 hq hh (by decide) fun x6 => ld1 m q h 7 hq hh (by decide) fun x7 =>
  st2 m2 (8 * h + 0) (by omega) (b0 x0 x1 x2 x3 x4 x5 x6 x7) fun _ =>
  st2 m2 (8 * h + 1) (by omega) (b1 x0 x1 x2 x3 x4 x5 x6 x7) fun _ =>
  st2 m2 (8 * h + 2) (by omega) (b2 x0 x1 x2 x3 x4 x5 x6 x7) fun _ =>
  st2 m2 (8 * h + 3) (by omega) (b3 x0 x1 x2 x3 x4 x5 x6 x7) fun _ =>
  st2 m2 (8 * h + 4) (by omega) (b4 x0 x1 x2 x3 x4 x5 x6 x7) fun _ =>
  st2 m2 (8 * h + 5) (by omega) (b5 x0 x1 x2 x3 x4 x5 x6 x7) fun _ =>
  st2 m2 (8 * h + 6) (by omega) (b6 x0 x1 x2 x3 x4 x5 x6 x7) fun _ =>
  st2 m2 (8 * h + 7) (by omega) (b7 x0 x1 x2 x3 x4 x5 x6 x7) .ret

theorem inb4 (h i : Nat) (hh : h < 8) (hi : i < 8) :
    ∀ a, T8.size a = 0 ∨ (![72 * h + i, 0] : Fin 2 → Nat) a + (![9, 1] : Fin 2 → Nat) a * (T8.size a - 1) < TMid.size a := by
  intro a; fin_cases a <;> simp [T8, TMid] <;> omega

/-- Every ninth row of the padded scratch from row `72 h + i`: eight of them. -/
abbrev r4 (h i : Nat) (hh : h < 8) (hi : i < 8) : LoadRect TMid :=
  ⟨![72 * h + i, 0], T8.size, ![9, 1], inb4 h i hh hi⟩

/-- Load every ninth row. -/
def ld4 (m : Memref sig .tc .vmem TMid .f32) (h i : Nat) (hh : h < 8) (hi : i < 8) (k : V8 F → PU F nD τ sig Λ) : PU F nD τ sig Λ :=
  .op (.load m (r4 h i hh hi) (View.loadsAt_vmem pos_8)) fun (v : Vec F T8 .f32) => k v

/-- Scale a block by the plane's columns and store it to the output. -/
def st3 (m : Memref sig .tc .vmem TY .f32) (gs : FVec F TGs .f32) (p o : Nat) (hp : p < 12) (ho : o < 64) (w : V8 F) (K : PUnit → PU F nD τ sig Λ) : PU F nD τ sig Λ :=
  .op (.load m (r3 p o hp ho).toLoadRect (View.loadsAt_vmem pos_1x1x8)) fun _ =>
  .op (.store m (r3 p o hp ho) (shapeCast T1x1x8 (mulf w (broadcastTo T8 gs bc_gs)) sc_8_1x1x8) Finset.univ (View.stores_vmem_bits_univ pos_1x1x8 rfl) (.inl rfl)) K

/-- Stage three: the group `h`, from the padded scratch to plane `p` of the output, scaled. -/
def g3 (m2 : Memref sig .tc .vmem TMid .f32) (m3 : Memref sig .tc .vmem TY .f32) (gs : FVec F TGs .f32) (p h : Nat) (hp : p < 12) (hh : h < 8) : PU F nD τ sig Λ :=
  ld4 m2 h 0 hh (by decide) fun x0 => ld4 m2 h 1 hh (by decide) fun x1 =>
  ld4 m2 h 2 hh (by decide) fun x2 => ld4 m2 h 3 hh (by decide) fun x3 =>
  ld4 m2 h 4 hh (by decide) fun x4 => ld4 m2 h 5 hh (by decide) fun x5 =>
  ld4 m2 h 6 hh (by decide) fun x6 => ld4 m2 h 7 hh (by decide) fun x7 =>
  st3 m3 gs p (8 * h + 0) hp (by omega) (b0 x0 x1 x2 x3 x4 x5 x6 x7) fun _ =>
  st3 m3 gs p (8 * h + 1) hp (by omega) (b1 x0 x1 x2 x3 x4 x5 x6 x7) fun _ =>
  st3 m3 gs p (8 * h + 2) hp (by omega) (b2 x0 x1 x2 x3 x4 x5 x6 x7) fun _ =>
  st3 m3 gs p (8 * h + 3) hp (by omega) (b3 x0 x1 x2 x3 x4 x5 x6 x7) fun _ =>
  st3 m3 gs p (8 * h + 4) hp (by omega) (b4 x0 x1 x2 x3 x4 x5 x6 x7) fun _ =>
  st3 m3 gs p (8 * h + 5) hp (by omega) (b5 x0 x1 x2 x3 x4 x5 x6 x7) fun _ =>
  st3 m3 gs p (8 * h + 6) hp (by omega) (b6 x0 x1 x2 x3 x4 x5 x6 x7) fun _ =>
  st3 m3 gs p (8 * h + 7) hp (by omega) (b7 x0 x1 x2 x3 x4 x5 x6 x7) .ret

/-- One step of the search for the exponent field of `x`, on the bit `b`. -/
def fieldStep (x : FVec F T11 .f32) (f : IVec T11 32) (b : BitVec 32) : IVec T11 32 :=
  select (cmpf .olt x (bitcastToFloat .f32 (shli (addi f (broadcast T11 b)) (broadcast T11 23#32)))) f (addi f (broadcast T11 b))

/-- The power of two the shifted codes were divided by: the power of two at most the largest
    absolute column factor, its field clamped. -/
def shift (s : FVec F TS .bf16) : FVec F T11 .f32 :=
  let x : FVec F T11 .f32 := shapeCast T11 (multiReduction .maximumf [1] T1 (absf (extf .f32 s lt_bf16)) 0xFF800000#32 red_S (.inl rfl) rfl) sc_1_11
  let f := fieldStep x (fieldStep x (fieldStep x (fieldStep x (fieldStep x (fieldStep x (fieldStep x (fieldStep x
    (broadcast T11 0#32) 128#32) 64#32) 32#32) 16#32) 8#32) 4#32) 2#32) 1#32
  bitcastToFloat .f32 (minsi (broadcast T11 2113929216#32) (maxsi (broadcast T11 8388608#32) (shli f (broadcast T11 23#32))))

/-- Store the two column halves of a product to the accumulator's planes. -/
def stP (m : Memref sig .tc .vmem TAcc .f32) (v : FVec F TP .f32) : PU F nD τ sig Λ :=
  .op (.load m (Rect.unit (s := TAcc) ![0, 0, 0] T1Ph.size (inb_half 0 (by decide))).toLoadRect (View.loadsAt_vmem pos_1Ph)) fun _ =>
  .op (.store m (Rect.unit (s := TAcc) ![0, 0, 0] T1Ph.size (inb_half 0 (by decide))) (shapeCast T1Ph (extractStridedSlice TPh ![0, 0] v slc_lo) sc_Ph_1Ph) Finset.univ (View.stores_vmem_bits_univ pos_1Ph rfl) (.inl rfl)) fun _ =>
  .op (.load m (Rect.unit (s := TAcc) ![1, 0, 0] T1Ph.size (inb_half 1 (by decide))).toLoadRect (View.loadsAt_vmem pos_1Ph)) fun _ =>
  .op (.store m (Rect.unit (s := TAcc) ![1, 0, 0] T1Ph.size (inb_half 1 (by decide))) (shapeCast T1Ph (extractStridedSlice TPh ![0, 128] v slc_hi) sc_Ph_1Ph) Finset.univ (View.stores_vmem_bits_univ pos_1Ph rfl) (.inl rfl)) .ret

/-- The product from the shifted codes, times the shift. -/
def brA (mw : Memref sig .tc .vmem TW .fp8e4m3) (mx : Memref sig .tc .vmem TX .fp8e5m2) (m : Memref sig .tc .vmem TAcc .f32)
    (s : FVec F TS .bf16) (j : Nat) (hj : j < 6) : PU F nD τ sig Λ :=
  .op (.load mw (Rect.unit (s := TW) ![0, 0] TW.size inb_W).toLoadRect (View.loadsAt_vmem pos_W)) fun (w : Vec F TW .fp8e4m3) =>
  .op (.load mx (Rect.unit (s := TX) ![256 * j, 0] TXj.size (inb_X j hj)).toLoadRect (View.loadsAt_vmem pos_Xj)) fun (x : Vec F TXj .fp8e5m2) =>
  stP m (mulf (matmul dotP none (shapeCast TW w sc_W : FVec F TW .fp8e4m3) (shapeCast TXj x sc_Xj : FVec F TXj .fp8e5m2) (constant TP .f32 0x00000000#32)) (broadcastTo TP (shift s) bc_11_P))

/-- The product from the plain codes and the scaled weights. -/
def brB (mw : Memref sig .tc .vmem TW .fp8e4m3) (mx : Memref sig .tc .vmem TX .fp8e5m2) (m : Memref sig .tc .vmem TAcc .f32)
    (s : FVec F TS .bf16) (j : Nat) (hj : j < 6) : PU F nD τ sig Λ :=
  .op (.load mw (Rect.unit (s := TW) ![0, 0] TW.size inb_W).toLoadRect (View.loadsAt_vmem pos_W)) fun (w : Vec F TW .fp8e4m3) =>
  .op (.load mx (Rect.unit (s := TX) ![256 * j, 0] TXj.size (inb_X j hj)).toLoadRect (View.loadsAt_vmem pos_Xj)) fun (x : Vec F TXj .fp8e5m2) =>
  stP m (matmul dotP none (mulf (extf .bf16 (shapeCast TW w sc_W : FVec F TW .fp8e4m3) lt_e4m3) (broadcastTo TW s bc_S_W))
    (extf .bf16 (shapeCast TXj x sc_Xj : FVec F TXj .fp8e5m2) lt_e5m2) (constant TP .f32 0x00000000#32))

/-- Read the flag. -/
def flag (m : Memref sig .tc .smem T1 .i32) (K : BitVec 32 → PU F nD τ sig Λ) : PU F nD τ sig Λ :=
  smemLoadElt m (Rect.unit (s := T1) ![0] T1.size inb_1) (View.loads_smem_one rfl one_1) (Shape.Idx.first (one_1.symm ▸ Nat.one_pos)) K

/-- One pair of planes' product: the flag chooses. -/
def br (mf : Memref sig .tc .smem T1 .i32) (mw : Memref sig .tc .vmem TW .fp8e4m3) (mx mx' : Memref sig .tc .vmem TX .fp8e5m2) (m : Memref sig .tc .vmem TAcc .f32)
    (s : FVec F TS .bf16) (j : Nat) (hj : j < 6) (K : PU F nD τ sig Λ) : PU F nD τ sig Λ :=
  let K2 : PU F nD τ sig Λ := flag mf fun v => if Scalar.cmpi .ne (Scalar.extui (Scalar.cmpi .ne v 0#32) : BitVec 32) 0#32 = 1#1 then
    Prog.bind (brB mw mx' m s j hj) fun _ => K else K
  flag mf fun v => if Scalar.cmpi .ne (Scalar.extui (Scalar.cmpi .eq v 0#32) : BitVec 32) 0#32 = 1#1 then
    Prog.bind (brA mw mx m s j hj) fun _ => K2 else K2

/-- One plane: its columns' factors, then the three stages. -/
def plane (mg : Memref sig .tc .vmem TG .f32) (m : Memref sig .tc .vmem TAcc .f32) (m2 : Memref sig .tc .vmem TMid .f32) (m3 : Memref sig .tc .vmem TY .f32)
    (q p : Nat) (hq : q < 2) (hp : p < 12) (K : PU F nD τ sig Λ) : PU F nD τ sig Λ :=
  .op (.load mg (Rect.unit (s := TG) ![0, 128 * p] TGs.size (inb_G p hp)).toLoadRect (View.loadsAt_vmem pos_Gs)) fun (v : Vec F TGs .f32) =>
  Prog.bind (g1 m q 0 hq (by decide)) fun _ => Prog.bind (g1 m q 1 hq (by decide)) fun _ => Prog.bind (g1 m q 2 hq (by decide)) fun _ => Prog.bind (g1 m q 3 hq (by decide)) fun _ =>
  Prog.bind (g1 m q 4 hq (by decide)) fun _ => Prog.bind (g1 m q 5 hq (by decide)) fun _ => Prog.bind (g1 m q 6 hq (by decide)) fun _ => Prog.bind (g1 m q 7 hq (by decide)) fun _ =>
  Prog.bind (g2 m m2 q 0 hq (by decide)) fun _ => Prog.bind (g2 m m2 q 1 hq (by decide)) fun _ => Prog.bind (g2 m m2 q 2 hq (by decide)) fun _ => Prog.bind (g2 m m2 q 3 hq (by decide)) fun _ =>
  Prog.bind (g2 m m2 q 4 hq (by decide)) fun _ => Prog.bind (g2 m m2 q 5 hq (by decide)) fun _ => Prog.bind (g2 m m2 q 6 hq (by decide)) fun _ => Prog.bind (g2 m m2 q 7 hq (by decide)) fun _ =>
  Prog.bind (g3 m2 m3 (shapeCast TGs v sc_Gs) p 0 hp (by decide)) fun _ => Prog.bind (g3 m2 m3 (shapeCast TGs v sc_Gs) p 1 hp (by decide)) fun _ => Prog.bind (g3 m2 m3 (shapeCast TGs v sc_Gs) p 2 hp (by decide)) fun _ => Prog.bind (g3 m2 m3 (shapeCast TGs v sc_Gs) p 3 hp (by decide)) fun _ =>
  Prog.bind (g3 m2 m3 (shapeCast TGs v sc_Gs) p 4 hp (by decide)) fun _ => Prog.bind (g3 m2 m3 (shapeCast TGs v sc_Gs) p 5 hp (by decide)) fun _ => Prog.bind (g3 m2 m3 (shapeCast TGs v sc_Gs) p 6 hp (by decide)) fun _ => Prog.bind (g3 m2 m3 (shapeCast TGs v sc_Gs) p 7 hp (by decide)) fun _ => K

/-- The column factors, rounded, which every product uses. -/
def ldS (ms : Memref sig .tc .vmem TS .f32) (K : FVec F TS .bf16 → PU F nD τ sig Λ) : PU F nD τ sig Λ :=
  .op (.load ms (Rect.unit (s := TS) ![0, 0] TS.size inb_S).toLoadRect (View.loadsAt_vmem pos_S)) fun (v : Vec F TS .f32) =>
    K (truncf .bf16 (shapeCast TS v sc_S : FVec F TS .f32) lt_bf16)

/-- The whole body: six pairs of planes. -/
def body (mf : Memref sig .tc .smem T1 .i32) (mw : Memref sig .tc .vmem TW .fp8e4m3) (mx mx' : Memref sig .tc .vmem TX .fp8e5m2)
    (ms : Memref sig .tc .vmem TS .f32) (mg : Memref sig .tc .vmem TG .f32) (m3 : Memref sig .tc .vmem TY .f32)
    (m : Memref sig .tc .vmem TAcc .f32) (m2 : Memref sig .tc .vmem TMid .f32) : PU F nD τ sig Λ :=
  ldS ms fun s => (br mf mw mx mx' m s 0 (by decide) (plane mg m m2 m3 0 0 (by decide) (by decide) (plane mg m m2 m3 1 1 (by decide) (by decide)
    (br mf mw mx mx' m s 1 (by decide) (plane mg m m2 m3 0 2 (by decide) (by decide) (plane mg m m2 m3 1 3 (by decide) (by decide)
    (br mf mw mx mx' m s 2 (by decide) (plane mg m m2 m3 0 4 (by decide) (by decide) (plane mg m m2 m3 1 5 (by decide) (by decide)
    (br mf mw mx mx' m s 3 (by decide) (plane mg m m2 m3 0 6 (by decide) (by decide) (plane mg m m2 m3 1 7 (by decide) (by decide)
    (br mf mw mx mx' m s 4 (by decide) (plane mg m m2 m3 0 8 (by decide) (by decide) (plane mg m m2 m3 1 9 (by decide) (by decide)
    (br mf mw mx mx' m s 5 (by decide) (plane mg m m2 m3 0 10 (by decide) (by decide) (plane mg m m2 m3 1 11 (by decide) (by decide)
    (.ret ⟨⟩)))))))))))))))))))

/-! Peeling one group off a printed text. -/
section
universe u
variable {E : Type → Type u} {α β γ δ : Type}
theorem bind_step {p : Prog E α} {g : Prog E PUnit} {k : PUnit → Prog E α} {r : Prog E α} (h : p = g.bind k) (hr : k ⟨⟩ = r) : p = g.bind fun _ => r := by
  subst hr; exact h
theorem op_step {p : Prog E α} {e : E β} {k k' : β → Prog E α} (h : p = .op e k) (hr : ∀ x, k x = k' x) : p = .op e k' := by
  have : k = k' := funext hr
  subst this; exact h
theorem if_step2 {c : Prop} [Decidable c] {A B : Prog E β} {k1 : β → Prog E γ} {k2 : γ → Prog E α} {g : Prog E PUnit} {r : Prog E α}
    (h : (A.bind k1).bind k2 = g.bind fun _ => (B.bind k1).bind k2) (hr : (B.bind k1).bind k2 = r) :
    ((if c then A else B).bind k1).bind k2 = if c then g.bind fun _ => r else r := by
  subst hr; split <;> first | assumption | rfl
end

end
end Cert.Wht
-- ==== Proof.KMainText.lean ====
/- The main call's printed text is the six pairs of planes of `Wht.body`, peeled group by group. -/
module

public import proofs.«01_k».proof.Proof.Wht
public import proofs.«01_k».proof.Kernel
@[expose] public section
set_option maxRecDepth 16384
noncomputable section
namespace Cert.Kernel
open Idealize.ShloMosaic Idealize.SL.Sem
variable {F : FTy → Type} [FloatOps F] [Facts]
open Cert.Wht
set_option maxHeartbeats 4000000
/-- The printed body of the main call is the loops written out in `Wht.body`. -/
theorem cc1_eq (i : grid1.Coords) (arg1 : Memref sig .tc .smem S1 .i32) (harg1 : arg1.IsWhole) (arg2 : Memref sig .tc .vmem S512x5120 .fp8e4m3) (harg2 : arg2.IsWhole) (arg3 : Memref sig .tc .vmem S1536x5120 .fp8e5m2) (harg3 : arg3.IsWhole) (arg4 : Memref sig .tc .vmem S1536x5120 .fp8e5m2) (harg4 : arg4.IsWhole) (arg5 : Memref sig .tc .vmem S1x5120 .f32) (harg5 : arg5.IsWhole) (arg6 : Memref sig .tc .vmem S1x1536 .f32) (harg6 : arg6.IsWhole) (arg7 : Memref sig .tc .vmem S12x1x512x128 .f32) (harg7 : arg7.IsWhole) (arg8 : Memref sig .tc .vmem S2x512x128 .f32) (harg8 : arg8.IsWhole) (arg9 : Memref sig .tc .vmem S576x128 .f32) (harg9 : arg9.IsWhole)  :
   cc1_matmul_wht (F := F) i arg1 harg1 arg2 harg2 arg3 harg3 arg4 harg4 arg5 harg5 arg6 harg6 arg7 harg7 arg8 harg8 arg9 harg9 =
     Wht.body arg1 arg2 arg3 arg4 arg5 arg6 arg7 arg8 arg9 := by
  refine op_step (by rfl) fun v0 => ?_
  refine op_step (by rfl) fun _ => ?_
  refine if_step2 (by rfl) ?_
  refine op_step (by rfl) fun _ => ?_
  refine if_step2 (by rfl) ?_
  refine op_step (by rfl) fun _ => ?_
  iterate 24 refine bind_step (by rfl) ?_
  refine op_step (by rfl) fun _ => ?_
  iterate 24 refine bind_step (by rfl) ?_
  refine op_step (by rfl) fun _ => ?_
  refine if_step2 (by rfl) ?_
  refine op_step (by rfl) fun _ => ?_
  refine if_step2 (by rfl) ?_
  refine op_step (by rfl) fun _ => ?_
  iterate 24 refine bind_step (by rfl) ?_
  refine op_step (by rfl) fun _ => ?_
  iterate 24 refine bind_step (by rfl) ?_
  refine op_step (by rfl) fun _ => ?_
  refine if_step2 (by rfl) ?_
  refine op_step (by rfl) fun _ => ?_
  refine if_step2 (by rfl) ?_
  refine op_step (by rfl) fun _ => ?_
  iterate 24 refine bind_step (by rfl) ?_
  refine op_step (by rfl) fun _ => ?_
  iterate 24 refine bind_step (by rfl) ?_
  refine op_step (by rfl) fun _ => ?_
  refine if_step2 (by rfl) ?_
  refine op_step (by rfl) fun _ => ?_
  refine if_step2 (by rfl) ?_
  refine op_step (by rfl) fun _ => ?_
  iterate 24 refine bind_step (by rfl) ?_
  refine op_step (by rfl) fun _ => ?_
  iterate 24 refine bind_step (by rfl) ?_
  refine op_step (by rfl) fun _ => ?_
  refine if_step2 (by rfl) ?_
  refine op_step (by rfl) fun _ => ?_
  refine if_step2 (by rfl) ?_
  refine op_step (by rfl) fun _ => ?_
  iterate 24 refine bind_step (by rfl) ?_
  refine op_step (by rfl) fun _ => ?_
  iterate 24 refine bind_step (by rfl) ?_
  refine op_step (by rfl) fun _ => ?_
  refine if_step2 (by rfl) ?_
  refine op_step (by rfl) fun _ => ?_
  refine if_step2 (by rfl) ?_
  refine op_step (by rfl) fun _ => ?_
  iterate 24 refine bind_step (by rfl) ?_
  refine op_step (by rfl) fun _ => ?_
  iterate 24 refine bind_step (by rfl) ?_
  rfl
end Cert.Kernel
-- ==== Proof.WhtRule.lean ====
/- Rules the main call's groups are run by: a load from and a store to a memref owned at known
   contents, and the values of the three butterfly stages. -/
module

public import proofs.«01_k».proof.Proof.Wht
public import Idealize.ShloMosaic.Lib.Pipeline.FrameBody
public import Idealize.ShloMosaic.Lib.Pipeline.Value
public import Idealize.ShloMosaic.Lib.Tactic

@[expose] public section

set_option maxRecDepth 16384

noncomputable section

namespace Cert.Wht

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Rules
variable {nD : Nat} {τ : Topo} {sig : RefSig} {Ix : Type} [DecidableEq Ix]
variable {Val : EltTy → Type} {Name : Type} [DecidableEq Name] {U : Type} [URA U] {Lvl : Type} {Λ : Labels}
variable [Preorder Lvl] {defs : Defs nD τ sig Val Λ} (𝒱 : Variants) (c : Thread nD τ) (bd : Option 𝒱.V) {Γ : PendingWaitsCtx sig Ix} (E : Set Name)
variable {s : Shape} {e : EltTy} {α : Type} {Q : α → sProp (MT nD τ sig Ix Val Name U Lvl)}

/-- A load from a memref owned at `X` goes on with `X` at the rectangle's indices. -/
theorem wp_load_owns {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    owns c m q X ⊢ iprop((owns c m q X -∗ wp frame (wpE' defs 𝒱 c bd Γ) E (k fun x => X (r.idx x)) Q)
      -∗ wp frame (wpE' defs 𝒱 c bd Γ) E (.op (.load m r hl) k) Q) := by
  unfold owns
  iintro ⟨%f, %hf, H⟩ Hk
  subst hf
  iapply (wp_load 𝒱 c bd E (S := m.view.set) (m.view.setOn_subset_set _)) $$ H
  iintro H
  iapply Hk
  iexists f
  isplitr
  · ipureintro; rfl
  iexact H

theorem read_store (m : Memref sig c.2.kind .vmem s e) (r : Rect s) (f : m.view.ty.Contents Val) (w : r.shape.Idx → Val e) :
    m.view.read Val ((m.access r).write Val f w Finset.univ) = r.overlay (m.view.read Val f) w := by
  funext y
  by_cases hy : y ∈ r.set
  · obtain ⟨x, rfl⟩ := r.exists_idx_of_mem hy
    exact (m.view.read_slice_write_emb r f w (Finset.mem_univ x)).trans (Rect.overlay_emb r _ w x).symm
  · rw [Rect.overlay_of_not_mem r _ w hy]
    exact m.view.read_slice_write_of_not_mem r f w Finset.univ (by rw [Rect.map_emb_univ]; exact hy)

/-- A store to a memref owned at `X` leaves it owned at `X` with the rectangle's part replaced. -/
theorem wp_store_owns {m : Memref sig c.2.kind .vmem s e} {r : Rect s} {w : r.shape.Idx → Val e} {hx : (m.access r).Stores Finset.univ}
    {hm : Finset.univ = Finset.univ ∨ ∀ a, r.stride a = 1}
    {k : PUnit → Prog (TpuEff nD τ sig Val Λ c.2) α} {X : s.Idx → Val e} :
    owns c m fullShare X ⊢ iprop((owns c m fullShare (r.overlay X w) -∗ wp frame (wpE' defs 𝒱 c bd Γ) E (k ⟨⟩) Q)
      -∗ wp frame (wpE' defs 𝒱 c bd Γ) E (.op (.store m r w Finset.univ hx hm) k) Q) := by
  unfold owns
  iintro ⟨%f, %hf, H⟩ Hk
  subst hf
  iapply (wp_store 𝒱 c bd E (m := m) (r := r) (w := w) (Mk := Finset.univ) (hx := hx) (hm := hm) (k := k) (f := f) (S := m.view.set) (m.view.set_slice_subset r)) $$ [H]
  · iexact H
  iintro H
  iapply Hk
  iexists _
  isplitr
  · ipureintro; exact read_store c m r f w
  iexact H

/-- A scalar load from a memref owned at `X`. -/
theorem wp_smem_owns {m : Memref sig c.2.kind .smem s e} {r : Rect s} {hw : (m.access r).Loads} {x : r.shape.Idx}
    {k : Val e → Prog (TpuEff nD τ sig Val Λ c.2) α} {q : PosShare TreeShare} {X : s.Idx → Val e} :
    owns c m q X ⊢ iprop((owns c m q X -∗ wp frame (wpE' defs 𝒱 c bd Γ) E (k (X (r.idx x))) Q)
      -∗ wp frame (wpE' defs 𝒱 c bd Γ) E (smemLoadElt m r hw x k) Q) := by
  unfold owns
  iintro ⟨%f, %hf, H⟩ Hk
  subst hf
  iapply (wp_smemLoadElt 𝒱 c bd E (m := m) (r := r) (hw := hw) (x := x) (k := k) (f := f) (q := q) (S := m.view.set) (m.view.set_slice_subset r)) $$ [H]
  · iexact H
  iintro H
  iapply Hk
  iexists f
  isplitr
  · ipureintro; rfl
  iexact H

/-- A program after another. -/
theorem wp_seq {p : Prog (TpuEff nD τ sig Val Λ c.2) PUnit.{1}} {K : Prog (TpuEff nD τ sig Val Λ c.2) α} :
    wp frame (wpE' defs 𝒱 c bd Γ) E p (fun _ => wp frame (wpE' defs 𝒱 c bd Γ) E K Q)
      ⊢ wp frame (wpE' defs 𝒱 c bd Γ) E (Prog.bind p fun _ => K) Q :=
  (show _ = _ from wp_bind frame (wpE' defs 𝒱 c bd Γ) E p (fun _ => K) Q) ▸ .rfl
end Rules

/-! ## Indices -/

/-- Plane `q`, row `a`, column `l` of the accumulator. -/
def ia (q a l : Nat) : TAcc.Idx := fun x => match x with
  | ⟨0, _⟩ => ⟨q % 2, Nat.mod_lt _ (by decide)⟩
  | ⟨1, _⟩ => ⟨a % 512, Nat.mod_lt _ (by decide)⟩
  | ⟨2, _⟩ => ⟨l % 128, Nat.mod_lt _ (by decide)⟩

/-- Row `a`, column `l` of the padded scratch. -/
def im (a l : Nat) : TMid.Idx := fun x => match x with
  | ⟨0, _⟩ => ⟨a % 576, Nat.mod_lt _ (by decide)⟩
  | ⟨1, _⟩ => ⟨l % 128, Nat.mod_lt _ (by decide)⟩

/-- Row `a`, column `l` of a block. -/
def i8 (a l : Nat) : T8.Idx := fun x => match x with
  | ⟨0, _⟩ => ⟨a % 8, Nat.mod_lt _ (by decide)⟩
  | ⟨1, _⟩ => ⟨l % 128, Nat.mod_lt _ (by decide)⟩

/-- A unit-stride rectangle's overlay read at an index. -/
theorem overlay_unit {s : Shape} {α : Type} (off size : Fin s.rank → Nat) (inb : ∀ a, off a + size a ≤ s.size a) (X : s.Idx → α)
    (w : (Rect.unit (s := s) off size inb).shape.Idx → α) (y : s.Idx) (j : (Rect.unit (s := s) off size inb).shape.Idx)
    (P : Prop) [Decidable P] (hP : P ↔ ∀ a, off a ≤ (y a).val ∧ (y a).val < off a + size a)
    (hj : P → ∀ a, (y a).val = off a + (j a).val) :
    (Rect.unit (s := s) off size inb).overlay X w y = if P then w j else X y := by
  split
  · rename_i h
    have : y = (Rect.unit (s := s) off size inb).emb j := by
      funext a; apply Fin.ext
      rw [Rect.emb_apply, hj h a]
      show off a + (j a).val = off a + 1 * (j a).val
      omega
    rw [this, Rect.overlay_emb]
  · rename_i h
    refine Rect.overlay_of_not_mem _ _ _ fun hm => h (hP.2 ?_)
    obtain ⟨x, rfl⟩ := (Rect.unit (s := s) off size inb).exists_idx_of_mem hm
    intro a
    have e : (((Rect.unit (s := s) off size inb).idx x a : Fin _) : Nat) = off a + 1 * (x a).val := rfl
    have := (x a).isLt
    have hs : (x a).val < size a := this
    rw [e]; omega

section Values
variable {F : FTy → Type} [FloatOps F]

theorem ld1_val (X : Vec F TAcc .f32) (q i r : Nat) (hq : q < 2) (hi : i < 8) (hr : r < 8) :
    (shapeCast T8 (fun x => X ((r1 q i r hq hi hr).toLoadRect.idx x)) sc_1x8 : V8 F) = fun z => X (ia q (64 * i + 8 * r + (z 0).val) (z 1).val) := by
  funext z
  refine (shapeCast_dropUnit_apply ![8, 128] _ _ z).trans ?_
  congr 1
  funext a; apply Fin.ext
  have h0 := (z 0).isLt
  have h1 := (z 1).isLt
  simp at h0 h1
  exact match a with
    | ⟨0, _⟩ => by show q + 1 * 0 = q % 2; omega
    | ⟨1, _⟩ => by show 64 * i + 8 * r + 1 * (z 0).val = (64 * i + 8 * r + (z 0).val) % 512; omega
    | ⟨2, _⟩ => by show 0 + 1 * (z 1).val = (z 1).val % 128; omega

theorem ov1 (X : Vec F TAcc .f32) (q i r : Nat) (hq : q < 2) (hi : i < 8) (hr : r < 8) (w : V8 F) (y : TAcc.Idx) :
    (r1 q i r hq hi hr).overlay X (shapeCast T1x8 w sc_8_1x8) y
      = if (y 0).val = q ∧ (y 1).val / 64 = i ∧ (y 1).val % 64 / 8 = r then w (i8 ((y 1).val % 8) (y 2).val) else X y := by
  have h0 := (y 0).isLt
  have h1 := (y 1).isLt
  have h2 := (y 2).isLt
  simp at h0 h1 h2
  refine (overlay_unit _ _ _ X _ y (fun x => match x with
    | ⟨0, _⟩ => ⟨0, Nat.one_pos⟩ | ⟨1, _⟩ => ⟨(y 1).val % 8, Nat.mod_lt _ (Nat.succ_pos 7)⟩ | ⟨2, _⟩ => ⟨(y 2).val % 128, Nat.mod_lt _ (Nat.succ_pos 127)⟩)
    ((y 0).val = q ∧ (y 1).val / 64 = i ∧ (y 1).val % 64 / 8 = r) ?_ ?_).trans ?_
  · simp [Fin.forall_fin_succ]; omega
  · simp [Fin.forall_fin_succ]; omega
  · congr 1
    refine (shapeCast_addUnit_apply ![8, 128] w sc_8_1x8 _).trans ?_
    congr 1
    funext a; apply Fin.ext
    fin_cases a <;> simp [i8]

end Values
end Cert.Wht
-- ==== Proof.WhtStage.lean ====
/- The three butterfly stages: what each group of a stage leaves in the buffer it writes. -/
module

public import proofs.«01_k».proof.Proof.WhtRule

@[expose] public section

set_option maxRecDepth 16384

noncomputable section

namespace Cert.Wht

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Values
variable {F : FTy → Type} [FloatOps F]

local infixl:65 " +. " => FloatOps.addf (F := F) (φ := FTy.f32)
local infixl:65 " -. " => FloatOps.subf (F := F) (φ := FTy.f32)

/-- Output `k` of the butterfly on eight numbers. -/
def bk (k : Nat) (x : Nat → F .f32) : F .f32 := match k with
  | 0 => ((x 0 +. x 1) +. (x 2 +. x 3)) +. ((x 4 +. x 5) +. (x 6 +. x 7))
  | 1 => ((x 0 -. x 1) +. (x 2 -. x 3)) +. ((x 4 -. x 5) +. (x 6 -. x 7))
  | 2 => ((x 0 +. x 1) -. (x 2 +. x 3)) +. ((x 4 +. x 5) -. (x 6 +. x 7))
  | 3 => ((x 0 -. x 1) -. (x 2 -. x 3)) +. ((x 4 -. x 5) -. (x 6 -. x 7))
  | 4 => ((x 0 +. x 1) +. (x 2 +. x 3)) -. ((x 4 +. x 5) +. (x 6 +. x 7))
  | 5 => ((x 0 -. x 1) +. (x 2 -. x 3)) -. ((x 4 -. x 5) +. (x 6 -. x 7))
  | 6 => ((x 0 +. x 1) -. (x 2 +. x 3)) -. ((x 4 +. x 5) -. (x 6 +. x 7))
  | _ => ((x 0 -. x 1) -. (x 2 -. x 3)) -. ((x 4 -. x 5) -. (x 6 -. x 7))

theorem bk_congr (k : Nat) {x x' : Nat → F .f32} (h : ∀ i, i < 8 → x i = x' i) : bk k x = bk k x' := by
  unfold bk
  rw [h 0 (by decide), h 1 (by decide), h 2 (by decide), h 3 (by decide), h 4 (by decide), h 5 (by decide), h 6 (by decide), h 7 (by decide)]

section
variable (x : Nat → V8 F) (z : T8.Idx)
theorem b0_apply : b0 (x 0) (x 1) (x 2) (x 3) (x 4) (x 5) (x 6) (x 7) z = bk 0 fun i => x i z := rfl
theorem b1_apply : b1 (x 0) (x 1) (x 2) (x 3) (x 4) (x 5) (x 6) (x 7) z = bk 1 fun i => x i z := rfl
theorem b2_apply : b2 (x 0) (x 1) (x 2) (x 3) (x 4) (x 5) (x 6) (x 7) z = bk 2 fun i => x i z := rfl
theorem b3_apply : b3 (x 0) (x 1) (x 2) (x 3) (x 4) (x 5) (x 6) (x 7) z = bk 3 fun i => x i z := rfl
theorem b4_apply : b4 (x 0) (x 1) (x 2) (x 3) (x 4) (x 5) (x 6) (x 7) z = bk 4 fun i => x i z := rfl
theorem b5_apply : b5 (x 0) (x 1) (x 2) (x 3) (x 4) (x 5) (x 6) (x 7) z = bk 5 fun i => x i z := rfl
theorem b6_apply : b6 (x 0) (x 1) (x 2) (x 3) (x 4) (x 5) (x 6) (x 7) z = bk 6 fun i => x i z := rfl
theorem b7_apply : b7 (x 0) (x 1) (x 2) (x 3) (x 4) (x 5) (x 6) (x 7) z = bk 7 fun i => x i z := rfl
end

/-- The accumulator after stage one's groups `0 … n - 1` on plane `q`. -/
def S1 (q n : Nat) (X : Vec F TAcc .f32) : Vec F TAcc .f32 := fun y =>
  if (y 0).val = q ∧ (y 1).val % 64 / 8 < n then bk ((y 1).val / 64) fun i => X (ia q (64 * i + (y 1).val % 64) (y 2).val) else X y

/-- The padded scratch after stage two's groups `0 … n - 1` on plane `q` of the accumulator `A`. -/
def S2 (q n : Nat) (A : Vec F TAcc .f32) (M : Vec F TMid .f32) : Vec F TMid .f32 := fun y =>
  if (y 0).val / 72 < n ∧ (y 0).val % 9 < 8 then bk ((y 0).val / 9 % 8) fun i => A (ia q (64 * ((y 0).val / 72) + 8 * i + (y 0).val % 9) (y 1).val) else M y

/-- A column's factor. -/
def gsAt (gs : FVec F TGs .f32) (l : Nat) : F .f32 := gs fun x => match x with | ⟨0, _⟩ => ⟨0, Nat.one_pos⟩ | ⟨1, _⟩ => ⟨l % 128, Nat.mod_lt _ (Nat.succ_pos 127)⟩

/-- The output after stage three's groups `0 … n - 1` of plane `p`. -/
def S3 (p n : Nat) (gs : FVec F TGs .f32) (M : Vec F TMid .f32) (Y : Vec F TY .f32) : Vec F TY .f32 := fun y =>
  if (y 0).val = p ∧ (y 2).val / 64 < n then
    FloatOps.mulf (bk ((y 2).val / 8 % 8) fun i => M (im (72 * ((y 2).val / 64) + 9 * ((y 2).val % 8) + i) (y 3).val)) (gsAt gs (y 3).val) else Y y

theorem ov2 (X : Vec F TMid .f32) (k : Nat) (hk : k < 64) (w : V8 F) (y : TMid.Idx) :
    (r2 k hk).overlay X (shapeCast T8 w sc_8) y
      = if (y 0).val / 9 = k ∧ (y 0).val % 9 < 8 then w (i8 ((y 0).val % 9) (y 1).val) else X y := by
  have h0 := (y 0).isLt
  have h1 := (y 1).isLt
  simp at h0 h1
  refine (overlay_unit _ _ _ X _ y (i8 ((y 0).val % 9) (y 1).val) ((y 0).val / 9 = k ∧ (y 0).val % 9 < 8) ?_ ?_).trans ?_
  · refine Iff.trans ?_ (Fin.forall_fin_two (p := fun a => (![9 * k, 0] : Fin 2 → Nat) a ≤ (y a).val ∧ (y a).val < (![9 * k, 0] : Fin 2 → Nat) a + T8.size a)).symm
    show _ ↔ (9 * k ≤ (y 0).val ∧ (y 0).val < 9 * k + 8) ∧ (0 ≤ (y 1).val ∧ (y 1).val < 0 + 128)
    omega
  · exact fun h a => match a with
      | ⟨0, _⟩ => by show (y 0).val = 9 * k + (y 0).val % 9 % 8; omega
      | ⟨1, _⟩ => by show (y 1).val = 0 + (y 1).val % 128; omega
  · rw [shapeCast_self]

theorem ov3 (X : Vec F TY .f32) (gs : FVec F TGs .f32) (p o : Nat) (hp : p < 12) (ho : o < 64) (w : V8 F) (y : TY.Idx) :
    (r3 p o hp ho).overlay X (shapeCast T1x1x8 (mulf w (broadcastTo T8 gs bc_gs)) sc_8_1x1x8) y
      = if (y 0).val = p ∧ (y 2).val / 8 = o then FloatOps.mulf (w (i8 ((y 2).val % 8) (y 3).val)) (gsAt gs (y 3).val) else X y := by
  have h0 := (y 0).isLt
  have h1 := (y 1).isLt
  have h2 := (y 2).isLt
  have h3 := (y 3).isLt
  simp at h0 h1 h2 h3
  refine (overlay_unit _ _ _ X _ y (fun x => match x with
    | ⟨0, _⟩ => ⟨0, Nat.one_pos⟩ | ⟨1, _⟩ => ⟨0, Nat.one_pos⟩ | ⟨2, _⟩ => ⟨(y 2).val % 8, Nat.mod_lt _ (Nat.succ_pos 7)⟩
    | ⟨3, _⟩ => ⟨(y 3).val % 128, Nat.mod_lt _ (Nat.succ_pos 127)⟩)
    ((y 0).val = p ∧ (y 2).val / 8 = o) ?_ ?_).trans ?_
  · simp [Fin.forall_fin_succ]; omega
  · simp [Fin.forall_fin_succ]; omega
  · congr 1
    refine (shapeCast_apply _ sc_8_1x1x8 _ (i8 ((y 2).val % 8) (y 3).val) ?_).trans ?_
    · rw [Shape.rowMajor_val_two, Shape.rowMajor_val_four]
      show (y 2).val % 8 % 8 * 128 + (y 3).val % 128 = ((0 * 1 + 0) * 8 + (y 2).val % 8) * 128 + (y 3).val % 128
      omega
    · show FloatOps.mulf _ (broadcastTo T8 gs bc_gs _) = _
      congr 1
      refine broadcastTo_apply gs bc_gs _ _ fun a => ?_
      exact match a with
      | ⟨0, _⟩ => rfl
      | ⟨1, _⟩ => rfl

/-- Stage one's group `r` takes the accumulator from `r` groups done to `r + 1`. -/
theorem g1_val (q r : Nat) (hq : q < 2) (hr : r < 8) (X : Vec F TAcc .f32) (x : Nat → V8 F)
    (hx : ∀ i (hi : i < 8), x i = shapeCast T8 (fun z => S1 q r X ((r1 q i r hq hi hr).toLoadRect.idx z)) sc_1x8) :
    (r1 q 7 r hq (by decide) hr).overlay ((r1 q 6 r hq (by decide) hr).overlay ((r1 q 5 r hq (by decide) hr).overlay ((r1 q 4 r hq (by decide) hr).overlay
      ((r1 q 3 r hq (by decide) hr).overlay ((r1 q 2 r hq (by decide) hr).overlay ((r1 q 1 r hq (by decide) hr).overlay ((r1 q 0 r hq (by decide) hr).overlay (S1 q r X)
      (shapeCast T1x8 (b0 (x 0) (x 1) (x 2) (x 3) (x 4) (x 5) (x 6) (x 7)) sc_8_1x8)) (shapeCast T1x8 (b1 (x 0) (x 1) (x 2) (x 3) (x 4) (x 5) (x 6) (x 7)) sc_8_1x8))
      (shapeCast T1x8 (b2 (x 0) (x 1) (x 2) (x 3) (x 4) (x 5) (x 6) (x 7)) sc_8_1x8)) (shapeCast T1x8 (b3 (x 0) (x 1) (x 2) (x 3) (x 4) (x 5) (x 6) (x 7)) sc_8_1x8))
      (shapeCast T1x8 (b4 (x 0) (x 1) (x 2) (x 3) (x 4) (x 5) (x 6) (x 7)) sc_8_1x8)) (shapeCast T1x8 (b5 (x 0) (x 1) (x 2) (x 3) (x 4) (x 5) (x 6) (x 7)) sc_8_1x8))
      (shapeCast T1x8 (b6 (x 0) (x 1) (x 2) (x 3) (x 4) (x 5) (x 6) (x 7)) sc_8_1x8)) (shapeCast T1x8 (b7 (x 0) (x 1) (x 2) (x 3) (x 4) (x 5) (x 6) (x 7)) sc_8_1x8)
      = S1 q (r + 1) X := by
  funext y
  have h0 := (y 0).isLt
  have h1 := (y 1).isLt
  have h2 := (y 2).isLt
  simp at h0 h1 h2
  rw [ov1, ov1, ov1, ov1, ov1, ov1, ov1, ov1]
  simp only [b0_apply, b1_apply, b2_apply, b3_apply, b4_apply, b5_apply, b6_apply, b7_apply]
  by_cases hc : (y 0).val = q ∧ (y 1).val % 64 / 8 = r
  · obtain ⟨hc0, hc1⟩ := hc
    have hb : ∀ k, (bk k fun i => x i (i8 ((y 1).val % 8) (y 2).val)) = bk k fun i => X (ia q (64 * i + (y 1).val % 64) (y 2).val) := fun k => bk_congr k fun i hi => by
      rw [hx i hi, ld1_val]
      have e : ia q (64 * i + 8 * r + (i8 ((y 1).val % 8) (y 2).val 0).val) (i8 ((y 1).val % 8) (y 2).val 1).val = ia q (64 * i + (y 1).val % 64) (y 2).val := by
        show ia q (64 * i + 8 * r + (y 1).val % 8 % 8) ((y 2).val % 128) = _
        congr 1 <;> omega
      show S1 q r X (ia q (64 * i + 8 * r + (i8 ((y 1).val % 8) (y 2).val 0).val) (i8 ((y 1).val % 8) (y 2).val 1).val) = _
      rw [e, S1, if_neg]
      show ¬ (q % 2 = q ∧ (64 * i + (y 1).val % 64) % 512 % 64 / 8 < r)
      omega
    simp only [hb, hc0, hc1, _root_.true_and, _root_.and_true]
    rw [show S1 q (r + 1) X y = _ from if_pos ⟨hc0, by omega⟩]
    have hk : (y 1).val / 64 < 8 := by omega
    generalize (y 1).val / 64 = k at hk ⊢
    rcases k with _ | _ | _ | _ | _ | _ | _ | _ | k <;> first | omega | simp
  · have hn : ∀ i, ¬ ((y 0).val = q ∧ (y 1).val / 64 = i ∧ (y 1).val % 64 / 8 = r) := fun i h => hc ⟨h.1, h.2.2⟩
    simp only [hn, if_false]
    have : ((y 0).val = q ∧ (y 1).val % 64 / 8 < r) ↔ ((y 0).val = q ∧ (y 1).val % 64 / 8 < r + 1) := by omega
    exact if_congr this rfl rfl

/-- Stage two's group `h` takes the scratch from `h` groups done to `h + 1`. -/
theorem g2_val (q h : Nat) (hq : q < 2) (hh : h < 8) (A : Vec F TAcc .f32) (M : Vec F TMid .f32) (x : Nat → V8 F)
    (hx : ∀ i (hi : i < 8), x i = shapeCast T8 (fun z => A ((r1 q h i hq hh hi).toLoadRect.idx z)) sc_1x8) :
    (r2 (8 * h + 7) (by omega)).overlay ((r2 (8 * h + 6) (by omega)).overlay ((r2 (8 * h + 5) (by omega)).overlay ((r2 (8 * h + 4) (by omega)).overlay
      ((r2 (8 * h + 3) (by omega)).overlay ((r2 (8 * h + 2) (by omega)).overlay ((r2 (8 * h + 1) (by omega)).overlay ((r2 (8 * h + 0) (by omega)).overlay (S2 q h A M)
      (shapeCast T8 (b0 (x 0) (x 1) (x 2) (x 3) (x 4) (x 5) (x 6) (x 7)) sc_8)) (shapeCast T8 (b1 (x 0) (x 1) (x 2) (x 3) (x 4) (x 5) (x 6) (x 7)) sc_8))
      (shapeCast T8 (b2 (x 0) (x 1) (x 2) (x 3) (x 4) (x 5) (x 6) (x 7)) sc_8)) (shapeCast T8 (b3 (x 0) (x 1) (x 2) (x 3) (x 4) (x 5) (x 6) (x 7)) sc_8))
      (shapeCast T8 (b4 (x 0) (x 1) (x 2) (x 3) (x 4) (x 5) (x 6) (x 7)) sc_8)) (shapeCast T8 (b5 (x 0) (x 1) (x 2) (x 3) (x 4) (x 5) (x 6) (x 7)) sc_8))
      (shapeCast T8 (b6 (x 0) (x 1) (x 2) (x 3) (x 4) (x 5) (x 6) (x 7)) sc_8)) (shapeCast T8 (b7 (x 0) (x 1) (x 2) (x 3) (x 4) (x 5) (x 6) (x 7)) sc_8)
      = S2 q (h + 1) A M := by
  funext y
  have h0 := (y 0).isLt
  have h1 := (y 1).isLt
  simp at h0 h1
  rw [ov2, ov2, ov2, ov2, ov2, ov2, ov2, ov2]
  simp only [b0_apply, b1_apply, b2_apply, b3_apply, b4_apply, b5_apply, b6_apply, b7_apply]
  by_cases hc : (y 0).val / 72 = h ∧ (y 0).val % 9 < 8
  · obtain ⟨hc0, hc1⟩ := hc
    have hb : ∀ k, (bk k fun i => x i (i8 ((y 0).val % 9) (y 1).val)) = bk k fun i => A (ia q (64 * ((y 0).val / 72) + 8 * i + (y 0).val % 9) (y 1).val) := fun k => bk_congr k fun i hi => by
      rw [hx i hi, ld1_val]
      show A (ia q (64 * h + 8 * i + (y 0).val % 9 % 8) ((y 1).val % 128)) = _
      congr 2 <;> omega
    rw [show S2 q (h + 1) A M y = _ from if_pos ⟨by omega, hc1⟩]
    have hd : (y 0).val / 9 / 8 = (y 0).val / 72 := Nat.div_div_eq_div_mul _ 9 8
    have hk : (y 0).val / 9 - 8 * h < 8 := by omega
    have e : (y 0).val / 9 = 8 * h + ((y 0).val / 9 - 8 * h) := by omega
    have e' : (y 0).val / 9 % 8 = (y 0).val / 9 - 8 * h := by omega
    simp only [hb, hc1, _root_.and_true]
    rw [e', e]
    generalize (y 0).val / 9 - 8 * h = k at hk ⊢
    rcases k with _ | _ | _ | _ | _ | _ | _ | _ | k <;> first | omega | simp
  · have hd : (y 0).val / 9 / 8 = (y 0).val / 72 := Nat.div_div_eq_div_mul _ 9 8
    have hn : ∀ i, i < 8 → ¬ ((y 0).val / 9 = 8 * h + i ∧ (y 0).val % 9 < 8) := fun i hi h' => hc ⟨by omega, h'.2⟩
    rw [if_neg (hn 7 (by decide)), if_neg (hn 6 (by decide)), if_neg (hn 5 (by decide)), if_neg (hn 4 (by decide)), if_neg (hn 3 (by decide)), if_neg (hn 2 (by decide)), if_neg (hn 1 (by decide)), if_neg (hn 0 (by decide))]
    have : ((y 0).val / 72 < h ∧ (y 0).val % 9 < 8) ↔ ((y 0).val / 72 < h + 1 ∧ (y 0).val % 9 < 8) := by omega
    exact if_congr this rfl rfl

theorem ld4_val (M : Vec F TMid .f32) (h i : Nat) (hh : h < 8) (hi : i < 8) (z : T8.Idx) :
    M ((r4 h i hh hi).idx z) = M (im (72 * h + 9 * (z 0).val + i) (z 1).val) := by
  have h0 := (z 0).isLt
  have h1 := (z 1).isLt
  simp at h0 h1
  congr 1
  funext a; apply Fin.ext
  exact match a with
  | ⟨0, _⟩ => by show 72 * h + i + 9 * (z 0).val = (72 * h + 9 * (z 0).val + i) % 576; omega
  | ⟨1, _⟩ => by show 0 + 1 * (z 1).val = (z 1).val % 128; omega

/-- A block scaled by its columns' factors, as it is stored. -/
abbrev sc3 (gs : FVec F TGs .f32) (w : V8 F) : FVec F T1x1x8 .f32 := shapeCast T1x1x8 (mulf w (broadcastTo T8 gs bc_gs)) sc_8_1x1x8

/-- Stage three's group `h` takes the output from `h` groups done to `h + 1`. -/
theorem g3_val (p h : Nat) (hp : p < 12) (hh : h < 8) (gs : FVec F TGs .f32) (M : Vec F TMid .f32) (Y : Vec F TY .f32) (x : Nat → V8 F)
    (hx : ∀ i (hi : i < 8), x i = fun z => M ((r4 h i hh hi).idx z)) :
    (r3 p (8 * h + 7) hp (by omega)).overlay ((r3 p (8 * h + 6) hp (by omega)).overlay ((r3 p (8 * h + 5) hp (by omega)).overlay ((r3 p (8 * h + 4) hp (by omega)).overlay
      ((r3 p (8 * h + 3) hp (by omega)).overlay ((r3 p (8 * h + 2) hp (by omega)).overlay ((r3 p (8 * h + 1) hp (by omega)).overlay ((r3 p (8 * h + 0) hp (by omega)).overlay (S3 p h gs M Y)
      (sc3 gs (b0 (x 0) (x 1) (x 2) (x 3) (x 4) (x 5) (x 6) (x 7)))) (sc3 gs (b1 (x 0) (x 1) (x 2) (x 3) (x 4) (x 5) (x 6) (x 7))))
      (sc3 gs (b2 (x 0) (x 1) (x 2) (x 3) (x 4) (x 5) (x 6) (x 7)))) (sc3 gs (b3 (x 0) (x 1) (x 2) (x 3) (x 4) (x 5) (x 6) (x 7))))
      (sc3 gs (b4 (x 0) (x 1) (x 2) (x 3) (x 4) (x 5) (x 6) (x 7)))) (sc3 gs (b5 (x 0) (x 1) (x 2) (x 3) (x 4) (x 5) (x 6) (x 7))))
      (sc3 gs (b6 (x 0) (x 1) (x 2) (x 3) (x 4) (x 5) (x 6) (x 7)))) (sc3 gs (b7 (x 0) (x 1) (x 2) (x 3) (x 4) (x 5) (x 6) (x 7)))
      = S3 p (h + 1) gs M Y := by
  funext y
  have h0 := (y 0).isLt
  have h2 := (y 2).isLt
  have h3 := (y 3).isLt
  simp at h0 h2 h3
  rw [ov3, ov3, ov3, ov3, ov3, ov3, ov3, ov3]
  simp only [b0_apply, b1_apply, b2_apply, b3_apply, b4_apply, b5_apply, b6_apply, b7_apply]
  by_cases hc : (y 0).val = p ∧ (y 2).val / 64 = h
  · obtain ⟨hc0, hc1⟩ := hc
    have hb : ∀ k, (bk k fun i => x i (i8 ((y 2).val % 8) (y 3).val)) = bk k fun i => M (im (72 * ((y 2).val / 64) + 9 * ((y 2).val % 8) + i) (y 3).val) := fun k => bk_congr k fun i hi => by
      rw [hx i hi]
      show M ((r4 h i hh hi).idx (i8 ((y 2).val % 8) (y 3).val)) = _
      refine (ld4_val M h i hh hi _).trans ?_
      show M (im (72 * h + 9 * ((y 2).val % 8 % 8) + i) ((y 3).val % 128)) = _
      congr 2 <;> omega
    rw [show S3 p (h + 1) gs M Y y = _ from if_pos ⟨hc0, by omega⟩]
    have hd : (y 2).val / 8 / 8 = (y 2).val / 64 := Nat.div_div_eq_div_mul _ 8 8
    have hk : (y 2).val / 8 - 8 * h < 8 := by omega
    have e : (y 2).val / 8 = 8 * h + ((y 2).val / 8 - 8 * h) := by omega
    have e' : (y 2).val / 8 % 8 = (y 2).val / 8 - 8 * h := by omega
    simp only [hb, hc0, _root_.true_and]
    rw [e', e]
    generalize (y 2).val / 8 - 8 * h = k at hk ⊢
    rcases k with _ | _ | _ | _ | _ | _ | _ | _ | k <;> first | omega | simp
  · have hd : (y 2).val / 8 / 8 = (y 2).val / 64 := Nat.div_div_eq_div_mul _ 8 8
    have hn : ∀ i, i < 8 → ¬ ((y 0).val = p ∧ (y 2).val / 8 = 8 * h + i) := fun i hi h' => hc ⟨h'.1, by omega⟩
    rw [if_neg (hn 7 (by decide)), if_neg (hn 6 (by decide)), if_neg (hn 5 (by decide)), if_neg (hn 4 (by decide)), if_neg (hn 3 (by decide)), if_neg (hn 2 (by decide)), if_neg (hn 1 (by decide)), if_neg (hn 0 (by decide))]
    have : ((y 0).val = p ∧ (y 2).val / 64 < h) ↔ ((y 0).val = p ∧ (y 2).val / 64 < h + 1) := by omega
    exact if_congr this rfl rfl
end Values
end Cert.Wht
-- ==== Proof.WhtRun.lean ====
/- The main call's groups, planes and whole body, run on memrefs owned at known contents. -/
module

public import proofs.«01_k».proof.Proof.WhtStage

@[expose] public section

set_option maxRecDepth 16384

noncomputable section

namespace Cert.Wht

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The values of a plane and of the product -/

section Values
variable {F : FTy → Type} [FloatOps F]

/-- The three stages on the column `l` of a plane, at row `a`. -/
def wht (P : Nat → Nat → F .f32) (a l : Nat) : F .f32 :=
  bk (a / 8 % 8) fun i => bk (a % 8) fun i2 => bk (a / 64) fun i3 => P (64 * i3 + 8 * i2 + i) l

theorem S1_zero (q : Nat) (A : Vec F TAcc .f32) : S1 q 0 A = A := funext fun y => if_neg (by omega)
theorem S2_zero (q : Nat) (A : Vec F TAcc .f32) (M : Vec F TMid .f32) : S2 q 0 A M = M := funext fun y => if_neg (by omega)
theorem S3_zero (p : Nat) (gs : FVec F TGs .f32) (M : Vec F TMid .f32) (Y : Vec F TY .f32) : S3 p 0 gs M Y = Y := funext fun y => if_neg (by omega)

/-- What the three stages leave in the output. -/
theorem plane_val (q p : Nat) (hq : q < 2) (gs : FVec F TGs .f32) (A : Vec F TAcc .f32) (M : Vec F TMid .f32) (Y : Vec F TY .f32) :
    S3 p 8 gs (S2 q 8 (S1 q 8 A) M) Y = fun y => if (y 0).val = p then FloatOps.mulf (wht (fun a l => A (ia q a l)) (y 2).val (y 3).val) (gsAt gs (y 3).val) else Y y := by
  funext y
  have h2 := (y 2).isLt
  have h3 := (y 3).isLt
  simp at h2 h3
  refine (if_congr (show ((y 0).val = p ∧ (y 2).val / 64 < 8) ↔ (y 0).val = p by omega) ?_ rfl : S3 p 8 gs (S2 q 8 (S1 q 8 A) M) Y y = _)
  congr 1
  unfold wht
  refine bk_congr _ fun i hi => ?_
  have d : (72 * ((y 2).val / 64) + 9 * ((y 2).val % 8) + i) % 576 = 72 * ((y 2).val / 64) + 9 * ((y 2).val % 8) + i := by omega
  have d1 : (72 * ((y 2).val / 64) + 9 * ((y 2).val % 8) + i) / 72 = (y 2).val / 64 := by omega
  have d2 : (72 * ((y 2).val / 64) + 9 * ((y 2).val % 8) + i) % 9 = i := by omega
  have d3 : (72 * ((y 2).val / 64) + 9 * ((y 2).val % 8) + i) / 9 % 8 = (y 2).val % 8 := by omega
  have hm : S2 q 8 (S1 q 8 A) M (im (72 * ((y 2).val / 64) + 9 * ((y 2).val % 8) + i) (y 3).val)
      = bk ((y 2).val % 8) fun i2 => S1 q 8 A (ia q (64 * ((y 2).val / 64) + 8 * i2 + i) (y 3).val) := by
    refine (if_pos (show (72 * ((y 2).val / 64) + 9 * ((y 2).val % 8) + i) % 576 / 72 < 8 ∧ (72 * ((y 2).val / 64) + 9 * ((y 2).val % 8) + i) % 576 % 9 < 8 by
      rw [d, d1, d2]; omega)).trans ?_
    show bk ((72 * ((y 2).val / 64) + 9 * ((y 2).val % 8) + i) % 576 / 9 % 8) (fun i2 => S1 q 8 A (ia q (64 * ((72 * ((y 2).val / 64) + 9 * ((y 2).val % 8) + i) % 576 / 72) + 8 * i2
      + (72 * ((y 2).val / 64) + 9 * ((y 2).val % 8) + i) % 576 % 9) ((y 3).val % 128))) = _
    rw [d, d1, d2, d3, Nat.mod_eq_of_lt h3]
  rw [hm]
  refine bk_congr _ fun i2 hi2 => ?_
  refine (if_pos (show q % 2 = q ∧ (64 * ((y 2).val / 64) + 8 * i2 + i) % 512 % 64 / 8 < 8 by omega)).trans ?_
  show bk ((64 * ((y 2).val / 64) + 8 * i2 + i) % 512 / 64) (fun i3 => A (ia q (64 * i3 + (64 * ((y 2).val / 64) + 8 * i2 + i) % 512 % 64) ((y 3).val % 128))) = _
  have hb : (y 2).val / 64 < 8 := by omega
  generalize (y 2).val / 64 = b at hb ⊢
  clear hm d d1 d2 d3
  rw [Nat.mod_eq_of_lt (show 64 * b + 8 * i2 + i < 512 by omega), show (64 * b + 8 * i2 + i) / 64 = b by omega, show (64 * b + 8 * i2 + i) % 64 = 8 * i2 + i by omega, Nat.mod_eq_of_lt h3]
  exact bk_congr _ fun i3 _ => by rw [Nat.add_assoc]

/-- The first `n` planes of `O`, over `Y`. -/
def YN (n : Nat) (O Y : Vec F TY .f32) : Vec F TY .f32 := fun y => if (y 0).val < n then O y else Y y

theorem YN_zero (O Y : Vec F TY .f32) : YN 0 O Y = Y := funext fun y => if_neg (by omega)
theorem YN_all (O Y : Vec F TY .f32) : YN 12 O Y = O := funext fun y => if_pos (y 0).isLt

theorem YN_step (n : Nat) (O Y : Vec F TY .f32) (v : TY.Idx → F .f32) (hv : ∀ y : TY.Idx, (y 0).val = n → v y = O y) :
    (fun y => if (y 0).val = n then v y else YN n O Y y) = YN (n + 1) O Y := by
  funext y
  unfold YN
  by_cases h : (y 0).val = n
  · rw [if_pos h, if_pos (by omega), hv y h]
  · rw [if_neg h]; exact if_congr (by omega) rfl rfl

/-- Row `a`, column `b` of a product. -/
def ip (a b : Nat) : TP.Idx := fun x => match x with
  | ⟨0, _⟩ => ⟨a % 512, Nat.mod_lt _ (Nat.succ_pos 511)⟩
  | ⟨1, _⟩ => ⟨b % 256, Nat.mod_lt _ (Nat.succ_pos 255)⟩

/-- A product's two column halves as the accumulator's planes. -/
def accOf (P : FVec F TP .f32) : Vec F TAcc .f32 := fun y => P (ip (y 1).val (128 * (y 0).val + (y 2).val))

theorem ovH (X : Vec F TAcc .f32) (q : Nat) (hq : q < 2) (w : FVec F TPh .f32) (y : TAcc.Idx) (v : F .f32)
    (hv : (y 0).val = q → w (fun x => match x with | ⟨0, _⟩ => ⟨(y 1).val % 512, Nat.mod_lt _ (Nat.succ_pos 511)⟩ | ⟨1, _⟩ => ⟨(y 2).val % 128, Nat.mod_lt _ (Nat.succ_pos 127)⟩) = v) :
    (Rect.unit (s := TAcc) ![q, 0, 0] T1Ph.size (inb_half q hq)).overlay X (shapeCast T1Ph w sc_Ph_1Ph) y = if (y 0).val = q then v else X y := by
  have h0 := (y 0).isLt
  have h1 := (y 1).isLt
  have h2 := (y 2).isLt
  simp at h0 h1 h2
  refine (overlay_unit _ _ _ X _ y (fun x => match x with
    | ⟨0, _⟩ => ⟨0, Nat.one_pos⟩ | ⟨1, _⟩ => ⟨(y 1).val % 512, Nat.mod_lt _ (Nat.succ_pos 511)⟩ | ⟨2, _⟩ => ⟨(y 2).val % 128, Nat.mod_lt _ (Nat.succ_pos 127)⟩)
    ((y 0).val = q) ?_ ?_).trans ?_
  · simp [Fin.forall_fin_succ]; omega
  · simp [Fin.forall_fin_succ]; omega
  · by_cases h : (y 0).val = q
    · rw [if_pos h, if_pos h, ← hv h]
      refine (shapeCast_addUnit_apply ![512, 128] w sc_Ph_1Ph _).trans ?_
      congr 1
      funext a
      exact match a with
      | ⟨0, _⟩ => rfl
      | ⟨1, _⟩ => rfl
    · rw [if_neg h, if_neg h]

theorem stP_val (X : Vec F TAcc .f32) (v : FVec F TP .f32) :
    (Rect.unit (s := TAcc) ![1, 0, 0] T1Ph.size (inb_half 1 (by decide))).overlay
      ((Rect.unit (s := TAcc) ![0, 0, 0] T1Ph.size (inb_half 0 (by decide))).overlay X (shapeCast T1Ph (extractStridedSlice TPh ![0, 0] v slc_lo) sc_Ph_1Ph))
      (shapeCast T1Ph (extractStridedSlice TPh ![0, 128] v slc_hi) sc_Ph_1Ph) = accOf v := by
  funext y
  have h0 := (y 0).isLt
  have h1 := (y 1).isLt
  have h2 := (y 2).isLt
  simp at h0 h1 h2
  refine (ovH _ 1 (by decide) _ y (accOf v y) fun h => ?_).trans ?_
  · refine extractStridedSlice_apply _ v slc_hi _ (ip (y 1).val (128 * (y 0).val + (y 2).val)) fun a => ?_
    exact match a with
    | ⟨0, _⟩ => by show (y 1).val % 512 = 0 + (y 1).val % 512; omega
    | ⟨1, _⟩ => by show (128 * (y 0).val + (y 2).val) % 256 = 128 + (y 2).val % 128; omega
  · by_cases h : (y 0).val = 1
    · rw [if_pos h]
    · rw [if_neg h]
      refine (ovH _ 0 (by decide) _ y (accOf v y) fun h => ?_).trans (if_pos (by omega))
      refine extractStridedSlice_apply _ v slc_lo _ (ip (y 1).val (128 * (y 0).val + (y 2).val)) fun a => ?_
      exact match a with
      | ⟨0, _⟩ => by show (y 1).val % 512 = 0 + (y 1).val % 512; omega
      | ⟨1, _⟩ => by show (128 * (y 0).val + (y 2).val) % 256 = 0 + (y 2).val % 128; omega

/-- Row block `j` of the codes. -/
def xrows (X : Vec F TX .fp8e5m2) (j : Nat) : FVec F TXj .fp8e5m2 := fun z => X fun x => match x with
  | ⟨0, _⟩ => ⟨(256 * j + (z 0).val) % 1536, Nat.mod_lt _ (Nat.succ_pos 1535)⟩
  | ⟨1, _⟩ => z 1

theorem xrows_load (X : Vec F TX .fp8e5m2) (j : Nat) (hj : j < 6) :
    shapeCast TXj (fun z => X ((Rect.unit (s := TX) ![256 * j, 0] TXj.size (inb_X j hj)).toLoadRect.idx z)) sc_Xj = xrows X j := by
  refine (shapeCast_self _ _).trans (funext fun z => ?_)
  have h0 := (z 0).isLt
  simp at h0
  refine congrArg X (funext fun a => Fin.ext ?_)
  exact match a with
  | ⟨0, _⟩ => by show 256 * j + 1 * (z 0).val = (256 * j + (z 0).val) % 1536; omega
  | ⟨1, _⟩ => by show 0 + 1 * (z 1).val = (z 1).val; omega

theorem W_load (W : Vec F TW .fp8e4m3) :
    shapeCast TW (fun z => W ((Rect.unit (s := TW) ![0, 0] TW.size inb_W).toLoadRect.idx z)) sc_W = W := by
  refine (shapeCast_self _ _).trans (funext fun z => congrArg W (funext fun a => Fin.ext ?_))
  exact match a with
  | ⟨0, _⟩ => by show 0 + 1 * (z 0).val = (z 0).val; omega
  | ⟨1, _⟩ => by show 0 + 1 * (z 1).val = (z 1).val; omega

theorem S_load (S : Vec F TS .f32) :
    shapeCast TS (fun z => S ((Rect.unit (s := TS) ![0, 0] TS.size inb_S).toLoadRect.idx z)) sc_S = S := by
  refine (shapeCast_self _ _).trans (funext fun z => congrArg S (funext fun a => Fin.ext ?_))
  exact match a with
  | ⟨0, _⟩ => by show 0 + 1 * (z 0).val = (z 0).val; omega
  | ⟨1, _⟩ => by show 0 + 1 * (z 1).val = (z 1).val; omega

/-- Column `l` of plane `p`'s factors. -/
def gsG (G : Vec F TG .f32) (p l : Nat) : F .f32 := G fun x => match x with
  | ⟨0, _⟩ => ⟨0, Nat.one_pos⟩
  | ⟨1, _⟩ => ⟨(128 * p + l) % 1536, Nat.mod_lt _ (Nat.succ_pos 1535)⟩

theorem gs_load (G : Vec F TG .f32) (p : Nat) (hp : p < 12) (l : Nat) (hl : l < 128) :
    gsAt (shapeCast TGs (fun z => G ((Rect.unit (s := TG) ![0, 128 * p] TGs.size (inb_G p hp)).toLoadRect.idx z)) sc_Gs) l = gsG G p l := by
  refine (congrFun (shapeCast_self _ sc_Gs) _).trans ?_
  refine congrArg G (funext fun a => Fin.ext ?_)
  exact match a with
  | ⟨0, _⟩ => rfl
  | ⟨1, _⟩ => by show 128 * p + 1 * (l % 128) = (128 * p + l) % 1536; omega

/-- The product from the shifted codes. -/
def prodA (W : Vec F TW .fp8e4m3) (x : FVec F TXj .fp8e5m2) (s : FVec F TS .bf16) : FVec F TP .f32 :=
  mulf (matmul dotP none (W : FVec F TW .fp8e4m3) x (constant TP .f32 0x00000000#32)) (broadcastTo TP (shift s) bc_11_P)

/-- The product from the plain codes. -/
def prodB (W : Vec F TW .fp8e4m3) (x : FVec F TXj .fp8e5m2) (s : FVec F TS .bf16) : FVec F TP .f32 :=
  matmul dotP none (mulf (extf .bf16 (W : FVec F TW .fp8e4m3) lt_e4m3) (broadcastTo TW s bc_S_W)) (extf .bf16 x lt_e5m2) (constant TP .f32 0x00000000#32)

/-- The flag. -/
def flv (f : Vec F T1 .i32) : BitVec 32 := f fun x => ⟨0, by revert x; decide⟩

/-- One pair of planes' product. -/
def prod (f : Vec F T1 .i32) (W : Vec F TW .fp8e4m3) (X X' : Vec F TX .fp8e5m2) (s : FVec F TS .bf16) (j : Nat) : FVec F TP .f32 :=
  if flv f = 0#32 then prodA W (xrows X j) s else prodB W (xrows X' j) s

/-- What the body leaves in its output block. -/
def outY (f : Vec F T1 .i32) (W : Vec F TW .fp8e4m3) (X X' : Vec F TX .fp8e5m2) (S : Vec F TS .f32) (G : Vec F TG .f32) : Vec F TY .f32 := fun y =>
  FloatOps.mulf (wht (fun a l => prod f W X X' (truncf .bf16 (S : FVec F TS .f32) lt_bf16) ((y 0).val / 2) (ip a (128 * ((y 0).val % 2) + l))) (y 2).val (y 3).val) (gsG G (y 0).val (y 3).val)
end Values

section Run
variable {F : FTy → Type} [FloatOps F] {nD : Nat} {τ : Topo} {sig : RefSig} {Λ : Labels} {Ix : Type} [DecidableEq Ix]
variable {Name : Type} [DecidableEq Name] {U : Type} [URA U] {Lvl : Type}
variable [Preorder Lvl] {defs : Defs nD τ sig (Elt F) Λ} (𝒱 : Variants) (c : Dev nD) (bd : Option 𝒱.V) (E : Set Name)
variable {Q : PUnit.{1} → sProp (MT nD τ sig Ix (Elt F) Name U Lvl)}

/-- Stage one's group `r`. -/
theorem g1_wp (m : Memref sig .tc .vmem TAcc .f32) (q r : Nat) (hq : q < 2) (hr : r < 8) (X : Vec F TAcc .f32) :
    iprop(owns (c : Thread nD τ) m fullShare (S1 q r X) ∗ (owns (c : Thread nD τ) m fullShare (S1 q (r + 1) X) -∗ Q ⟨⟩))
      ⊢ wp frame (wpE defs 𝒱 (c : Thread nD τ) bd) E (g1 (F := F) m q r hq hr) Q := by
  rw [← g1_val q r hq hr X (fun i => if hi : i < 8 then shapeCast T8 (fun z => S1 q r X ((r1 q i r hq hi hr).toLoadRect.idx z)) sc_1x8 else fun _ => X (ia 0 0 0))
    (fun i hi => dif_pos hi)]
  unfold g1 ld1 st1
  iintro ⟨H, Hk⟩
  iterate 8 (iapply (wp_load_owns 𝒱 (c : Thread nD τ) bd E) $$ H; iintro H)
  iterate 8 (iapply (wp_load_owns 𝒱 (c : Thread nD τ) bd E) $$ H; iintro H; iapply (wp_store_owns 𝒱 (c : Thread nD τ) bd E) $$ H; iintro H)
  sl_step
  iapply Hk
  iexact H

/-- Stage two's group `h`. -/
theorem g2_wp (m : Memref sig .tc .vmem TAcc .f32) (m2 : Memref sig .tc .vmem TMid .f32) (q h : Nat) (hq : q < 2) (hh : h < 8) (A : Vec F TAcc .f32) (M : Vec F TMid .f32) :
    iprop(owns (c : Thread nD τ) m fullShare A ∗ owns (c : Thread nD τ) m2 fullShare (S2 q h A M)
        ∗ (owns (c : Thread nD τ) m fullShare A -∗ owns (c : Thread nD τ) m2 fullShare (S2 q (h + 1) A M) -∗ Q ⟨⟩))
      ⊢ wp frame (wpE defs 𝒱 (c : Thread nD τ) bd) E (g2 (F := F) m m2 q h hq hh) Q := by
  rw [← g2_val q h hq hh A M (fun i => if hi : i < 8 then shapeCast T8 (fun z => A ((r1 q h i hq hh hi).toLoadRect.idx z)) sc_1x8 else fun _ => A (ia 0 0 0))
    (fun i hi => dif_pos hi)]
  unfold g2 ld1 st2
  iintro ⟨H, H2, Hk⟩
  iterate 8 (iapply (wp_load_owns 𝒱 (c : Thread nD τ) bd E) $$ H; iintro H)
  iterate 8 (iapply (wp_load_owns 𝒱 (c : Thread nD τ) bd E) $$ H2; iintro H2; iapply (wp_store_owns 𝒱 (c : Thread nD τ) bd E) $$ H2; iintro H2)
  sl_step
  iapply Hk $$ H
  iexact H2

/-- Stage three's group `h`. -/
theorem g3_wp (m2 : Memref sig .tc .vmem TMid .f32) (m3 : Memref sig .tc .vmem TY .f32) (gs : FVec F TGs .f32) (p h : Nat) (hp : p < 12) (hh : h < 8) (M : Vec F TMid .f32) (Y : Vec F TY .f32) :
    iprop(owns (c : Thread nD τ) m2 fullShare M ∗ owns (c : Thread nD τ) m3 fullShare (S3 p h gs M Y)
        ∗ (owns (c : Thread nD τ) m2 fullShare M -∗ owns (c : Thread nD τ) m3 fullShare (S3 p (h + 1) gs M Y) -∗ Q ⟨⟩))
      ⊢ wp frame (wpE defs 𝒱 (c : Thread nD τ) bd) E (g3 (F := F) m2 m3 gs p h hp hh) Q := by
  rw [← g3_val p h hp hh gs M Y (fun i => if hi : i < 8 then (fun z => M ((r4 h i hh hi).idx z)) else fun _ => M (im 0 0))
    (fun i hi => dif_pos hi)]
  unfold g3 ld4 st3
  iintro ⟨H, H2, Hk⟩
  iterate 8 (iapply (wp_load_owns 𝒱 (c : Thread nD τ) bd E) $$ H; iintro H)
  iterate 8 (iapply (wp_load_owns 𝒱 (c : Thread nD τ) bd E) $$ H2; iintro H2; iapply (wp_store_owns 𝒱 (c : Thread nD τ) bd E) $$ H2; iintro H2)
  sl_step
  iapply Hk $$ H
  iexact H2

/-- One plane: the output's next plane. -/
theorem plane_wp (mg : Memref sig .tc .vmem TG .f32) (m : Memref sig .tc .vmem TAcc .f32) (m2 : Memref sig .tc .vmem TMid .f32) (m3 : Memref sig .tc .vmem TY .f32)
    (q p : Nat) (hq : q < 2) (hp : p < 12) (K : PU F nD τ sig Λ) (G : Vec F TG .f32) (A : Vec F TAcc .f32) (O Y : Vec F TY .f32)
    (hO : ∀ y : TY.Idx, (y 0).val = p → FloatOps.mulf (wht (fun a l => A (ia q a l)) (y 2).val (y 3).val) (gsG G p (y 3).val) = O y) :
    iprop(owns (c : Thread nD τ) mg fullShare G ∗ owns (c : Thread nD τ) m fullShare A ∗ (∃ M, owns (c : Thread nD τ) m2 fullShare M) ∗ owns (c : Thread nD τ) m3 fullShare (YN p O Y)
        ∗ (owns (c : Thread nD τ) mg fullShare G -∗ owns (c : Thread nD τ) m fullShare (S1 q 8 A) -∗ (∃ M, owns (c : Thread nD τ) m2 fullShare M)
            -∗ owns (c : Thread nD τ) m3 fullShare (YN (p + 1) O Y) -∗ wp frame (wpE defs 𝒱 (c : Thread nD τ) bd) E K Q))
      ⊢ wp frame (wpE defs 𝒱 (c : Thread nD τ) bd) E (plane (F := F) mg m m2 m3 q p hq hp K) Q := by
  unfold plane
  iintro ⟨Hg, H, ⟨%M, H2⟩, H3, Hk⟩
  iapply (wp_load_owns 𝒱 (c : Thread nD τ) bd E) $$ Hg
  iintro Hg
  ihave H := (show owns (c : Thread nD τ) m fullShare A ⊢ owns (c : Thread nD τ) m fullShare (S1 q 0 A) from (S1_zero q A).symm ▸ .rfl) $$ H
  iterate 8 (iapply (wp_seq 𝒱 (c : Thread nD τ) bd E); iapply (g1_wp 𝒱 c bd E m q _ hq _ A); isplitl [H]; (· iexact H); iintro H)
  ihave H2 := (show owns (c : Thread nD τ) m2 fullShare M ⊢ owns (c : Thread nD τ) m2 fullShare (S2 q 0 (S1 q 8 A) M) from (S2_zero q _ M).symm ▸ .rfl) $$ H2
  iterate 8 (iapply (wp_seq 𝒱 (c : Thread nD τ) bd E); iapply (g2_wp 𝒱 c bd E m m2 q _ hq _ (S1 q 8 A) M); isplitl [H]; (· iexact H); isplitl [H2]; (· iexact H2); iintro H H2)
  ihave H3 := (show owns (c : Thread nD τ) m3 fullShare (YN p O Y) ⊢ owns (c : Thread nD τ) m3 fullShare (S3 (F := F) p 0 (shapeCast TGs (fun z => G ((Rect.unit (s := TG) ![0, 128 * p] TGs.size (inb_G p hp)).toLoadRect.idx z)) sc_Gs) (S2 q 8 (S1 q 8 A) M) (YN p O Y)) from by rw [S3_zero]) $$ H3
  iterate 8 (iapply (wp_seq 𝒱 (c : Thread nD τ) bd E); iapply (g3_wp 𝒱 c bd E m2 m3 _ p _ hp _ (S2 q 8 (S1 q 8 A) M) (YN p O Y)); isplitl [H2]; (· iexact H2); isplitl [H3]; (· iexact H3); iintro H2 H3)
  iapply Hk $$ Hg H [H2] [H3]
  · iexists _; iexact H2
  · rw [← YN_step p O Y (fun y => FloatOps.mulf (wht (fun a l => A (ia q a l)) (y 2).val (y 3).val)
        (gsAt (shapeCast TGs (fun z => G ((Rect.unit (s := TG) ![0, 128 * p] TGs.size (inb_G p hp)).toLoadRect.idx z)) sc_Gs) (y 3).val))
      (fun y hy => by rw [gs_load G p hp (y 3).val (y 3).isLt]; exact hO y hy), ← plane_val q p hq _ A M]
    iexact H3

/-- Storing a product. -/
theorem stP_wp (m : Memref sig .tc .vmem TAcc .f32) (v : FVec F TP .f32) :
    iprop((∃ A, owns (c : Thread nD τ) m fullShare A) ∗ (owns (c : Thread nD τ) m fullShare (accOf v) -∗ Q ⟨⟩))
      ⊢ wp frame (wpE defs 𝒱 (c : Thread nD τ) bd) E (stP (F := F) m v) Q := by
  unfold stP
  iintro ⟨⟨%A, H⟩, Hk⟩
  rw [← stP_val A v]
  iterate 2 (iapply (wp_load_owns 𝒱 (c : Thread nD τ) bd E) $$ H; iintro H; iapply (wp_store_owns 𝒱 (c : Thread nD τ) bd E) $$ H; iintro H)
  sl_step
  iapply Hk
  iexact H

/-- The first branch. -/
theorem brA_wp (mw : Memref sig .tc .vmem TW .fp8e4m3) (mx : Memref sig .tc .vmem TX .fp8e5m2) (m : Memref sig .tc .vmem TAcc .f32)
    (s : FVec F TS .bf16) (j : Nat) (hj : j < 6) (W : Vec F TW .fp8e4m3) (X : Vec F TX .fp8e5m2) :
    iprop(owns (c : Thread nD τ) mw fullShare W ∗ owns (c : Thread nD τ) mx fullShare X ∗ (∃ A, owns (c : Thread nD τ) m fullShare A)
        ∗ (owns (c : Thread nD τ) mw fullShare W -∗ owns (c : Thread nD τ) mx fullShare X -∗ owns (c : Thread nD τ) m fullShare (accOf (prodA W (xrows X j) s)) -∗ Q ⟨⟩))
      ⊢ wp frame (wpE defs 𝒱 (c : Thread nD τ) bd) E (brA (F := F) mw mx m s j hj) Q := by
  unfold brA
  iintro ⟨Hw, Hx, H, Hk⟩
  iapply (wp_load_owns 𝒱 (c : Thread nD τ) bd E) $$ Hw
  iintro Hw
  iapply (wp_load_owns 𝒱 (c : Thread nD τ) bd E) $$ Hx
  iintro Hx
  iapply (stP_wp 𝒱 c bd E m _)
  isplitl [H]; · iexact H
  iintro H
  iapply Hk $$ Hw Hx
  unfold prodA
  rw [← xrows_load X j hj]
  conv => rhs; rw [← W_load W]
  iexact H

/-- The second branch. -/
theorem brB_wp (mw : Memref sig .tc .vmem TW .fp8e4m3) (mx : Memref sig .tc .vmem TX .fp8e5m2) (m : Memref sig .tc .vmem TAcc .f32)
    (s : FVec F TS .bf16) (j : Nat) (hj : j < 6) (W : Vec F TW .fp8e4m3) (X : Vec F TX .fp8e5m2) :
    iprop(owns (c : Thread nD τ) mw fullShare W ∗ owns (c : Thread nD τ) mx fullShare X ∗ (∃ A, owns (c : Thread nD τ) m fullShare A)
        ∗ (owns (c : Thread nD τ) mw fullShare W -∗ owns (c : Thread nD τ) mx fullShare X -∗ owns (c : Thread nD τ) m fullShare (accOf (prodB W (xrows X j) s)) -∗ Q ⟨⟩))
      ⊢ wp frame (wpE defs 𝒱 (c : Thread nD τ) bd) E (brB (F := F) mw mx m s j hj) Q := by
  unfold brB
  iintro ⟨Hw, Hx, H, Hk⟩
  iapply (wp_load_owns 𝒱 (c : Thread nD τ) bd E) $$ Hw
  iintro Hw
  iapply (wp_load_owns 𝒱 (c : Thread nD τ) bd E) $$ Hx
  iintro Hx
  iapply (stP_wp 𝒱 c bd E m _)
  isplitl [H]; · iexact H
  iintro H
  iapply Hk $$ Hw Hx
  unfold prodB
  rw [← xrows_load X j hj]
  conv => rhs; rw [← W_load W]
  iexact H

/-- Reading the flag. -/
theorem flag_wp (mf : Memref sig .tc .smem T1 .i32) (f : Vec F T1 .i32) (K : BitVec 32 → PU F nD τ sig Λ) :
    iprop(owns (c : Thread nD τ) mf fullShare f ∗ (owns (c : Thread nD τ) mf fullShare f -∗ wp frame (wpE defs 𝒱 (c : Thread nD τ) bd) E (K (flv f)) Q))
      ⊢ wp frame (wpE defs 𝒱 (c : Thread nD τ) bd) E (flag (F := F) mf K) Q := by
  unfold flag
  iintro ⟨H, Hk⟩
  iapply (wp_smem_owns 𝒱 (c : Thread nD τ) bd E) $$ H
  iintro H
  have e : ∀ x : T1.Idx, f x = flv f := fun x => congrArg f (funext fun a => Fin.ext (by
    have h := (x a).isLt
    have e : ∀ a : Fin T1.rank, T1.size a = 1 := by decide
    have h2 := e a
    show (x a).val = 0; omega))
  rw [e]
  iapply Hk
  iexact H

theorem cond_eq (v : BitVec 32) : (Scalar.cmpi .ne (Scalar.extui (Scalar.cmpi .eq v 0#32) : BitVec 32) 0#32 = 1#1) ↔ v = 0#32 := by
  by_cases h : v = 0#32
  · subst h; decide
  · have : (v == 0#32) = false := by simpa using h
    simp only [Scalar.cmpi, IntOp.cmpi, this, h, iff_false]; decide

theorem cond_ne (v : BitVec 32) : (Scalar.cmpi .ne (Scalar.extui (Scalar.cmpi .ne v 0#32) : BitVec 32) 0#32 = 1#1) ↔ ¬ v = 0#32 := by
  by_cases h : v = 0#32
  · subst h; decide
  · have : (v != 0#32) = true := by simpa using h
    simp only [Scalar.cmpi, IntOp.cmpi, this, h, not_false_eq_true, iff_true]; decide

/-- One pair of planes' product. -/
theorem br_wp (mf : Memref sig .tc .smem T1 .i32) (mw : Memref sig .tc .vmem TW .fp8e4m3) (mx mx' : Memref sig .tc .vmem TX .fp8e5m2) (m : Memref sig .tc .vmem TAcc .f32)
    (s : FVec F TS .bf16) (j : Nat) (hj : j < 6) (K : PU F nD τ sig Λ) (f : Vec F T1 .i32) (W : Vec F TW .fp8e4m3) (X X' : Vec F TX .fp8e5m2) :
    iprop(owns (c : Thread nD τ) mf fullShare f ∗ owns (c : Thread nD τ) mw fullShare W ∗ owns (c : Thread nD τ) mx fullShare X ∗ owns (c : Thread nD τ) mx' fullShare X'
        ∗ (∃ A, owns (c : Thread nD τ) m fullShare A)
        ∗ (owns (c : Thread nD τ) mf fullShare f -∗ owns (c : Thread nD τ) mw fullShare W -∗ owns (c : Thread nD τ) mx fullShare X -∗ owns (c : Thread nD τ) mx' fullShare X'
            -∗ owns (c : Thread nD τ) m fullShare (accOf (prod f W X X' s j)) -∗ wp frame (wpE defs 𝒱 (c : Thread nD τ) bd) E K Q))
      ⊢ wp frame (wpE defs 𝒱 (c : Thread nD τ) bd) E (br (F := F) mf mw mx mx' m s j hj K) Q := by
  unfold br
  simp only [cond_eq, cond_ne]
  unfold prod
  iintro ⟨Hf, Hw, Hx, Hx', H, Hk⟩
  iapply (flag_wp 𝒱 c bd E mf f _)
  isplitl [Hf]; · iexact Hf
  iintro Hf
  by_cases h : flv f = 0#32
  · rw [if_pos h, if_pos h]
    iapply (wp_seq 𝒱 (c : Thread nD τ) bd E)
    iapply (brA_wp 𝒱 c bd E mw mx m s j hj W X)
    isplitl [Hw]; · iexact Hw
    isplitl [Hx]; · iexact Hx
    isplitl [H]; · iexact H
    iintro Hw Hx H
    iapply (flag_wp 𝒱 c bd E mf f _)
    isplitl [Hf]; · iexact Hf
    iintro Hf
    rw [if_neg (not_not.2 h)]
    iapply Hk $$ Hf Hw Hx Hx' H
  · rw [if_neg h, if_neg h]
    iapply (flag_wp 𝒱 c bd E mf f _)
    isplitl [Hf]; · iexact Hf
    iintro Hf
    rw [if_pos h]
    iapply (wp_seq 𝒱 (c : Thread nD τ) bd E)
    iapply (brB_wp 𝒱 c bd E mw mx' m s j hj W X')
    isplitl [Hw]; · iexact Hw
    isplitl [Hx']; · iexact Hx'
    isplitl [H]; · iexact H
    iintro Hw Hx' H
    iapply Hk $$ Hf Hw Hx Hx' H

theorem acc_lo (P : FVec F TP .f32) (a l : Nat) (hl : l < 128) : accOf P (ia 0 a l) = P (ip a (128 * 0 + l)) := by
  refine congrArg P (funext fun x => Fin.ext ?_)
  exact match x with
  | ⟨0, _⟩ => by show a % 512 % 512 = a % 512; omega
  | ⟨1, _⟩ => by show (128 * (0 % 2) + l % 128) % 256 = (128 * 0 + l) % 256; omega

theorem acc_hi (P : FVec F TP .f32) (a l : Nat) (hl : l < 128) : S1 0 8 (accOf P) (ia 1 a l) = P (ip a (128 * 1 + l)) := by
  refine (if_neg (show ¬ (1 % 2 = 0 ∧ a % 512 % 64 / 8 < 8) by omega)).trans ?_
  refine congrArg P (funext fun x => Fin.ext ?_)
  exact match x with
  | ⟨0, _⟩ => by show a % 512 % 512 = a % 512; omega
  | ⟨1, _⟩ => by show (128 * (1 % 2) + l % 128) % 256 = (128 * 1 + l) % 256; omega

theorem outY_lo (f : Vec F T1 .i32) (W : Vec F TW .fp8e4m3) (X X' : Vec F TX .fp8e5m2) (S : Vec F TS .f32) (G : Vec F TG .f32) (j : Nat) (y : TY.Idx) (hy : (y 0).val = 2 * j) :
    FloatOps.mulf (wht (fun a l => accOf (prod f W X X' (truncf .bf16 (S : FVec F TS .f32) lt_bf16) j) (ia 0 a l)) (y 2).val (y 3).val) (gsG G (2 * j) (y 3).val) = outY f W X X' S G y := by
  unfold outY wht
  rw [hy, show 2 * j / 2 = j by omega, show 2 * j % 2 = 0 by omega]
  simp only [acc_lo _ _ _ (show (y 3).val < 128 from (y 3).isLt)]

theorem outY_hi (f : Vec F T1 .i32) (W : Vec F TW .fp8e4m3) (X X' : Vec F TX .fp8e5m2) (S : Vec F TS .f32) (G : Vec F TG .f32) (j : Nat) (y : TY.Idx) (hy : (y 0).val = 2 * j + 1) :
    FloatOps.mulf (wht (fun a l => S1 0 8 (accOf (prod f W X X' (truncf .bf16 (S : FVec F TS .f32) lt_bf16) j)) (ia 1 a l)) (y 2).val (y 3).val) (gsG G (2 * j + 1) (y 3).val) = outY f W X X' S G y := by
  unfold outY wht
  rw [hy, show (2 * j + 1) / 2 = j by omega, show (2 * j + 1) % 2 = 1 by omega]
  simp only [acc_hi _ _ _ (show (y 3).val < 128 from (y 3).isLt)]

set_option maxHeartbeats 1000000 in
/-- The whole body: its inputs as they were, the output block at `outY`, the scratch at something. -/
theorem body_wp (mf : Memref sig .tc .smem T1 .i32) (mw : Memref sig .tc .vmem TW .fp8e4m3) (mx mx' : Memref sig .tc .vmem TX .fp8e5m2)
    (ms : Memref sig .tc .vmem TS .f32) (mg : Memref sig .tc .vmem TG .f32) (m3 : Memref sig .tc .vmem TY .f32)
    (m : Memref sig .tc .vmem TAcc .f32) (m2 : Memref sig .tc .vmem TMid .f32)
    (f : Vec F T1 .i32) (W : Vec F TW .fp8e4m3) (X X' : Vec F TX .fp8e5m2) (S : Vec F TS .f32) (G : Vec F TG .f32) :
    iprop(owns (c : Thread nD τ) mf fullShare f ∗ owns (c : Thread nD τ) mw fullShare W ∗ owns (c : Thread nD τ) mx fullShare X ∗ owns (c : Thread nD τ) mx' fullShare X'
        ∗ owns (c : Thread nD τ) ms fullShare S ∗ owns (c : Thread nD τ) mg fullShare G ∗ (∃ Y, owns (c : Thread nD τ) m3 fullShare Y)
        ∗ (∃ A, owns (c : Thread nD τ) m fullShare A) ∗ (∃ M, owns (c : Thread nD τ) m2 fullShare M)
        ∗ (iprop(owns (c : Thread nD τ) mf fullShare f ∗ owns (c : Thread nD τ) mw fullShare W ∗ owns (c : Thread nD τ) mx fullShare X ∗ owns (c : Thread nD τ) mx' fullShare X'
        ∗ owns (c : Thread nD τ) ms fullShare S ∗ owns (c : Thread nD τ) mg fullShare G ∗ owns (c : Thread nD τ) m3 fullShare (outY f W X X' S G)
        ∗ (∃ A, owns (c : Thread nD τ) m fullShare A) ∗ (∃ M, owns (c : Thread nD τ) m2 fullShare M)) -∗ Q ⟨⟩))
      ⊢ wp frame (wpE defs 𝒱 (c : Thread nD τ) bd) E (body (F := F) mf mw mx mx' ms mg m3 m m2) Q := by
  unfold body ldS
  iintro ⟨Hf, Hw, Hx, Hx', Hs, Hg, ⟨%Y, H3⟩, H, H2, Hk⟩
  iapply (wp_load_owns 𝒱 (c : Thread nD τ) bd E) $$ Hs
  iintro Hs
  rw [S_load]
  ihave H3 := (show owns (c : Thread nD τ) m3 fullShare Y ⊢ owns (c : Thread nD τ) m3 fullShare (YN (2 * 0) (outY f W X X' S G) Y) from (YN_zero _ Y).symm ▸ .rfl) $$ H3
  iapply (br_wp 𝒱 c bd E mf mw mx mx' m _ 0 _ _ f W X X')
  isplitl [Hf]; · iexact Hf
  isplitl [Hw]; · iexact Hw
  isplitl [Hx]; · iexact Hx
  isplitl [Hx']; · iexact Hx'
  isplitl [H]; · iexact H
  iintro Hf Hw Hx Hx' H
  iapply (plane_wp 𝒱 c bd E mg m m2 m3 0 (2 * 0) _ _ _ G (accOf (prod f W X X' (truncf .bf16 (S : FVec F TS .f32) lt_bf16) 0)) (outY f W X X' S G) Y (fun y hy => outY_lo f W X X' S G 0 y hy))
  isplitl [Hg]; · iexact Hg
  isplitl [H]; · iexact H
  isplitl [H2]; · iexact H2
  isplitl [H3]; · iexact H3
  iintro Hg H H2 H3
  iapply (plane_wp 𝒱 c bd E mg m m2 m3 1 (2 * 0 + 1) _ _ _ G (S1 0 8 (accOf (prod f W X X' (truncf .bf16 (S : FVec F TS .f32) lt_bf16) 0))) (outY f W X X' S G) Y (fun y hy => outY_hi f W X X' S G 0 y hy))
  isplitl [Hg]; · iexact Hg
  isplitl [H]; · iexact H
  isplitl [H2]; · iexact H2
  isplitl [H3]; · iexact H3
  iintro Hg H H2 H3
  ihave H := (show owns (c : Thread nD τ) m fullShare _ ⊢ iprop(∃ A, owns (c : Thread nD τ) m fullShare A) from by iintro H; iexists _; iexact H) $$ H
  iapply (br_wp 𝒱 c bd E mf mw mx mx' m _ 1 _ _ f W X X')
  isplitl [Hf]; · iexact Hf
  isplitl [Hw]; · iexact Hw
  isplitl [Hx]; · iexact Hx
  isplitl [Hx']; · iexact Hx'
  isplitl [H]; · iexact H
  iintro Hf Hw Hx Hx' H
  iapply (plane_wp 𝒱 c bd E mg m m2 m3 0 (2 * 1) _ _ _ G (accOf (prod f W X X' (truncf .bf16 (S : FVec F TS .f32) lt_bf16) 1)) (outY f W X X' S G) Y (fun y hy => outY_lo f W X X' S G 1 y hy))
  isplitl [Hg]; · iexact Hg
  isplitl [H]; · iexact H
  isplitl [H2]; · iexact H2
  isplitl [H3]; · iexact H3
  iintro Hg H H2 H3
  iapply (plane_wp 𝒱 c bd E mg m m2 m3 1 (2 * 1 + 1) _ _ _ G (S1 0 8 (accOf (prod f W X X' (truncf .bf16 (S : FVec F TS .f32) lt_bf16) 1))) (outY f W X X' S G) Y (fun y hy => outY_hi f W X X' S G 1 y hy))
  isplitl [Hg]; · iexact Hg
  isplitl [H]; · iexact H
  isplitl [H2]; · iexact H2
  isplitl [H3]; · iexact H3
  iintro Hg H H2 H3
  ihave H := (show owns (c : Thread nD τ) m fullShare _ ⊢ iprop(∃ A, owns (c : Thread nD τ) m fullShare A) from by iintro H; iexists _; iexact H) $$ H
  iapply (br_wp 𝒱 c bd E mf mw mx mx' m _ 2 _ _ f W X X')
  isplitl [Hf]; · iexact Hf
  isplitl [Hw]; · iexact Hw
  isplitl [Hx]; · iexact Hx
  isplitl [Hx']; · iexact Hx'
  isplitl [H]; · iexact H
  iintro Hf Hw Hx Hx' H
  iapply (plane_wp 𝒱 c bd E mg m m2 m3 0 (2 * 2) _ _ _ G (accOf (prod f W X X' (truncf .bf16 (S : FVec F TS .f32) lt_bf16) 2)) (outY f W X X' S G) Y (fun y hy => outY_lo f W X X' S G 2 y hy))
  isplitl [Hg]; · iexact Hg
  isplitl [H]; · iexact H
  isplitl [H2]; · iexact H2
  isplitl [H3]; · iexact H3
  iintro Hg H H2 H3
  iapply (plane_wp 𝒱 c bd E mg m m2 m3 1 (2 * 2 + 1) _ _ _ G (S1 0 8 (accOf (prod f W X X' (truncf .bf16 (S : FVec F TS .f32) lt_bf16) 2))) (outY f W X X' S G) Y (fun y hy => outY_hi f W X X' S G 2 y hy))
  isplitl [Hg]; · iexact Hg
  isplitl [H]; · iexact H
  isplitl [H2]; · iexact H2
  isplitl [H3]; · iexact H3
  iintro Hg H H2 H3
  ihave H := (show owns (c : Thread nD τ) m fullShare _ ⊢ iprop(∃ A, owns (c : Thread nD τ) m fullShare A) from by iintro H; iexists _; iexact H) $$ H
  iapply (br_wp 𝒱 c bd E mf mw mx mx' m _ 3 _ _ f W X X')
  isplitl [Hf]; · iexact Hf
  isplitl [Hw]; · iexact Hw
  isplitl [Hx]; · iexact Hx
  isplitl [Hx']; · iexact Hx'
  isplitl [H]; · iexact H
  iintro Hf Hw Hx Hx' H
  iapply (plane_wp 𝒱 c bd E mg m m2 m3 0 (2 * 3) _ _ _ G (accOf (prod f W X X' (truncf .bf16 (S : FVec F TS .f32) lt_bf16) 3)) (outY f W X X' S G) Y (fun y hy => outY_lo f W X X' S G 3 y hy))
  isplitl [Hg]; · iexact Hg
  isplitl [H]; · iexact H
  isplitl [H2]; · iexact H2
  isplitl [H3]; · iexact H3
  iintro Hg H H2 H3
  iapply (plane_wp 𝒱 c bd E mg m m2 m3 1 (2 * 3 + 1) _ _ _ G (S1 0 8 (accOf (prod f W X X' (truncf .bf16 (S : FVec F TS .f32) lt_bf16) 3))) (outY f W X X' S G) Y (fun y hy => outY_hi f W X X' S G 3 y hy))
  isplitl [Hg]; · iexact Hg
  isplitl [H]; · iexact H
  isplitl [H2]; · iexact H2
  isplitl [H3]; · iexact H3
  iintro Hg H H2 H3
  ihave H := (show owns (c : Thread nD τ) m fullShare _ ⊢ iprop(∃ A, owns (c : Thread nD τ) m fullShare A) from by iintro H; iexists _; iexact H) $$ H
  iapply (br_wp 𝒱 c bd E mf mw mx mx' m _ 4 _ _ f W X X')
  isplitl [Hf]; · iexact Hf
  isplitl [Hw]; · iexact Hw
  isplitl [Hx]; · iexact Hx
  isplitl [Hx']; · iexact Hx'
  isplitl [H]; · iexact H
  iintro Hf Hw Hx Hx' H
  iapply (plane_wp 𝒱 c bd E mg m m2 m3 0 (2 * 4) _ _ _ G (accOf (prod f W X X' (truncf .bf16 (S : FVec F TS .f32) lt_bf16) 4)) (outY f W X X' S G) Y (fun y hy => outY_lo f W X X' S G 4 y hy))
  isplitl [Hg]; · iexact Hg
  isplitl [H]; · iexact H
  isplitl [H2]; · iexact H2
  isplitl [H3]; · iexact H3
  iintro Hg H H2 H3
  iapply (plane_wp 𝒱 c bd E mg m m2 m3 1 (2 * 4 + 1) _ _ _ G (S1 0 8 (accOf (prod f W X X' (truncf .bf16 (S : FVec F TS .f32) lt_bf16) 4))) (outY f W X X' S G) Y (fun y hy => outY_hi f W X X' S G 4 y hy))
  isplitl [Hg]; · iexact Hg
  isplitl [H]; · iexact H
  isplitl [H2]; · iexact H2
  isplitl [H3]; · iexact H3
  iintro Hg H H2 H3
  ihave H := (show owns (c : Thread nD τ) m fullShare _ ⊢ iprop(∃ A, owns (c : Thread nD τ) m fullShare A) from by iintro H; iexists _; iexact H) $$ H
  iapply (br_wp 𝒱 c bd E mf mw mx mx' m _ 5 _ _ f W X X')
  isplitl [Hf]; · iexact Hf
  isplitl [Hw]; · iexact Hw
  isplitl [Hx]; · iexact Hx
  isplitl [Hx']; · iexact Hx'
  isplitl [H]; · iexact H
  iintro Hf Hw Hx Hx' H
  iapply (plane_wp 𝒱 c bd E mg m m2 m3 0 (2 * 5) _ _ _ G (accOf (prod f W X X' (truncf .bf16 (S : FVec F TS .f32) lt_bf16) 5)) (outY f W X X' S G) Y (fun y hy => outY_lo f W X X' S G 5 y hy))
  isplitl [Hg]; · iexact Hg
  isplitl [H]; · iexact H
  isplitl [H2]; · iexact H2
  isplitl [H3]; · iexact H3
  iintro Hg H H2 H3
  iapply (plane_wp 𝒱 c bd E mg m m2 m3 1 (2 * 5 + 1) _ _ _ G (S1 0 8 (accOf (prod f W X X' (truncf .bf16 (S : FVec F TS .f32) lt_bf16) 5))) (outY f W X X' S G) Y (fun y hy => outY_hi f W X X' S G 5 y hy))
  isplitl [Hg]; · iexact Hg
  isplitl [H]; · iexact H
  isplitl [H2]; · iexact H2
  isplitl [H3]; · iexact H3
  iintro Hg H H2 H3
  sl_step
  iapply Hk
  isplitl [Hf]; · iexact Hf
  isplitl [Hw]; · iexact Hw
  isplitl [Hx]; · iexact Hx
  isplitl [Hx']; · iexact Hx'
  isplitl [Hs]; · iexact Hs
  isplitl [Hg]; · iexact Hg
  isplitl [H3]
  · iapply (show owns (c : Thread nD τ) m3 fullShare (YN 12 (outY f W X X' S G) Y) ⊢ owns (c : Thread nD τ) m3 fullShare (outY f W X X' S G) from by rw [YN_all])
    iexact H3
  isplitl [H]; · iexists _; iexact H
  iexact H2
end Run
end Cert.Wht
-- ==== Proof.KernelMain.lean ====
/- The main call as one pipeline: what it leaves in its output, and its body's triple. -/
module

public import proofs.«01_k».proof.Proof.Gen.Kernel.Launch
public import proofs.«01_k».proof.Proof.Gen.Kernel.Points
public import proofs.«01_k».proof.Proof.KMainText
public import proofs.«01_k».proof.Proof.WhtRun
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option synthInstance.maxSize 4096
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)
variable (V : (c : Dev nD) → (b : Ref sig .tc) → Buf (Elt F) ((c : Thread nD τ).loc b))
/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S12x1x512x128 .f32 := (Memref.whole cc1_stg6_0 : Memref sig .tc .vmem S12x1x512x128 .f32).view
/-- Each window's current staging memref at point `t`, spelled as the pipeline passes it (`bodyAt1`), and its wholeness. -/
abbrev ms1_0 (t : Fin cfg1.N) : Memref sig .tc .smem S1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x5120 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1536x5120 .fp8e5m2 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1536x5120 .fp8e5m2 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x5120 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1536 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S12x1x512x128 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S2x512x128 .f32 := Memref.whole cc1_scratch0
abbrev scM1_1 : Memref sig .tc .vmem S576x128 .f32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## What the outputs hold after each point -/

/-- What the output's staging buffer holds after the body at point `t`: the butterflies of the product of
    the point's blocks. -/
def outsAt1 (c : Dev nD) (t : Fin cfg1.N) : Vec F S12x1x512x128 .f32 :=
  Wht.outY (iblk1 V c 0 t) (iblk1 V c 1 t) (iblk1 V c 2 t) (iblk1 V c 3 t) (iblk1 V c 4 t) (iblk1 V c 5 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  rw [cc1_eq]
  unfold outsAt1
  iintro ⟨⟨⟨HR0, HR1, HR2, HR3, HR4, HR5, HR6, HR7, HR8, HR9, HR10, HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (Wht.body_wp Variants.none c none Set.univ (ms1_0 t) (ms1_1 t) (ms1_2 t) (ms1_3 t) (ms1_4 t) (ms1_5 t) (ms1_6 t) scM1_0 scM1_1
    (iblk1 V c 0 t) (iblk1 V c 1 t) (iblk1 V c 2 t) (iblk1 V c 3 t) (iblk1 V c 4 t) (iblk1 V c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HR0 HR1 HR2 HR3 HR4 HR5 HR6 HR7 HR8 HR9 HR10 HS0 HS1 Hg]
  · isplitl [HR0 HR1 HR2 HR3 HR4 HR5 HR6 HR7 HR8 HR9 HR10 HS0 HS1]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Own
end
-- ==== Proof.KernelRun.lean ====
/- The whole program: its two calls and the host steps between them, from the launch to the return. -/
module

public import proofs.«01_k».proof.Proof.KernelQuantRun
public import proofs.«01_k».proof.Proof.KernelMain

@[expose] public section

set_option synthInstance.maxSize 4096
set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)
/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_c, main_v4, main_v5, main_v6]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8, main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every run of @main ends with every buffer of the core at its last boundary's contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- Every run of @main ends, nothing faulting, with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run_all m ρ)

end Cert.Kernel.Own
end
-- ==== Proof.KernelIdealQuant.lean ====
/- The quantise call's body as its loads, its stores and the values stored. -/
module

public import proofs.«01_k».proof.Proof.Gen.KernelIdeal

@[expose] public section

set_option synthInstance.maxSize 4096
set_option maxRecDepth 16384

noncomputable section

namespace Cert.KernelIdeal.Own

open Idealize.ShloMosaic
open Idealize.SL.Sem
open Cert.KernelIdeal Cert.KernelIdeal.Gen

variable {F : FTy → Type} [FloatOps F]
/-! ## `cc0_quantise` -/

/-- `%202 = vector.shape_cast %199 : vector<1x128xf32> to vector<1x1x128xf32>` of `cc0_quantise`,
   from the values read before it. Read by `tpu.vector_store %arg5[%c0_51, %c0_52, %c0_53], %202`. -/
noncomputable def k0_pay1 (v82 : FVec F S128x1 .f32) : FVec F S1x1x128 .f32 :=
  have v196 : FVec F S128x1 .f32 := shapeCast S128x1 v82 shapeCasts_S128x1_S128x1
  have v197 : FVec F S128x128 .f32 := broadcastTo S128x128 v196 broadcasts_S128x1_S128x128
  have v198 : FVec F S128x128 .f32 := transpose S128x128 [1, 0] v197 transposes_S128x128_p1_0_S128x128
  have v199 : FVec F S1x128 .f32 := extractStridedSlice S1x128 ![0, 0] v198 slices_S128x128_o0_0_S1x128
  have v202 : FVec F S1x1x128 .f32 := shapeCast S1x1x128 v199 shapeCasts_S1x128_S1x1x128
  v202

/-- `%209 = vector.shape_cast %206 : vector<1x128xi32> to vector<1x1x128xi32>` of `cc0_quantise`,
   from the values read before it. Read by `tpu.vector_store %arg6[%c0_54, %c0_55, %c0_56], %209`. -/
noncomputable def k0_pay2 (v99 : FVec F S1x5120 .f32) (v170 : FVec F S1x5120 .f32) (v173 : FVec F S128x5120 .f32) (v174 : FVec F S128x5120 .fp8e5m2) : IVec S1x1x128 32 :=
  have v176 : FVec F S128x5120 .f32 := extf .f32 v174 bitsLt_fp8e5m2_f32
  have v177 : IVec S128x5120 1 := cmpf .oeq v176 v173
  have v178 : IVec S128x5120 32 := broadcast S128x5120 0#32
  have v179 : IVec S128x5120 32 := broadcast S128x5120 1#32
  have v180 : IVec S128x5120 32 := select v177 v178 v179
  have v181 : FVec F S1x5120 .f32 := absf v170
  have cst_45 : F .f32 := Scalar.ofBits .f32 0x21800000#32
  have v182 : FVec F S1x5120 .f32 := broadcast S1x5120 cst_45
  have v183 : IVec S1x5120 1 := cmpf .oge v181 v182
  have cst_46 : F .f32 := Scalar.ofBits .f32 0x00000000#32
  have v184 : FVec F S1x5120 .f32 := broadcast S1x5120 cst_46
  have v185 : IVec S1x5120 1 := cmpf .oeq v99 v184
  have v186 : IVec S1x5120 1 := ori v183 v185
  have v187 : IVec S1x5120 32 := broadcast S1x5120 0#32
  have v188 : IVec S1x5120 32 := broadcast S1x5120 1#32
  have v189 : IVec S1x5120 32 := select v186 v187 v188
  have v190 : IVec S128 32 := multiReductionI .maxsi [1] S128 v180 2147483648#32 reduces_S128x5120_S128 rfl
  have v191 : IVec S128x1 32 := shapeCast S128x1 v190 shapeCasts_S128_S128x1
  have v192 : IVec S1 32 := multiReductionI .maxsi [1] S1 v189 2147483648#32 reduces_S1x5120_S1 rfl
  have v193 : IVec S1x1 32 := shapeCast S1x1 v192 shapeCasts_S1_S1x1
  have v194 : IVec S128x1 32 := broadcastTo S128x1 v193 broadcasts_S1x1_S128x1
  have v195 : IVec S128x1 32 := maxsi v191 v194
  have v203 : IVec S128x1 32 := shapeCast S128x1 v195 shapeCasts_S128x1_S128x1
  have v204 : IVec S128x128 32 := broadcastTo S128x128 v203 broadcasts_S128x1_S128x128
  have v205 : IVec S128x128 32 := transpose S128x128 [1, 0] v204 transposes_S128x128_p1_0_S128x128
  have v206 : IVec S1x128 32 := extractStridedSlice S1x128 ![0, 0] v205 slices_S128x128_o0_0_S1x128
  have v209 : IVec S1x1x128 32 := shapeCast S1x1x128 v206 shapeCasts_S1x128_S1x1x128
  v209

/-- `%2 = arith.extf %1 : vector<128x5120xbf16> to vector<128x5120xf32>` of `k0_part1`, from the
   values read before it. Read by the loop's rebinding, condition or exit; `k0_pay4`. -/
noncomputable def k0_pay3 (v0 : Vec F S128x5120 .bf16) : FVec F S128x5120 .f32 :=
  have v1 : FVec F S128x5120 .bf16 := shapeCast S128x5120 v0 shapeCasts_S128x5120_S128x5120
  have v2 : FVec F S128x5120 .f32 := extf .f32 v1 bitsLt_bf16_f32
  v2

/-- `%7 = arith.mulf %5, %6 : vector<128x1xf32>` of `k0_part1`, from the values read before it. Read
   by the loop's rebinding, condition or exit; `k0_pay5`. -/
noncomputable def k0_pay4 (v0 : Vec F S128x5120 .bf16) : FVec F S128x1 .f32 :=
  have v3 : FVec F S128x5120 .f32 := absf (k0_pay3 v0)
  have v4 : FVec F S128 .f32 := multiReduction .maximumf [1] S128 v3 0xFF800000#32 reduces_S128x5120_S128 (.inl rfl) rfl
  have v5 : FVec F S128x1 .f32 := shapeCast S128x1 v4 shapeCasts_S128_S128x1
  have cst_1 : F .f32 := Scalar.ofBits .f32 0x37924925#32
  have v6 : FVec F S128x1 .f32 := broadcast S128x1 cst_1
  have v7 : FVec F S128x1 .f32 := mulf v5 v6
  v7

/-- `%43 = arith.select %42, %36, %38 : vector<128x1xi1>, vector<128x1xi32>` of `k0_part1`, from the
   values read before it. Read by the loop's rebinding, condition or exit. -/
noncomputable def k0_pay5 (v0 : Vec F S128x5120 .bf16) : IVec S128x1 32 :=
  have v8 : IVec S128x1 32 := broadcast S128x1 0#32
  have v9 : IVec S128x1 32 := broadcast S128x1 128#32
  have v10 : IVec S128x1 32 := addi v8 v9
  have v11 : IVec S128x1 32 := broadcast S128x1 23#32
  have v12 : IVec S128x1 32 := shli v10 v11
  have v13 : FVec F S128x1 .f32 := bitcastToFloat .f32 v12
  have v14 : IVec S128x1 1 := cmpf .olt (k0_pay4 v0) v13
  have v15 : IVec S128x1 32 := select v14 v8 v10
  have v16 : IVec S128x1 32 := broadcast S128x1 64#32
  have v17 : IVec S128x1 32 := addi v15 v16
  have v18 : IVec S128x1 32 := broadcast S128x1 23#32
  have v19 : IVec S128x1 32 := shli v17 v18
  have v20 : FVec F S128x1 .f32 := bitcastToFloat .f32 v19
  have v21 : IVec S128x1 1 := cmpf .olt (k0_pay4 v0) v20
  have v22 : IVec S128x1 32 := select v21 v15 v17
  have v23 : IVec S128x1 32 := broadcast S128x1 32#32
  have v24 : IVec S128x1 32 := addi v22 v23
  have v25 : IVec S128x1 32 := broadcast S128x1 23#32
  have v26 : IVec S128x1 32 := shli v24 v25
  have v27 : FVec F S128x1 .f32 := bitcastToFloat .f32 v26
  have v28 : IVec S128x1 1 := cmpf .olt (k0_pay4 v0) v27
  have v29 : IVec S128x1 32 := select v28 v22 v24
  have v30 : IVec S128x1 32 := broadcast S128x1 16#32
  have v31 : IVec S128x1 32 := addi v29 v30
  have v32 : IVec S128x1 32 := broadcast S128x1 23#32
  have v33 : IVec S128x1 32 := shli v31 v32
  have v34 : FVec F S128x1 .f32 := bitcastToFloat .f32 v33
  have v35 : IVec S128x1 1 := cmpf .olt (k0_pay4 v0) v34
  have v36 : IVec S128x1 32 := select v35 v29 v31
  have v37 : IVec S128x1 32 := broadcast S128x1 8#32
  have v38 : IVec S128x1 32 := addi v36 v37
  have v39 : IVec S128x1 32 := broadcast S128x1 23#32
  have v40 : IVec S128x1 32 := shli v38 v39
  have v41 : FVec F S128x1 .f32 := bitcastToFloat .f32 v40
  have v42 : IVec S128x1 1 := cmpf .olt (k0_pay4 v0) v41
  have v43 : IVec S128x1 32 := select v42 v36 v38
  v43

/-- `%77 = arith.select %73, %76, %75 : vector<128x1xi1>, vector<128x1xi32>` of `k0_part2`, from the
   values read before it. Read by `k0_pay7`, `k0_pay8`. -/
noncomputable def k0_pay6 (v7 : FVec F S128x1 .f32) (v43 : IVec S128x1 32) : IVec S128x1 32 :=
  have v44 : IVec S128x1 32 := broadcast S128x1 4#32
  have v45 : IVec S128x1 32 := addi v43 v44
  have v46 : IVec S128x1 32 := broadcast S128x1 23#32
  have v47 : IVec S128x1 32 := shli v45 v46
  have v48 : FVec F S128x1 .f32 := bitcastToFloat .f32 v47
  have v49 : IVec S128x1 1 := cmpf .olt v7 v48
  have v50 : IVec S128x1 32 := select v49 v43 v45
  have v51 : IVec S128x1 32 := broadcast S128x1 2#32
  have v52 : IVec S128x1 32 := addi v50 v51
  have v53 : IVec S128x1 32 := broadcast S128x1 23#32
  have v54 : IVec S128x1 32 := shli v52 v53
  have v55 : FVec F S128x1 .f32 := bitcastToFloat .f32 v54
  have v56 : IVec S128x1 1 := cmpf .olt v7 v55
  have v57 : IVec S128x1 32 := select v56 v50 v52
  have v58 : IVec S128x1 32 := broadcast S128x1 1#32
  have v59 : IVec S128x1 32 := addi v57 v58
  have v60 : IVec S128x1 32 := broadcast S128x1 23#32
  have v61 : IVec S128x1 32 := shli v59 v60
  have v62 : FVec F S128x1 .f32 := bitcastToFloat .f32 v61
  have v63 : IVec S128x1 1 := cmpf .olt v7 v62
  have v64 : IVec S128x1 32 := select v63 v57 v59
  have v65 : IVec S128x1 32 := broadcast S128x1 23#32
  have v66 : IVec S128x1 32 := shli v64 v65
  have v67 : IVec S128x1 32 := broadcast S128x1 23#32
  have v68 : IVec S128x1 32 := shrsi v66 v67
  have v69 : IVec S128x1 32 := broadcast S128x1 0#32
  have v70 : IVec S128x1 1 := cmpi .eq v68 v69
  have v71 : IVec S128x1 32 := broadcast S128x1 255#32
  have v72 : IVec S128x1 1 := cmpi .eq v68 v71
  have v73 : IVec S128x1 1 := ori v70 v72
  have v74 : IVec S128x1 32 := broadcast S128x1 126#32
  have v75 : IVec S128x1 32 := subi v68 v74
  have v76 : IVec S128x1 32 := broadcast S128x1 0#32
  have v77 : IVec S128x1 32 := select v73 v76 v75
  v77

/-- `%82 = tpu.bitcast %81 : vector<128x1xi32> -> vector<128x1xf32>` of `k0_part2`, from the values
   read before it. Read by the loop's rebinding, condition or exit. -/
noncomputable def k0_pay7 (v7 : FVec F S128x1 .f32) (v43 : IVec S128x1 32) : FVec F S128x1 .f32 :=
  have v78 : IVec S128x1 32 := broadcast S128x1 127#32
  have v79 : IVec S128x1 32 := addi (k0_pay6 v7 v43) v78
  have v80 : IVec S128x1 32 := broadcast S128x1 23#32
  have v81 : IVec S128x1 32 := shli v79 v80
  have v82 : FVec F S128x1 .f32 := bitcastToFloat .f32 v81
  v82

/-- `%87 = tpu.bitcast %86 : vector<128x1xi32> -> vector<128x1xf32>` of `k0_part2`, from the values
   read before it. Read by the loop's rebinding, condition or exit. -/
noncomputable def k0_pay8 (v7 : FVec F S128x1 .f32) (v43 : IVec S128x1 32) : FVec F S128x1 .f32 :=
  have v83 : IVec S128x1 32 := broadcast S128x1 127#32
  have v84 : IVec S128x1 32 := subi v83 (k0_pay6 v7 v43)
  have v85 : IVec S128x1 32 := broadcast S128x1 23#32
  have v86 : IVec S128x1 32 := shli v84 v85
  have v87 : FVec F S128x1 .f32 := bitcastToFloat .f32 v86
  v87

/-- `%94 = arith.truncf %93 : vector<128x5120xf32> to vector<128x5120xf8E5M2>` of `k0_part3`, from
   the values read before it. Read by `tpu.vector_store %arg3[%c0_18, %c0_19], %94`, the loop's
   rebinding, condition or exit. -/
noncomputable def k0_pay9 (v2 : FVec F S128x5120 .f32) (v87 : FVec F S128x1 .f32) : FVec F S128x5120 .fp8e5m2 :=
  have v88 : FVec F S128x5120 .f32 := broadcastTo S128x5120 v87 broadcasts_S128x1_S128x5120
  have v89 : FVec F S128x5120 .f32 := mulf v2 v88
  have cst_16 : F .f32 := Scalar.ofBits .f32 0xC7600000#32
  have cst_17 : F .f32 := Scalar.ofBits .f32 0x47600000#32
  have v90 : FVec F S128x5120 .f32 := broadcast S128x5120 cst_16
  have v91 : FVec F S128x5120 .f32 := maximumf v90 v89
  have v92 : FVec F S128x5120 .f32 := broadcast S128x5120 cst_17
  have v93 : FVec F S128x5120 .f32 := minimumf v92 v91
  have v94 : FVec F S128x5120 .fp8e5m2 := truncf .fp8e5m2 v93 bitsLt_fp8e5m2_f32
  v94

/-- `%99 = arith.extf %98 : vector<1x5120xbf16> to vector<1x5120xf32>` of `k0_part3`, from the
   values read before it. Read by the loop's rebinding, condition or exit; `k0_pay11`. -/
noncomputable def k0_pay10 (v96 : Vec F S1x5120 .f32) : FVec F S1x5120 .f32 :=
  have v97 : FVec F S1x5120 .f32 := shapeCast S1x5120 v96 shapeCasts_S1x5120_S1x5120
  have v98 : FVec F S1x5120 .bf16 := truncf .bf16 v97 bitsLt_bf16_f32
  have v99 : FVec F S1x5120 .f32 := extf .f32 v98 bitsLt_bf16_f32
  v99

/-- `%102 = vector.shape_cast %101 : vector<1xf32> to vector<1x1xf32>` of `k0_part3`, from the
   values read before it. Read by the loop's rebinding, condition or exit; `k0_pay12`, `k0_pay14`. -/
noncomputable def k0_pay11 (v96 : Vec F S1x5120 .f32) : FVec F S1x1 .f32 :=
  have v100 : FVec F S1x5120 .f32 := absf (k0_pay10 v96)
  have v101 : FVec F S1 .f32 := multiReduction .maximumf [1] S1 v100 0xFF800000#32 reduces_S1x5120_S1 (.inl rfl) rfl
  have v102 : FVec F S1x1 .f32 := shapeCast S1x1 v101 shapeCasts_S1_S1x1
  v102

/-- `%124 = arith.select %123, %117, %119 : vector<1x1xi1>, vector<1x1xi32>` of `k0_part3`, from the
   values read before it. Read by the loop's rebinding, condition or exit; `k0_pay13`. -/
noncomputable def k0_pay12 (v96 : Vec F S1x5120 .f32) : IVec S1x1 32 :=
  have v103 : IVec S1x1 32 := broadcast S1x1 0#32
  have v104 : IVec S1x1 32 := broadcast S1x1 128#32
  have v105 : IVec S1x1 32 := addi v103 v104
  have v106 : IVec S1x1 32 := broadcast S1x1 23#32
  have v107 : IVec S1x1 32 := shli v105 v106
  have v108 : FVec F S1x1 .f32 := bitcastToFloat .f32 v107
  have v109 : IVec S1x1 1 := cmpf .olt (k0_pay11 v96) v108
  have v110 : IVec S1x1 32 := select v109 v103 v105
  have v111 : IVec S1x1 32 := broadcast S1x1 64#32
  have v112 : IVec S1x1 32 := addi v110 v111
  have v113 : IVec S1x1 32 := broadcast S1x1 23#32
  have v114 : IVec S1x1 32 := shli v112 v113
  have v115 : FVec F S1x1 .f32 := bitcastToFloat .f32 v114
  have v116 : IVec S1x1 1 := cmpf .olt (k0_pay11 v96) v115
  have v117 : IVec S1x1 32 := select v116 v110 v112
  have v118 : IVec S1x1 32 := broadcast S1x1 32#32
  have v119 : IVec S1x1 32 := addi v117 v118
  have v120 : IVec S1x1 32 := broadcast S1x1 23#32
  have v121 : IVec S1x1 32 := shli v119 v120
  have v122 : FVec F S1x1 .f32 := bitcastToFloat .f32 v121
  have v123 : IVec S1x1 1 := cmpf .olt (k0_pay11 v96) v122
  have v124 : IVec S1x1 32 := select v123 v117 v119
  v124

/-- `%126 = arith.addi %124, %125 : vector<1x1xi32>` of `k0_part3`, from the values read before it.
   Read by the loop's rebinding, condition or exit; `k0_pay14`. -/
noncomputable def k0_pay13 (v96 : Vec F S1x5120 .f32) : IVec S1x1 32 :=
  have v125 : IVec S1x1 32 := broadcast S1x1 16#32
  have v126 : IVec S1x1 32 := addi (k0_pay12 v96) v125
  v126

/-- `%130 = arith.cmpf olt, %102, %129 : vector<1x1xf32>` of `k0_part3`, from the values read before
   it. Read by the loop's rebinding, condition or exit. -/
noncomputable def k0_pay14 (v96 : Vec F S1x5120 .f32) : IVec S1x1 1 :=
  have v127 : IVec S1x1 32 := broadcast S1x1 23#32
  have v128 : IVec S1x1 32 := shli (k0_pay13 v96) v127
  have v129 : FVec F S1x1 .f32 := bitcastToFloat .f32 v128
  have v130 : IVec S1x1 1 := cmpf .olt (k0_pay11 v96) v129
  v130

/-- `%170 = arith.mulf %99, %169 : vector<1x5120xf32>` of `k0_part4`, from the values read before
   it. Read by the loop's rebinding, condition or exit; `k0_pay16`. -/
noncomputable def k0_pay15 (v99 : FVec F S1x5120 .f32) (v102 : FVec F S1x1 .f32) (v124 : IVec S1x1 32) (v126 : IVec S1x1 32) (v130 : IVec S1x1 1) : FVec F S1x5120 .f32 :=
  have v131 : IVec S1x1 32 := select v130 v124 v126
  have v132 : IVec S1x1 32 := broadcast S1x1 8#32
  have v133 : IVec S1x1 32 := addi v131 v132
  have v134 : IVec S1x1 32 := broadcast S1x1 23#32
  have v135 : IVec S1x1 32 := shli v133 v134
  have v136 : FVec F S1x1 .f32 := bitcastToFloat .f32 v135
  have v137 : IVec S1x1 1 := cmpf .olt v102 v136
  have v138 : IVec S1x1 32 := select v137 v131 v133
  have v139 : IVec S1x1 32 := broadcast S1x1 4#32
  have v140 : IVec S1x1 32 := addi v138 v139
  have v141 : IVec S1x1 32 := broadcast S1x1 23#32
  have v142 : IVec S1x1 32 := shli v140 v141
  have v143 : FVec F S1x1 .f32 := bitcastToFloat .f32 v142
  have v144 : IVec S1x1 1 := cmpf .olt v102 v143
  have v145 : IVec S1x1 32 := select v144 v138 v140
  have v146 : IVec S1x1 32 := broadcast S1x1 2#32
  have v147 : IVec S1x1 32 := addi v145 v146
  have v148 : IVec S1x1 32 := broadcast S1x1 23#32
  have v149 : IVec S1x1 32 := shli v147 v148
  have v150 : FVec F S1x1 .f32 := bitcastToFloat .f32 v149
  have v151 : IVec S1x1 1 := cmpf .olt v102 v150
  have v152 : IVec S1x1 32 := select v151 v145 v147
  have v153 : IVec S1x1 32 := broadcast S1x1 1#32
  have v154 : IVec S1x1 32 := addi v152 v153
  have v155 : IVec S1x1 32 := broadcast S1x1 23#32
  have v156 : IVec S1x1 32 := shli v154 v155
  have v157 : FVec F S1x1 .f32 := bitcastToFloat .f32 v156
  have v158 : IVec S1x1 1 := cmpf .olt v102 v157
  have v159 : IVec S1x1 32 := select v158 v152 v154
  have v160 : IVec S1x1 32 := broadcast S1x1 23#32
  have v161 : IVec S1x1 32 := shli v159 v160
  have v162 : IVec S1x1 32 := broadcast S1x1 8388608#32
  have v163 : IVec S1x1 32 := maxsi v162 v161
  have v164 : IVec S1x1 32 := broadcast S1x1 2113929216#32
  have v165 : IVec S1x1 32 := minsi v164 v163
  have v166 : IVec S1x1 32 := broadcast S1x1 2130706432#32
  have v167 : IVec S1x1 32 := subi v166 v165
  have v168 : FVec F S1x1 .f32 := bitcastToFloat .f32 v167
  have v169 : FVec F S1x5120 .f32 := broadcastTo S1x5120 v168 broadcasts_S1x1_S1x5120
  have v170 : FVec F S1x5120 .f32 := mulf v99 v169
  v170

/-- `%173 = arith.mulf %171, %172 : vector<128x5120xf32>` of `k0_part4`, from the values read before
   it. Read by the loop's rebinding, condition or exit; `k0_pay17`. -/
noncomputable def k0_pay16 (v94 : FVec F S128x5120 .fp8e5m2) (v99 : FVec F S1x5120 .f32) (v102 : FVec F S1x1 .f32) (v124 : IVec S1x1 32) (v126 : IVec S1x1 32) (v130 : IVec S1x1 1) : FVec F S128x5120 .f32 :=
  have v171 : FVec F S128x5120 .f32 := extf .f32 v94 bitsLt_fp8e5m2_f32
  have v172 : FVec F S128x5120 .f32 := broadcastTo S128x5120 (k0_pay15 v99 v102 v124 v126 v130) broadcasts_S1x5120_S128x5120
  have v173 : FVec F S128x5120 .f32 := mulf v171 v172
  v173

/-- `%174 = arith.truncf %173 : vector<128x5120xf32> to vector<128x5120xf8E5M2>` of `k0_part4`, from
   the values read before it. Read by `tpu.vector_store %arg4[%c0_41, %c0_42], %174`, the loop's
   rebinding, condition or exit. -/
noncomputable def k0_pay17 (v94 : FVec F S128x5120 .fp8e5m2) (v99 : FVec F S1x5120 .f32) (v102 : FVec F S1x1 .f32) (v124 : IVec S1x1 32) (v126 : IVec S1x1 32) (v130 : IVec S1x1 1) : FVec F S128x5120 .fp8e5m2 :=
  have v174 : FVec F S128x5120 .fp8e5m2 := truncf .fp8e5m2 (k0_pay16 v94 v99 v102 v124 v126 v130) bitsLt_fp8e5m2_f32
  v174

/-- `cc0_quantise` as a skeleton of memory operations over payloads. -/
noncomputable def cc0_quantise_skel (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e5m2) (harg3 : arg3.IsWhole) (arg4 : Memref sig .tc .vmem S128x5120 .fp8e5m2) (harg4 : arg4.IsWhole) (arg5 : Memref sig .tc .vmem S1x1x128 .f32) (harg5 : arg5.IsWhole) (arg6 : Memref sig .tc .vmem S1x1x128 .i32) (harg6 : arg6.IsWhole) :
    Prog (TpuEff nD τ sig (Elt F) Λ₀ .tc) PUnit := do
  let ⟨v2, v7, v43⟩ : Σ' (v2 : FVec F S128x5120 .f32) (v7 : FVec F S128x1 .f32), IVec S128x1 32 ← k0_part1 i arg1 harg1 arg2 harg2 arg3 harg3 arg4 harg4 arg5 harg5 arg6 harg6
  let ⟨v82, v87⟩ : Σ' (v82 : FVec F S128x1 .f32), FVec F S128x1 .f32 ← k0_part2 i arg1 harg1 arg2 harg2 arg3 harg3 arg4 harg4 arg5 harg5 arg6 harg6 v7 v43
  let ⟨v94, v99, v102, v124, v126, v130⟩ : Σ' (v94 : FVec F S128x5120 .fp8e5m2) (v99 : FVec F S1x5120 .f32) (v102 : FVec F S1x1 .f32) (v124 : IVec S1x1 32) (v126 : IVec S1x1 32), IVec S1x1 1 ← k0_part3 i arg1 harg1 arg2 harg2 arg3 harg3 arg4 harg4 arg5 harg5 arg6 harg6 v2 v87
  let ⟨v170, v173, v174⟩ : Σ' (v170 : FVec F S1x5120 .f32) (v173 : FVec F S128x5120 .f32), FVec F S128x5120 .fp8e5m2 ← k0_part4 i arg1 harg1 arg2 harg2 arg3 harg3 arg4 harg4 arg5 harg5 arg6 harg6 v94 v99 v102 v124 v126 v130
  -- %cst_49 = arith.constant dense<-2147483648> : vector<128xi32>  — not in the skeleton
  -- %cst_50 = arith.constant dense<-2147483648> : vector<1xi32>  — not in the skeleton
  let v200 : Vec F S1x1x128 .f32 ← Prog.lift (.load arg5 (Rect.unit (s := S1x1x128) ![0, 0, 0] S1x1x128.size inb_S1x1x128_S1x1x128_0_0_0).toLoadRect (View.loadsAt_vmem h_S1x1x128))
  -- %201 = vector.shape_cast %200 : vector<1x1x128xf32> to vector<1x128xf32>  @ test_k:55  — not in the skeleton
  Prog.lift (.store arg5 (Rect.unit (s := S1x1x128) ![0, 0, 0] S1x1x128.size inb_S1x1x128_S1x1x128_0_0_0) (k0_pay1 v82) Finset.univ (View.stores_vmem_bits_univ h_S1x1x128 rfl) (.inl rfl))
  let v207 : Vec F S1x1x128 .i32 ← Prog.lift (.load arg6 (Rect.unit (s := S1x1x128) ![0, 0, 0] S1x1x128.size inb_S1x1x128_S1x1x128_0_0_0).toLoadRect (View.loadsAt_vmem h_S1x1x128))
  -- %208 = vector.shape_cast %207 : vector<1x1x128xi32> to vector<1x128xi32>  @ test_k:56  — not in the skeleton
  Prog.lift (.store arg6 (Rect.unit (s := S1x1x128) ![0, 0, 0] S1x1x128.size inb_S1x1x128_S1x1x128_0_0_0) (k0_pay2 v99 v170 v173 v174) Finset.univ (View.stores_vmem_bits_univ h_S1x1x128 rfl) (.inl rfl))
  pure ⟨⟩

set_option maxRecDepth 65536 in
/-- The printed `cc0_quantise` is its skeleton: by definitional unfolding. -/
theorem cc0_quantise_eq_skeleton : cc0_quantise (F := F) = cc0_quantise_skel (F := F) := rfl

/-- `k0_part1` as a skeleton of memory operations over payloads. -/
noncomputable def k0_part1_skel (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e5m2) (harg3 : arg3.IsWhole) (arg4 : Memref sig .tc .vmem S128x5120 .fp8e5m2) (harg4 : arg4.IsWhole) (arg5 : Memref sig .tc .vmem S1x1x128 .f32) (harg5 : arg5.IsWhole) (arg6 : Memref sig .tc .vmem S1x1x128 .i32) (harg6 : arg6.IsWhole) :
    Prog (TpuEff nD τ sig (Elt F) Λ₀ .tc) (Σ' (v2 : FVec F S128x5120 .f32) (v7 : FVec F S128x1 .f32), IVec S128x1 32) := do
  -- %arg0: i32, grid coordinate 0  — not in the skeleton
  let v0 : Vec F S128x5120 .bf16 ← Prog.lift (.load arg1 (Rect.unit (s := S128x5120) ![0, 0] S128x5120.size inb_S128x5120_S128x5120_0_0).toLoadRect (View.loadsAt_vmem h_S128x5120))
  -- %cst = arith.constant dense<0xFF800000> : vector<128xf32>  — not in the skeleton
  pure ⟨k0_pay3 v0, k0_pay4 v0, k0_pay5 v0⟩

set_option maxRecDepth 65536 in
/-- The printed `k0_part1` is its skeleton: by definitional unfolding. -/
theorem k0_part1_eq_skeleton : k0_part1 (F := F) = k0_part1_skel (F := F) := rfl

/-- `k0_part2` as a skeleton of memory operations over payloads. -/
noncomputable def k0_part2_skel (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e5m2) (harg3 : arg3.IsWhole) (arg4 : Memref sig .tc .vmem S128x5120 .fp8e5m2) (harg4 : arg4.IsWhole) (arg5 : Memref sig .tc .vmem S1x1x128 .f32) (harg5 : arg5.IsWhole) (arg6 : Memref sig .tc .vmem S1x1x128 .i32) (harg6 : arg6.IsWhole) (v7 : FVec F S128x1 .f32) (v43 : IVec S128x1 32) :
    Prog (TpuEff nD τ sig (Elt F) Λ₀ .tc) (Σ' (v82 : FVec F S128x1 .f32), FVec F S128x1 .f32) := do
  pure ⟨k0_pay7 v7 v43, k0_pay8 v7 v43⟩

set_option maxRecDepth 65536 in
/-- The printed `k0_part2` is its skeleton: by definitional unfolding. -/
theorem k0_part2_eq_skeleton : k0_part2 (F := F) = k0_part2_skel (F := F) := rfl

/-- `k0_part3` as a skeleton of memory operations over payloads. -/
noncomputable def k0_part3_skel (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e5m2) (harg3 : arg3.IsWhole) (arg4 : Memref sig .tc .vmem S128x5120 .fp8e5m2) (harg4 : arg4.IsWhole) (arg5 : Memref sig .tc .vmem S1x1x128 .f32) (harg5 : arg5.IsWhole) (arg6 : Memref sig .tc .vmem S1x1x128 .i32) (harg6 : arg6.IsWhole) (v2 : FVec F S128x5120 .f32) (v87 : FVec F S128x1 .f32) :
    Prog (TpuEff nD τ sig (Elt F) Λ₀ .tc) (Σ' (v94 : FVec F S128x5120 .fp8e5m2) (v99 : FVec F S1x5120 .f32) (v102 : FVec F S1x1 .f32) (v124 : IVec S1x1 32) (v126 : IVec S1x1 32), IVec S1x1 1) := do
  let v95 : Vec F S128x5120 .fp8e5m2 ← Prog.lift (.load arg3 (Rect.unit (s := S128x5120) ![0, 0] S128x5120.size inb_S128x5120_S128x5120_0_0).toLoadRect (View.loadsAt_vmem h_S128x5120))
  Prog.lift (.store arg3 (Rect.unit (s := S128x5120) ![0, 0] S128x5120.size inb_S128x5120_S128x5120_0_0) (k0_pay9 v2 v87) Finset.univ (View.stores_vmem h_S128x5120 (harg3.storeExact_slice rfl _ packedfp8e5m2_S128x5120_S128x5120_0_0) (fun _ => rfl)) (.inl rfl))
  let v96 : Vec F S1x5120 .f32 ← Prog.lift (.load arg2 (Rect.unit (s := S1x5120) ![0, 0] S1x5120.size inb_S1x5120_S1x5120_0_0).toLoadRect (View.loadsAt_vmem h_S1x5120))
  -- %cst_22 = arith.constant dense<0xFF800000> : vector<1xf32>  — not in the skeleton
  pure ⟨k0_pay9 v2 v87, k0_pay10 v96, k0_pay11 v96, k0_pay12 v96, k0_pay13 v96, k0_pay14 v96⟩

set_option maxRecDepth 65536 in
/-- The printed `k0_part3` is its skeleton: by definitional unfolding. -/
theorem k0_part3_eq_skeleton : k0_part3 (F := F) = k0_part3_skel (F := F) := rfl

/-- `k0_part4` as a skeleton of memory operations over payloads. -/
noncomputable def k0_part4_skel (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e5m2) (harg3 : arg3.IsWhole) (arg4 : Memref sig .tc .vmem S128x5120 .fp8e5m2) (harg4 : arg4.IsWhole) (arg5 : Memref sig .tc .vmem S1x1x128 .f32) (harg5 : arg5.IsWhole) (arg6 : Memref sig .tc .vmem S1x1x128 .i32) (harg6 : arg6.IsWhole) (v94 : FVec F S128x5120 .fp8e5m2) (v99 : FVec F S1x5120 .f32) (v102 : FVec F S1x1 .f32) (v124 : IVec S1x1 32) (v126 : IVec S1x1 32) (v130 : IVec S1x1 1) :
    Prog (TpuEff nD τ sig (Elt F) Λ₀ .tc) (Σ' (v170 : FVec F S1x5120 .f32) (v173 : FVec F S128x5120 .f32), FVec F S128x5120 .fp8e5m2) := do
  let v175 : Vec F S128x5120 .fp8e5m2 ← Prog.lift (.load arg4 (Rect.unit (s := S128x5120) ![0, 0] S128x5120.size inb_S128x5120_S128x5120_0_0).toLoadRect (View.loadsAt_vmem h_S128x5120))
  Prog.lift (.store arg4 (Rect.unit (s := S128x5120) ![0, 0] S128x5120.size inb_S128x5120_S128x5120_0_0) (k0_pay17 v94 v99 v102 v124 v126 v130) Finset.univ (View.stores_vmem h_S128x5120 (harg4.storeExact_slice rfl _ packedfp8e5m2_S128x5120_S128x5120_0_0) (fun _ => rfl)) (.inl rfl))
  pure ⟨k0_pay15 v99 v102 v124 v126 v130, k0_pay16 v94 v99 v102 v124 v126 v130, k0_pay17 v94 v99 v102 v124 v126 v130⟩

set_option maxRecDepth 65536 in
/-- The printed `k0_part4` is its skeleton: by definitional unfolding. -/
theorem k0_part4_eq_skeleton : k0_part4 (F := F) = k0_part4_skel (F := F) := rfl

end Cert.KernelIdeal.Own
end
-- ==== Proof.KernelIdealQuantRun.lean ====
/- The quantise call as one pipeline: what it leaves in its outputs, and its body's triple. -/
module

public import proofs.«01_k».proof.Proof.Gen.KernelIdeal.Launch
public import proofs.«01_k».proof.Proof.Gen.KernelIdeal.Points
public import proofs.«01_k».proof.Proof.KernelIdealQuant
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option synthInstance.maxSize 4096
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)
variable (V : (c : Dev nD) → (b : Ref sig .tc) → Buf (Elt F) ((c : Thread nD τ).loc b))
/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x5120 := Rect.unit (s := S128x5120) ![0, 0] S128x5120.size inb_S128x5120_S128x5120_0_0
abbrev r0_1 : Rect S1x5120 := Rect.unit (s := S1x5120) ![0, 0] S1x5120.size inb_S1x5120_S1x5120_0_0
abbrev r0_2 : Rect S1x1x128 := Rect.unit (s := S1x1x128) ![0, 0, 0] S1x1x128.size inb_S1x1x128_S1x1x128_0_0_0

/-! ## What the body leaves in each output window's buffer -/

/-! ### Values of the body that the stores' payloads, spelt out, would write more than once

    Each is a vector the body binds (often a part call's result), stated over the input windows' blocks and
    numbered on from the skeleton's payload functions (`k0_pay18` …, after `k0_pay17`), so that
    `out0_W` and the values after it name it instead of spelling it out (`unfold_out out0_W` opens a canon
    with them, `unfold_payloads` opens them with the payloads); the comment after each is the printed function's
    name for the value (a count appended where that name is bound again). -/

def k0_pay18 (x0 : Vec F S128x5120 .bf16) (x1 : Vec F S1x5120 .f32) : FVec F S128x5120 .f32 :=
  k0_pay3 (View.ld x0 r0_0)
def k0_pay19 (x0 : Vec F S128x5120 .bf16) (x1 : Vec F S1x5120 .f32) : FVec F S128x1 .f32 :=
  k0_pay4 (View.ld x0 r0_0)
def k0_pay20 (x0 : Vec F S128x5120 .bf16) (x1 : Vec F S1x5120 .f32) : IVec S128x1 32 :=
  k0_pay5 (View.ld x0 r0_0)
def k0_pay21 (x0 : Vec F S128x5120 .bf16) (x1 : Vec F S1x5120 .f32) : FVec F S128x1 .f32 :=
  k0_pay8 (k0_pay19 x0 x1) (k0_pay20 x0 x1)
def k0_pay22 (x0 : Vec F S128x5120 .bf16) (x1 : Vec F S1x5120 .f32) : FVec F S128x5120 .fp8e5m2 :=
  k0_pay9 (k0_pay18 x0 x1) (k0_pay21 x0 x1)
def k0_pay23 (x0 : Vec F S128x5120 .bf16) (x1 : Vec F S1x5120 .f32) : FVec F S1x5120 .f32 :=
  k0_pay10 (View.ld x1 r0_1)
def k0_pay24 (x0 : Vec F S128x5120 .bf16) (x1 : Vec F S1x5120 .f32) : FVec F S1x1 .f32 :=
  k0_pay11 (View.ld x1 r0_1)
def k0_pay25 (x0 : Vec F S128x5120 .bf16) (x1 : Vec F S1x5120 .f32) : IVec S1x1 32 :=
  k0_pay12 (View.ld x1 r0_1)
def k0_pay26 (x0 : Vec F S128x5120 .bf16) (x1 : Vec F S1x5120 .f32) : IVec S1x1 32 :=
  k0_pay13 (View.ld x1 r0_1)
def k0_pay27 (x0 : Vec F S128x5120 .bf16) (x1 : Vec F S1x5120 .f32) : IVec S1x1 1 :=
  k0_pay14 (View.ld x1 r0_1)

/-- Window 2's staging buffer after the body, from the input windows' blocks: its 1 store as pieces, LAST
    FIRST (Lib/Pipeline/FrameBody.lean `View.canon`; the payloads are the skeleton's and the values stated above). -/
def out0_2 (x0 : Vec F S128x5120 .bf16) (x1 : Vec F S1x5120 .f32) : Vec F S128x5120 .fp8e5m2 :=
  View.canon [⟨r0_0, k0_pay9 (k0_pay18 x0 x1) (k0_pay21 x0 x1)⟩]

/-- Its stores tile the buffer (checked by evaluation), so they cover it. -/
theorem cover0_2 (p0 : Vec F S128x5120 .fp8e5m2) (y : S128x5120.Idx) :
    ∃ pc ∈ ([⟨r0_0, p0⟩] : List (View.Piece (Elt F) S128x5120 .fp8e5m2)), y ∈ pc.1.set :=
  View.cover_of_tiled [⟨r0_0, p0⟩] S128x5120.size (by rfl) y

/-- Window 3's staging buffer after the body, from the input windows' blocks: its 1 store as pieces, LAST
    FIRST (Lib/Pipeline/FrameBody.lean `View.canon`; the payloads are the skeleton's and the values stated above). -/
def out0_3 (x0 : Vec F S128x5120 .bf16) (x1 : Vec F S1x5120 .f32) : Vec F S128x5120 .fp8e5m2 :=
  View.canon [⟨r0_0, k0_pay17 (k0_pay22 x0 x1) (k0_pay23 x0 x1) (k0_pay24 x0 x1) (k0_pay25 x0 x1) (k0_pay26 x0 x1) (k0_pay27 x0 x1)⟩]

/-- Its stores tile the buffer (checked by evaluation), so they cover it. -/
theorem cover0_3 (p0 : Vec F S128x5120 .fp8e5m2) (y : S128x5120.Idx) :
    ∃ pc ∈ ([⟨r0_0, p0⟩] : List (View.Piece (Elt F) S128x5120 .fp8e5m2)), y ∈ pc.1.set :=
  View.cover_of_tiled [⟨r0_0, p0⟩] S128x5120.size (by rfl) y

/-- Window 4's staging buffer after the body, from the input windows' blocks: its 1 store as pieces, LAST
    FIRST (Lib/Pipeline/FrameBody.lean `View.canon`; the payloads are the skeleton's and the values stated above). -/
def out0_4 (x0 : Vec F S128x5120 .bf16) (x1 : Vec F S1x5120 .f32) : Vec F S1x1x128 .f32 :=
  View.canon [⟨r0_2, k0_pay1 (k0_pay7 (k0_pay19 x0 x1) (k0_pay20 x0 x1))⟩]

/-- Its stores tile the buffer (checked by evaluation), so they cover it. -/
theorem cover0_4 (p0 : Vec F S1x1x128 .f32) (y : S1x1x128.Idx) :
    ∃ pc ∈ ([⟨r0_2, p0⟩] : List (View.Piece (Elt F) S1x1x128 .f32)), y ∈ pc.1.set :=
  View.cover_of_tiled [⟨r0_2, p0⟩] S1x1x128.size (by rfl) y

/-- Window 5's staging buffer after the body, from the input windows' blocks: its 1 store as pieces, LAST
    FIRST (Lib/Pipeline/FrameBody.lean `View.canon`; the payloads are the skeleton's and the values stated above). -/
def out0_5 (x0 : Vec F S128x5120 .bf16) (x1 : Vec F S1x5120 .f32) : Vec F S1x1x128 .i32 :=
  View.canon [⟨r0_2, k0_pay2 (k0_pay23 x0 x1) (k0_pay15 (k0_pay23 x0 x1) (k0_pay24 x0 x1) (k0_pay25 x0 x1) (k0_pay26 x0 x1) (k0_pay27 x0 x1)) (k0_pay16 (k0_pay22 x0 x1) (k0_pay23 x0 x1) (k0_pay24 x0 x1) (k0_pay25 x0 x1) (k0_pay26 x0 x1) (k0_pay27 x0 x1)) (k0_pay17 (k0_pay22 x0 x1) (k0_pay23 x0 x1) (k0_pay24 x0 x1) (k0_pay25 x0 x1) (k0_pay26 x0 x1) (k0_pay27 x0 x1))⟩]

/-- Its stores tile the buffer (checked by evaluation), so they cover it. -/
theorem cover0_5 (p0 : Vec F S1x1x128 .i32) (y : S1x1x128.Idx) :
    ∃ pc ∈ ([⟨r0_2, p0⟩] : List (View.Piece (Elt F) S1x1x128 .i32)), y ∈ pc.1.set :=
  View.cover_of_tiled [⟨r0_2, p0⟩] S1x1x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e5m2) (harg3 : arg3.IsWhole) (arg4 : Memref sig .tc .vmem S128x5120 .fp8e5m2) (harg4 : arg4.IsWhole) (arg5 : Memref sig .tc .vmem S1x1x128 .f32) (harg5 : arg5.IsWhole) (arg6 : Memref sig .tc .vmem S1x1x128 .i32) (harg6 : arg6.IsWhole)
    (x0 : Vec F S128x5120 .bf16) (x1 : Vec F S1x5120 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1) ∗ owns (c : Thread nD τ) arg6 fullShare (out0_5 x0 x1)) -∗ K ⟨⟩))
      ⊢ wp frame (wpE (defs₀ (F := F)) Variants.none c none) E (cc0_quantise i arg1 harg1 arg2 harg2 arg3 harg3 arg4 harg4 arg5 harg5 arg6 harg6) K := by
  simp only [cc0_quantise_eq_skeleton]; unfold cc0_quantise_skel
  simp only [k0_part1_eq_skeleton, k0_part2_eq_skeleton, k0_part3_eq_skeleton, k0_part4_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  iexists _; isplitr
  swap; · iexact H5
  ipureintro
  refine (View.read_writes_eq_canon _ _ _ (cover0_5 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own
end
-- ==== Proof.MainText.lean ====
/- The main call's printed text is the six pairs of planes of `Wht.body`, peeled group by group. -/
module

public import proofs.«01_k».proof.Proof.Wht
public import proofs.«01_k».proof.KernelIdeal
@[expose] public section
set_option maxRecDepth 16384
noncomputable section
namespace Cert.KernelIdeal
open Idealize.ShloMosaic Idealize.SL.Sem
variable {F : FTy → Type} [FloatOps F] [Facts]
open Cert.Wht
set_option maxHeartbeats 4000000
/-- The printed body of the main call is the loops written out in `Wht.body`. -/
theorem cc1_eq (i : grid1.Coords) (arg1 : Memref sig .tc .smem S1 .i32) (harg1 : arg1.IsWhole) (arg2 : Memref sig .tc .vmem S512x5120 .fp8e4m3) (harg2 : arg2.IsWhole) (arg3 : Memref sig .tc .vmem S1536x5120 .fp8e5m2) (harg3 : arg3.IsWhole) (arg4 : Memref sig .tc .vmem S1536x5120 .fp8e5m2) (harg4 : arg4.IsWhole) (arg5 : Memref sig .tc .vmem S1x5120 .f32) (harg5 : arg5.IsWhole) (arg6 : Memref sig .tc .vmem S1x1536 .f32) (harg6 : arg6.IsWhole) (arg7 : Memref sig .tc .vmem S12x1x512x128 .f32) (harg7 : arg7.IsWhole) (arg8 : Memref sig .tc .vmem S2x512x128 .f32) (harg8 : arg8.IsWhole) (arg9 : Memref sig .tc .vmem S576x128 .f32) (harg9 : arg9.IsWhole)  :
   cc1_matmul_wht (F := F) i arg1 harg1 arg2 harg2 arg3 harg3 arg4 harg4 arg5 harg5 arg6 harg6 arg7 harg7 arg8 harg8 arg9 harg9 =
     Wht.body arg1 arg2 arg3 arg4 arg5 arg6 arg7 arg8 arg9 := by
  refine op_step (by rfl) fun v0 => ?_
  refine op_step (by rfl) fun _ => ?_
  refine if_step2 (by rfl) ?_
  refine op_step (by rfl) fun _ => ?_
  refine if_step2 (by rfl) ?_
  refine op_step (by rfl) fun _ => ?_
  iterate 24 refine bind_step (by rfl) ?_
  refine op_step (by rfl) fun _ => ?_
  iterate 24 refine bind_step (by rfl) ?_
  refine op_step (by rfl) fun _ => ?_
  refine if_step2 (by rfl) ?_
  refine op_step (by rfl) fun _ => ?_
  refine if_step2 (by rfl) ?_
  refine op_step (by rfl) fun _ => ?_
  iterate 24 refine bind_step (by rfl) ?_
  refine op_step (by rfl) fun _ => ?_
  iterate 24 refine bind_step (by rfl) ?_
  refine op_step (by rfl) fun _ => ?_
  refine if_step2 (by rfl) ?_
  refine op_step (by rfl) fun _ => ?_
  refine if_step2 (by rfl) ?_
  refine op_step (by rfl) fun _ => ?_
  iterate 24 refine bind_step (by rfl) ?_
  refine op_step (by rfl) fun _ => ?_
  iterate 24 refine bind_step (by rfl) ?_
  refine op_step (by rfl) fun _ => ?_
  refine if_step2 (by rfl) ?_
  refine op_step (by rfl) fun _ => ?_
  refine if_step2 (by rfl) ?_
  refine op_step (by rfl) fun _ => ?_
  iterate 24 refine bind_step (by rfl) ?_
  refine op_step (by rfl) fun _ => ?_
  iterate 24 refine bind_step (by rfl) ?_
  refine op_step (by rfl) fun _ => ?_
  refine if_step2 (by rfl) ?_
  refine op_step (by rfl) fun _ => ?_
  refine if_step2 (by rfl) ?_
  refine op_step (by rfl) fun _ => ?_
  iterate 24 refine bind_step (by rfl) ?_
  refine op_step (by rfl) fun _ => ?_
  iterate 24 refine bind_step (by rfl) ?_
  refine op_step (by rfl) fun _ => ?_
  refine if_step2 (by rfl) ?_
  refine op_step (by rfl) fun _ => ?_
  refine if_step2 (by rfl) ?_
  refine op_step (by rfl) fun _ => ?_
  iterate 24 refine bind_step (by rfl) ?_
  refine op_step (by rfl) fun _ => ?_
  iterate 24 refine bind_step (by rfl) ?_
  rfl
end Cert.KernelIdeal
-- ==== Proof.KernelIdealMain.lean ====
/- The main call as one pipeline: what it leaves in its output, and its body's triple. -/
module

public import proofs.«01_k».proof.Proof.Gen.KernelIdeal.Launch
public import proofs.«01_k».proof.Proof.Gen.KernelIdeal.Points
public import proofs.«01_k».proof.Proof.MainText
public import proofs.«01_k».proof.Proof.WhtRun
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option synthInstance.maxSize 4096
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)
variable (V : (c : Dev nD) → (b : Ref sig .tc) → Buf (Elt F) ((c : Thread nD τ).loc b))
/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S12x1x512x128 .f32 := (Memref.whole cc1_stg6_0 : Memref sig .tc .vmem S12x1x512x128 .f32).view
/-- Each window's current staging memref at point `t`, spelled as the pipeline passes it (`bodyAt1`), and its wholeness. -/
abbrev ms1_0 (t : Fin cfg1.N) : Memref sig .tc .smem S1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x5120 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1536x5120 .fp8e5m2 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1536x5120 .fp8e5m2 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x5120 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1536 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S12x1x512x128 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S2x512x128 .f32 := Memref.whole cc1_scratch0
abbrev scM1_1 : Memref sig .tc .vmem S576x128 .f32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## What the outputs hold after each point -/

/-- What the output's staging buffer holds after the body at point `t`: the butterflies of the product of
    the point's blocks. -/
def outsAt1 (c : Dev nD) (t : Fin cfg1.N) : Vec F S12x1x512x128 .f32 :=
  Wht.outY (iblk1 V c 0 t) (iblk1 V c 1 t) (iblk1 V c 2 t) (iblk1 V c 3 t) (iblk1 V c 4 t) (iblk1 V c 5 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  rw [cc1_eq]
  unfold outsAt1
  iintro ⟨⟨⟨HR0, HR1, HR2, HR3, HR4, HR5, HR6, HR7, HR8, HR9, HR10, HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (Wht.body_wp Variants.none c none Set.univ (ms1_0 t) (ms1_1 t) (ms1_2 t) (ms1_3 t) (ms1_4 t) (ms1_5 t) (ms1_6 t) scM1_0 scM1_1
    (iblk1 V c 0 t) (iblk1 V c 1 t) (iblk1 V c 2 t) (iblk1 V c 3 t) (iblk1 V c 4 t) (iblk1 V c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HR0 HR1 HR2 HR3 HR4 HR5 HR6 HR7 HR8 HR9 HR10 HS0 HS1 Hg]
  · isplitl [HR0 HR1 HR2 HR3 HR4 HR5 HR6 HR7 HR8 HR9 HR10 HS0 HS1]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own
end
-- ==== Proof.KernelIdealRun.lean ====
/- The whole program: its two calls and the host steps between them, from the launch to the return. -/
module

public import proofs.«01_k».proof.Proof.KernelIdealQuantRun
public import proofs.«01_k».proof.Proof.KernelIdealMain

@[expose] public section

set_option synthInstance.maxSize 4096
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)
/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_c, main_v4, main_v5, main_v6]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8, main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every run of @main ends with every buffer of the core at its last boundary's contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- Every run of @main ends, nothing faulting, with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run_all m ρ)

end Cert.KernelIdeal.Own
end
-- ==== Proof.Exps.lean ====
/- The exponent search and the powers of two it meets, over the reals. -/
module

public import Idealize.ShloMosaic.PureOps.Ideal.Laws
public import Idealize.ShloMosaic.Lib.IdealHost
public import Mathlib.Tactic.IntervalCases
public import Mathlib.Tactic.Linarith
public import Mathlib.Tactic.Positivity
public import Mathlib.Tactic.NormNum
public import Mathlib.Tactic.Ring

@[expose] public section

set_option maxRecDepth 16384

noncomputable section

namespace Cert.Alg

open Idealize.ShloMosaic

/-- One step of the search for an exponent field: keep the field if `x` is below the power of two
    with the field `f + b`, else take `f + b`. -/
def stepv (x : EReal) (f b : BitVec 32) : BitVec 32 :=
  Scalar.select (FloatOps.cmpf (F := Ideal) (φ := .f32) .olt x (FloatOps.ofBits .f32 (IntOp.shli .vector (IntOp.addi f b) 23#32))) f (IntOp.addi f b)

/-- The eight steps. -/
def search (x : EReal) : BitVec 32 :=
  stepv x (stepv x (stepv x (stepv x (stepv x (stepv x (stepv x (stepv x 0#32 128#32) 64#32) 32#32) 16#32) 8#32) 4#32) 2#32) 1#32

/-- The float whose exponent field is `n`, its other bits zero. -/
def T (n : Nat) : EReal := Ideal.ofBits .f32 (BitVec.ofNat 32 n <<< 23)

theorem fields : ∀ n : Fin 255, (BitVec.ofNat 32 n.val <<< 23).extractLsb' 31 1 = 0#1
    ∧ ((BitVec.ofNat 32 n.val <<< 23).extractLsb' 23 8).toNat = n.val
    ∧ ((BitVec.ofNat 32 n.val <<< 23).extractLsb' 0 23).toNat = 0 := by decide +kernel

theorem T_val (n : Nat) (h1 : 1 ≤ n) (h2 : n ≤ 254) : T n = (((2 : ℝ) ^ ((n : Int) - 127) : ℝ) : EReal) := by
  obtain ⟨e1, e2, e3⟩ := fields ⟨n, by omega⟩
  simp only at e1 e2 e3
  show Ideal.ieee 8 23 (BitVec.ofNat 32 n <<< 23) = _
  unfold Ideal.ieee
  simp only [Nat.reduceAdd, e1, e2, e3]
  rw [if_neg (by omega), if_neg (by omega)]
  refine congrArg (fun r : ℝ => (r : EReal)) ?_
  have e : ((n : Int) - 127) = 23 + ((n : Int) - (2 ^ (8 - 1) - 1) - 23) := by norm_num
  rw [e, zpow_add₀ (by norm_num : (2 : ℝ) ≠ 0)]
  norm_num

theorem T_zero : T 0 = 0 := by
  show Ideal.ofBits .f32 0x00000000#32 = 0
  simp [Ideal.ofBits, Ideal.ieee]

theorem select_lt (x y : EReal) {α : Type} (a b : α) :
    Scalar.select (FloatOps.cmpf (F := Ideal) (φ := .f32) .olt x y) a b = if x < y then a else b := by
  show (if Ideal.cmp .olt x y = 1 then a else b) = _
  by_cases h : x < y <;> simp [Ideal.cmp, h]

theorem step_val (x : EReal) (n s : Nat) :
    stepv x (BitVec.ofNat 32 n) (BitVec.ofNat 32 s) = BitVec.ofNat 32 (if x < T (n + s) then n else n + s) := by
  unfold stepv
  rw [select_lt]
  have e : IntOp.addi (BitVec.ofNat 32 n) (BitVec.ofNat 32 s) = BitVec.ofNat 32 (n + s) := by
    show BitVec.ofNat 32 n + BitVec.ofNat 32 s = _
    rw [BitVec.ofNat_add]
  rw [e]
  show (if x < T (n + s) then _ else _) = _
  split <;> rfl

/-- What is known after the steps down to the width `w`. -/
def Inv (x : EReal) (w n : Nat) : Prop := n + w ≤ 256 ∧ (n = 0 ∨ T n ≤ x) ∧ (n + w = 256 ∨ x < T (n + w))

theorem inv_step (x : EReal) (s n : Nat) (h : Inv x (2 * s) n) :
    Inv x s (if x < T (n + s) then n else n + s) := by
  obtain ⟨h0, h1, h2⟩ := h
  split
  · rename_i hx
    exact ⟨by omega, h1, .inr hx⟩
  · rename_i hx
    refine ⟨by omega, .inr (not_lt.1 hx), ?_⟩
    have e : n + s + s = n + 2 * s := by omega
    rw [e]; exact h2

theorem search_spec (x : EReal) : ∃ n, n ≤ 255 ∧ search x = BitVec.ofNat 32 n ∧ (n = 0 ∨ T n ≤ x) ∧ (n = 255 ∨ x < T (n + 1)) := by
  have key : ∀ (s n : Nat) , Inv x (2 * s) n → ∃ n', Inv x s n' ∧ stepv x (BitVec.ofNat 32 n) (BitVec.ofNat 32 s) = BitVec.ofNat 32 n' :=
    fun s n h => ⟨_, inv_step x s n h, step_val x n s⟩
  obtain ⟨n1, i1, e1⟩ := key 128 0 ⟨by omega, .inl rfl, .inl rfl⟩
  obtain ⟨n2, i2, e2⟩ := key 64 n1 i1
  obtain ⟨n3, i3, e3⟩ := key 32 n2 i2
  obtain ⟨n4, i4, e4⟩ := key 16 n3 i3
  obtain ⟨n5, i5, e5⟩ := key 8 n4 i4
  obtain ⟨n6, i6, e6⟩ := key 4 n5 i5
  obtain ⟨n7, i7, e7⟩ := key 2 n6 i6
  obtain ⟨n8, i8, e8⟩ := key 1 n7 i7
  obtain ⟨a, b, c⟩ := i8
  refine ⟨n8, by omega, ?_, b, ?_⟩
  · unfold search
    rw [show stepv x 0#32 128#32 = BitVec.ofNat 32 n1 from e1, e2, e3, e4, e5, e6, e7, e8]
  · rcases c with c | c
    · exact .inl (by omega)
    · exact .inr c

/-- The exponent of a quantised row from the searched field: 0 at the two ends, else the field less 126. -/
def expo (x : EReal) : BitVec 32 :=
  Scalar.select (IntOp.ori (IntOp.cmpi .eq (IntOp.shrsi .vector (IntOp.shli .vector (search x) 23#32) 23#32) 0#32)
      (IntOp.cmpi .eq (IntOp.shrsi .vector (IntOp.shli .vector (search x) 23#32) 23#32) 255#32))
    0#32 (IntOp.subi (IntOp.shrsi .vector (IntOp.shli .vector (search x) 23#32) 23#32) 126#32)

/-- The scale, `2 ^ expo`. -/
def scl (x : EReal) : EReal := FloatOps.ofBits (F := Ideal) .f32 (IntOp.shli .vector (IntOp.addi (expo x) 127#32) 23#32)
/-- Its inverse. -/
def inv (x : EReal) : EReal := FloatOps.ofBits (F := Ideal) .f32 (IntOp.shli .vector (IntOp.subi 127#32 (expo x)) 23#32)

theorem expo_tab : ∀ n : Fin 254, 1 ≤ n.val →
    (let f := IntOp.shrsi .vector (IntOp.shli .vector (BitVec.ofNat 32 n.val) 23#32) 23#32
     let e := Scalar.select (IntOp.ori (IntOp.cmpi .eq f 0#32) (IntOp.cmpi .eq f 255#32)) 0#32 (IntOp.subi f 126#32)
     IntOp.shli .vector (IntOp.addi e 127#32) 23#32 = BitVec.ofNat 32 (n.val + 1) <<< 23
      ∧ (n.val < 253 → IntOp.shli .vector (IntOp.subi 127#32 e) 23#32 = BitVec.ofNat 32 (253 - n.val) <<< 23)) := by decide +kernel

theorem scl_val (x : EReal) (n : Nat) (h1 : 1 ≤ n) (h2 : n ≤ 252) (hs : search x = BitVec.ofNat 32 n) :
    scl x = (((2 : ℝ) ^ ((n : Int) - 126) : ℝ) : EReal) ∧ inv x = (((2 : ℝ) ^ (126 - (n : Int)) : ℝ) : EReal) := by
  obtain ⟨a, b⟩ := expo_tab ⟨n, by omega⟩ h1
  have b := b (by show n < 253; omega)
  unfold scl inv expo
  rw [hs]
  constructor
  · refine (congrArg (Ideal.ofBits .f32) a).trans ((T_val (n + 1) (by omega) (by omega)).trans ?_)
    refine congrArg (fun r : Int => (((2 : ℝ) ^ r : ℝ) : EReal)) ?_; push_cast; ring
  · refine (congrArg (Ideal.ofBits .f32) b).trans ((T_val (253 - n) (by omega) (by omega)).trans ?_)
    refine congrArg (fun r : Int => (((2 : ℝ) ^ r : ℝ) : EReal)) ?_; rw [Nat.cast_sub (by omega)]; push_cast; ring

theorem scl_zero (x : EReal) (hs : search x = BitVec.ofNat 32 0) : scl x = ((1 : ℝ) : EReal) ∧ inv x = ((1 : ℝ) : EReal) := by
  unfold scl inv expo
  rw [hs]
  have t : T 127 = ((1 : ℝ) : EReal) := by rw [T_val 127 (by decide) (by decide)]; norm_num
  constructor
  · exact t
  · exact t

/-- Between the powers of two of the normal range the search finds the exponent. -/
theorem search_normal (r : ℝ) (hlo : (2 : ℝ) ^ (-126 : Int) ≤ r) (hhi : r < (2 : ℝ) ^ (126 : Int)) :
    ∃ n : Nat, 1 ≤ n ∧ n ≤ 252 ∧ search (r : EReal) = BitVec.ofNat 32 n ∧ (2 : ℝ) ^ ((n : Int) - 127) ≤ r ∧ r < (2 : ℝ) ^ ((n : Int) - 126) := by
  obtain ⟨n, h0, h1, h2, h3⟩ := search_spec (r : EReal)
  have hn1 : 1 ≤ n := by
    rcases Nat.eq_zero_or_pos n with h | h
    · subst h
      rcases h3 with h3 | h3
      · omega
      · rw [T_val 1 (by omega) (by omega), EReal.coe_lt_coe_iff] at h3
        norm_num at h3 hlo
        linarith
    · exact h
  have hn2 : n ≤ 252 := by
    by_contra hc
    rcases h2 with h2 | h2
    · omega
    · have h253 : T 253 = (((2 : ℝ) ^ (126 : Int) : ℝ) : EReal) := by
        rw [T_val 253 (by omega) (by omega)]; norm_num
      have hcase : n = 253 ∨ n = 254 ∨ n = 255 := by omega
      rcases hcase with h | h | h
      · subst h
        rw [h253, EReal.coe_le_coe_iff] at h2
        linarith
      · subst h
        rw [T_val 254 (by omega) (by omega), EReal.coe_le_coe_iff] at h2
        have : (2 : ℝ) ^ (126 : Int) ≤ (2 : ℝ) ^ (((254 : Nat) : Int) - 127) := zpow_le_zpow_right₀ (by norm_num) (by norm_num)
        linarith
      · subst h
        have ht : T 255 = ⊤ := by
          show Ideal.ofBits .f32 0x7F800000#32 = ⊤
          simp [Ideal.ofBits, Ideal.ieee]
        rw [ht] at h2
        exact absurd (top_le_iff.1 h2) (EReal.coe_ne_top r)
  refine ⟨n, hn1, hn2, h1, ?_, ?_⟩
  · rcases h2 with h2 | h2
    · omega
    · rw [T_val n hn1 (by omega), EReal.coe_le_coe_iff] at h2
      exact h2
  · rcases h3 with h3 | h3
    · omega
    · rw [T_val (n + 1) (by omega) (by omega), EReal.coe_lt_coe_iff] at h3
      have e : ((n : Int) - 126) = ((n + 1 : Nat) : Int) - 127 := by push_cast; ring
      rw [e]; exact h3

theorem T_pos (n : Nat) (h1 : 1 ≤ n) (h2 : n ≤ 255) : 0 < T n := by
  rcases Nat.lt_or_ge n 255 with h | h
  · rw [T_val n h1 (by omega)]
    exact_mod_cast (by positivity : (0 : ℝ) < (2 : ℝ) ^ ((n : Int) - 127))
  · have e : n = 255 := by omega
    subst e
    have ht : T 255 = ⊤ := by
      show Ideal.ofBits .f32 0x7F800000#32 = ⊤
      simp [Ideal.ofBits, Ideal.ieee]
    rw [ht]; exact EReal.zero_lt_top

theorem search_0 : search 0 = BitVec.ofNat 32 0 := by
  obtain ⟨n, h0, h1, h2, h3⟩ := search_spec 0
  rcases Nat.eq_zero_or_pos n with h | h
  · rw [h1, h]
  · rcases h2 with h2 | h2
    · omega
    · exact absurd h2 (not_le.2 (T_pos n h h0))

/-- The clamped field of a factor's power of two, as bits. -/
def shb (x : EReal) : BitVec 32 := IntOp.minsi 2113929216#32 (IntOp.maxsi 8388608#32 (IntOp.shli .vector (search x) 23#32))

theorem shb_tab : ∀ n : Fin 256, ∃ m : Fin 253, 1 ≤ m.val ∧
    IntOp.minsi 2113929216#32 (IntOp.maxsi 8388608#32 (IntOp.shli .vector (BitVec.ofNat 32 n.val) 23#32)) = BitVec.ofNat 32 m.val <<< 23 := by decide +kernel
theorem shi_tab : ∀ m : Fin 253, 1 ≤ m.val → IntOp.subi 2130706432#32 (BitVec.ofNat 32 m.val <<< 23) = BitVec.ofNat 32 (254 - m.val) <<< 23 := by decide +kernel

/-- The shift and the inverse the codes are multiplied by are real powers of two whose product is one. -/
theorem shift_val (x : EReal) : ∃ r : ℝ, r ≠ 0 ∧ FloatOps.ofBits (F := Ideal) .f32 (shb x) = ((r : ℝ) : EReal)
    ∧ FloatOps.ofBits (F := Ideal) .f32 (IntOp.subi 2130706432#32 (shb x)) = ((r⁻¹ : ℝ) : EReal) := by
  obtain ⟨n, h0, h1, _, _⟩ := search_spec x
  obtain ⟨m, m1, hm⟩ := shb_tab ⟨n, by omega⟩
  have hm' : shb x = BitVec.ofNat 32 m.val <<< 23 := by unfold shb; rw [h1]; exact hm
  have m2 := m.isLt
  refine ⟨(2 : ℝ) ^ ((m.val : Int) - 127), by positivity, ?_, ?_⟩
  · rw [hm']; exact T_val m.val m1 (by omega)
  · rw [hm', shi_tab m m1]
    refine (T_val (254 - m.val) (by omega) (by omega)).trans ?_
    refine congrArg (fun r : ℝ => (r : EReal)) ?_
    rw [← zpow_neg, Nat.cast_sub (by omega)]
    refine congrArg (fun r : Int => (2 : ℝ) ^ r) ?_
    push_cast; ring

end Cert.Alg
end
-- ==== Proof.QuantAlg.lean ====
/- The exponent of a row's scale, as the kernel finds it and as the reference counts it, and the codes. -/
module

public import proofs.«01_k».proof.Proof.Exps

@[expose] public section

set_option maxRecDepth 16384

noncomputable section

namespace Cert.Alg

open Idealize.ShloMosaic

/-- A finite sum of real numbers, read in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The largest absolute value of a row. -/
def amax {n : Nat} (f : Fin n → EReal) : EReal := Finset.univ.fold max (FloatOps.ofBits (F := Ideal) .f32 0xFF800000#32) fun k => max (f k) (-(f k))

/-- The factor the row maximum is multiplied by before its exponent is taken. -/
abbrev cq : EReal := FloatOps.ofBits (F := Ideal) .f32 0x37924925#32

theorem cq_val : cq = ((9586981 / 2 ^ 39 : ℝ) : EReal) := by
  show Ideal.ofBits .f32 0x37924925#32 = _
  simp [Ideal.ofBits, Ideal.ieee, -EReal.coe_mul]
  norm_num

theorem lo_val : FloatOps.ofBits (F := Ideal) .f32 0x08600000#32 = ((57344 * (2 : ℝ) ^ (-126 : Int) : ℝ) : EReal) := by
  show Ideal.ofBits .f32 0x08600000#32 = _
  simp [Ideal.ofBits, Ideal.ieee, -EReal.coe_mul]
  norm_num

theorem hi_val : FloatOps.ofBits (F := Ideal) .f32 0x7F7F0000#32 = ((255 * (2 : ℝ) ^ (120 : Int) : ℝ) : EReal) := by
  show Ideal.ofBits .f32 0x7F7F0000#32 = _
  simp [Ideal.ofBits, Ideal.ieee, -EReal.coe_mul]
  norm_num

theorem zero_val : FloatOps.ofBits (F := Ideal) .f32 0x00000000#32 = (0 : EReal) := by
  show Ideal.ofBits .f32 0x00000000#32 = _
  simp [Ideal.ofBits, Ideal.ieee]
theorem one_val : FloatOps.ofBits (F := Ideal) .f32 0x3F800000#32 = ((1 : ℝ) : EReal) := by
  show Ideal.ofBits .f32 0x3F800000#32 = _
  simp [Ideal.ofBits, Ideal.ieee, -EReal.coe_mul]
  norm_num
theorem v126 : FloatOps.ofBits (F := Ideal) .f32 0x42FC0000#32 = ((126 : ℝ) : EReal) := by
  show Ideal.ofBits .f32 0x42FC0000#32 = _
  simp [Ideal.ofBits, Ideal.ieee, -EReal.coe_mul]
  norm_num
theorem clip_hi : FloatOps.ofBits (F := Ideal) .f32 0x47600000#32 = ((57344 : ℝ) : EReal) := by
  show Ideal.ofBits .f32 0x47600000#32 = _
  simp [Ideal.ofBits, Ideal.ieee, -EReal.coe_mul]
  norm_num
theorem clip_lo : FloatOps.ofBits (F := Ideal) .f32 0xC7600000#32 = ((-57344 : ℝ) : EReal) := by
  show Ideal.ofBits .f32 0xC7600000#32 = _
  simp [Ideal.ofBits, Ideal.ieee, -EReal.coe_mul]
  norm_num

/-- The reference's count of the powers of two at most `x`, less 126; zero for a zero row. -/
def eRef (a : EReal) : EReal :=
  Scalar.select (FloatOps.cmpf (F := Ideal) (φ := .f32) .oeq a (FloatOps.ofBits .f32 0x00000000#32)) (FloatOps.ofBits (F := Ideal) .f32 0x00000000#32)
    (FloatOps.subf (F := Ideal) (φ := .f32) (∑ k : Fin 254, Scalar.select (FloatOps.cmpf (F := Ideal) (φ := .f32) .oge (FloatOps.mulf (F := Ideal) (φ := .f32) a cq)
        (FloatOps.exp2 (F := Ideal) (φ := .f32) (FloatOps.sitofp (F := Ideal) .f32 (IntOp.subi (BitVec.ofNat 32 k.val) 126#32))))
      (FloatOps.ofBits (F := Ideal) .f32 0x3F800000#32) (FloatOps.ofBits (F := Ideal) .f32 0x00000000#32))
     (FloatOps.ofBits .f32 0x42FC0000#32))

/-- One code: the clipped quotient. -/
def codeOf (g a : EReal) : EReal :=
  min (FloatOps.ofBits (F := Ideal) .f32 0x47600000#32) (max (FloatOps.ofBits (F := Ideal) .f32 0xC7600000#32) (g * inv (a * cq)))

/-- A code is a real number, whatever was clipped. -/
theorem code_real (g a : EReal) : ∃ r : ℝ, codeOf g a = (r : EReal) := by
  unfold codeOf
  rw [clip_hi, clip_lo]
  generalize g * inv (a * cq) = z
  have h1 : min ((57344 : ℝ) : EReal) (max ((-57344 : ℝ) : EReal) z) ≠ ⊤ := ne_of_lt (lt_of_le_of_lt (min_le_left _ _) (EReal.coe_lt_top _))
  have h2 : min ((57344 : ℝ) : EReal) (max ((-57344 : ℝ) : EReal) z) ≠ ⊥ := by
    refine ne_of_gt (lt_min (EReal.bot_lt_coe _) (lt_of_lt_of_le (EReal.bot_lt_coe _) (le_max_left _ _)))
  exact ⟨_, (EReal.coe_toReal h1 h2).symm⟩

/-- What the precondition says of a row's largest absolute value. -/
def RowOk (a : EReal) : Prop :=
  a = 0 ∨ (FloatOps.ofBits (F := Ideal) .f32 0x08600000#32 ≤ a ∧ a ≤ FloatOps.ofBits (F := Ideal) .f32 0x7F7F0000#32)

theorem sel_oeq (x y : EReal) {α : Type} (a b : α) :
    Scalar.select (FloatOps.cmpf (F := Ideal) (φ := .f32) .oeq x y) a b = if x = y then a else b := by
  show (if Ideal.cmp .oeq x y = 1 then a else b) = _
  by_cases h : x = y <;> simp [Ideal.cmp, h]
theorem sel_oge (x y : EReal) {α : Type} (a b : α) :
    Scalar.select (FloatOps.cmpf (F := Ideal) (φ := .f32) .oge x y) a b = if y ≤ x then a else b := by
  show (if Ideal.cmp .oge x y = 1 then a else b) = _
  by_cases h : y ≤ x <;> simp [Ideal.cmp, h]

theorem int_tab : ∀ k : Fin 254, (IntOp.subi (BitVec.ofNat 32 k.val) 126#32).toInt = (k.val : Int) - 126 := by decide +kernel

theorem pow_k (k : Fin 254) : FloatOps.exp2 (F := Ideal) (φ := .f32) (FloatOps.sitofp (F := Ideal) .f32 (IntOp.subi (BitVec.ofNat 32 k.val) 126#32))
    = (((2 : ℝ) ^ ((k.val : Int) - 126) : ℝ) : EReal) := by
  show Ideal.exp2 ((((IntOp.subi (BitVec.ofNat 32 k.val) 126#32).toInt : ℝ)) : EReal) = _
  rw [int_tab, Ideal.exp2_coe]
  refine congrArg (fun r : ℝ => (r : EReal)) ?_
  exact Real.rpow_intCast 2 _

theorem exp2_int (z : Int) : Ideal.exp2 ((z : ℝ) : EReal) = (((2 : ℝ) ^ z : ℝ) : EReal) := by
  rw [Ideal.exp2_coe]
  exact congrArg (fun r : ℝ => (r : EReal)) (Real.rpow_intCast 2 _)

theorem count (n : Nat) (hn : n ≤ 254) : (∑ k : Fin 254, if k.val < n then (1 : ℝ) else 0) = n := by
  rw [Fin.sum_univ_eq_sum_range (fun k => if k < n then (1 : ℝ) else 0) 254, Finset.sum_ite, Finset.sum_const_zero, add_zero, Finset.sum_const]
  have : (Finset.range 254).filter (fun k => k < n) = Finset.range n := by
    ext k; simp only [Finset.mem_filter, Finset.mem_range]; omega
  rw [this]; simp

/-- The reference's exponent and the kernel's agree: its power of two is the kernel's scale, and
    the power of two of its negative the factor the kernel multiplies by. -/
theorem quant_spec (a : EReal) (h : RowOk a) :
    Ideal.exp2 (eRef a) = scl (a * cq) ∧ Ideal.exp2 (FloatOps.subf (F := Ideal) (φ := .f32) (FloatOps.ofBits .f32 0x00000000#32) (eRef a)) = inv (a * cq) := by
  rcases h with h | ⟨hlo, hhi⟩
  · subst h
    have e0 : eRef 0 = 0 := by unfold eRef; rw [sel_oeq, zero_val, if_pos rfl]
    obtain ⟨s1, s2⟩ := scl_zero (0 * cq) (by rw [zero_mul]; exact search_0)
    have t : Ideal.exp2 0 = ((1 : ℝ) : EReal) := by
      have := exp2_int 0
      simpa using this
    constructor
    · rw [e0, s1, t]
    · rw [e0, s2, zero_val]
      show Ideal.exp2 (0 - 0) = _
      rw [sub_zero, t]
  · rw [lo_val] at hlo
    rw [hi_val] at hhi
    have n1 : a ≠ ⊤ := ne_of_lt (lt_of_le_of_lt hhi (EReal.coe_lt_top _))
    have n2 : a ≠ ⊥ := ne_of_gt (lt_of_lt_of_le (EReal.bot_lt_coe _) hlo)
    obtain ⟨r, rfl⟩ : ∃ r : ℝ, a = (r : EReal) := ⟨_, (EReal.coe_toReal n1 n2).symm⟩
    have hlo' : 57344 * (2 : ℝ) ^ (-126 : Int) ≤ r := EReal.coe_le_coe_iff.1 hlo
    have hhi' : r ≤ 255 * (2 : ℝ) ^ (120 : Int) := EReal.coe_le_coe_iff.1 hhi
    have ex : (r : EReal) * cq = ((r * (9586981 / 2 ^ 39) : ℝ) : EReal) := by rw [cq_val, EReal.coe_mul]
    have p : (0 : ℝ) < (2 : ℝ) ^ (-126 : Int) := by positivity
    have xlo : (2 : ℝ) ^ (-126 : Int) ≤ r * (9586981 / 2 ^ 39) := by
      calc (2 : ℝ) ^ (-126 : Int) ≤ (57344 * (2 : ℝ) ^ (-126 : Int)) * (9586981 / 2 ^ 39) := by
              have : (1 : ℝ) ≤ 57344 * (9586981 / 2 ^ 39) := by norm_num
              nlinarith
        _ ≤ _ := mul_le_mul_of_nonneg_right hlo' (by positivity)
    have xhi : r * (9586981 / 2 ^ 39) < (2 : ℝ) ^ (126 : Int) := by
      calc r * (9586981 / 2 ^ 39) ≤ (255 * (2 : ℝ) ^ (120 : Int)) * (9586981 / 2 ^ 39) := mul_le_mul_of_nonneg_right hhi' (by positivity)
        _ < _ := by norm_num
    obtain ⟨n, m1, m2, m3, m4, m5⟩ := search_normal _ xlo xhi
    have m3' : search ((r : EReal) * cq) = BitVec.ofNat 32 n := by rw [ex]; exact m3
    obtain ⟨s1, s2⟩ := scl_val _ n m1 m2 m3'
    have rpos : r ≠ 0 := ne_of_gt (lt_of_lt_of_le (by positivity) hlo')
    have er : eRef (r : EReal) = ((((n : Int) - 126 : Int) : ℝ) : EReal) := by
      unfold eRef
      rw [sel_oeq, zero_val, if_neg (by exact_mod_cast rpos), v126, one_val]
      have hs : (∑ k : Fin 254, Scalar.select (FloatOps.cmpf (F := Ideal) (φ := .f32) .oge (FloatOps.mulf (F := Ideal) (φ := .f32) (r : EReal) cq)
          (FloatOps.exp2 (F := Ideal) (φ := .f32) (FloatOps.sitofp (F := Ideal) .f32 (IntOp.subi (BitVec.ofNat 32 k.val) 126#32)))) ((1 : ℝ) : EReal) (0 : EReal)) = ((n : ℝ) : EReal) := by
        rw [← count n (by omega), coe_sum]
        refine Finset.sum_congr rfl fun k _ => ?_
        rw [pow_k, sel_oge]
        have hk : ((((2 : ℝ) ^ ((k.val : Int) - 126) : ℝ) : EReal) ≤ FloatOps.mulf (F := Ideal) (φ := .f32) (r : EReal) cq) ↔ k.val < n := by
          show ((((2 : ℝ) ^ ((k.val : Int) - 126) : ℝ) : EReal) ≤ (r : EReal) * cq) ↔ k.val < n
          rw [ex, EReal.coe_le_coe_iff]
          constructor
          · intro hle
            have := lt_of_le_of_lt hle m5
            have := (zpow_lt_zpow_iff_right₀ (by norm_num : (1 : ℝ) < 2)).1 this
            omega
          · intro hlt
            refine le_trans ?_ m4
            exact zpow_le_zpow_right₀ (by norm_num) (by omega)
        by_cases hc : k.val < n
        · rw [if_pos (hk.2 hc), if_pos hc]
        · rw [if_neg (fun h => hc (hk.1 h)), if_neg hc]; rfl
      refine Eq.trans (congrArg (fun z : EReal => z - ((126 : ℝ) : EReal)) hs) ?_
      rw [← EReal.coe_sub]
      refine congrArg (fun r : ℝ => (r : EReal)) ?_
      push_cast; ring
    constructor
    · rw [er, s1, exp2_int]
    · rw [er, s2, zero_val]
      show Ideal.exp2 ((0 : EReal) - _) = _
      rw [show ((0 : EReal) - ((((n : Int) - 126 : Int) : ℝ) : EReal)) = (((126 - (n : Int) : Int) : ℝ) : EReal) from by
        rw [← EReal.coe_zero, ← EReal.coe_sub]
        refine congrArg (fun r : ℝ => (r : EReal)) ?_
        push_cast; ring]
      rw [exp2_int]

end Cert.Alg
-- ==== Proof.KPay.lean ====
/- The quantise call's payloads read at an index. -/
module

public import proofs.«01_k».proof.Proof.QuantAlg
public import proofs.«01_k».proof.Proof.KernelIdealQuant
public import Idealize.ShloMosaic.Lib.Pipeline.ValueKit
public import Idealize.ShloMosaic.Lib.Pointwise

@[expose] public section

set_option maxRecDepth 16384

noncomputable section

namespace Cert.KernelIdeal.Own

open Idealize.ShloMosaic
open Idealize.SL.Sem
open Cert.KernelIdeal Cert.KernelIdeal.Gen
open Cert.Alg

/-- The exponent from a search's field. -/
def expoF (f : BitVec 32) : BitVec 32 :=
  Scalar.select (IntOp.ori (IntOp.cmpi .eq (IntOp.shrsi .vector (IntOp.shli .vector f 23#32) 23#32) 0#32)
      (IntOp.cmpi .eq (IntOp.shrsi .vector (IntOp.shli .vector f 23#32) 23#32) 255#32))
    0#32 (IntOp.subi (IntOp.shrsi .vector (IntOp.shli .vector f 23#32) 23#32) 126#32)
theorem expo_eq (x : EReal) : expo x = expoF (search x) := rfl

theorem pay4_at (x : Vec Ideal S128x5120 .bf16) (i : S128x1.Idx) : k0_pay4 (F := Ideal) x i = amax (fun k : Fin 5120 => x (ix2 (i 0) k)) * cq := by
  pointwise [k0_pay4, k0_pay3, amax]
  rfl

theorem pay5_at (x : Vec Ideal S128x5120 .bf16) (i : S128x1.Idx) : k0_pay5 (F := Ideal) x i
    = stepv (k0_pay4 (F := Ideal) x i) (stepv (k0_pay4 (F := Ideal) x i) (stepv (k0_pay4 (F := Ideal) x i) (stepv (k0_pay4 (F := Ideal) x i)
        (stepv (k0_pay4 (F := Ideal) x i) 0#32 128#32) 64#32) 32#32) 16#32) 8#32 := by
  unfold k0_pay5
  generalize k0_pay4 (F := Ideal) x = v
  rfl
theorem pay6_of (v : FVec Ideal S128x1 .f32) (f : IVec S128x1 32) (i : S128x1.Idx) : k0_pay6 (F := Ideal) v f i
    = expoF (stepv (v i) (stepv (v i) (stepv (v i) (f i) 4#32) 2#32) 1#32) := rfl
theorem search_at (x : Vec Ideal S128x5120 .bf16) (i : S128x1.Idx) :
    k0_pay6 (F := Ideal) (k0_pay4 (F := Ideal) x) (k0_pay5 (F := Ideal) x) i = expo (k0_pay4 (F := Ideal) x i) := by
  rw [pay6_of, pay5_at, expo_eq]
  unfold search
  generalize k0_pay4 (F := Ideal) x i = v
  rfl
theorem pay7_at (x : Vec Ideal S128x5120 .bf16) (i : S128x1.Idx) :
    k0_pay7 (F := Ideal) (k0_pay4 (F := Ideal) x) (k0_pay5 (F := Ideal) x) i = scl (amax (fun k : Fin 5120 => x (ix2 (i 0) k)) * cq) := by
  rw [← pay4_at, scl, ← search_at]
  unfold k0_pay7
  generalize k0_pay6 (F := Ideal) (k0_pay4 (F := Ideal) x) (k0_pay5 (F := Ideal) x) = v
  rfl
theorem pay8_at (x : Vec Ideal S128x5120 .bf16) (i : S128x1.Idx) :
    k0_pay8 (F := Ideal) (k0_pay4 (F := Ideal) x) (k0_pay5 (F := Ideal) x) i = Cert.Alg.inv (amax (fun k : Fin 5120 => x (ix2 (i 0) k)) * cq) := by
  rw [← pay4_at, Cert.Alg.inv, ← search_at]
  unfold k0_pay8
  generalize k0_pay6 (F := Ideal) (k0_pay4 (F := Ideal) x) (k0_pay5 (F := Ideal) x) = v
  rfl

/-- The codes. -/
theorem codes_at (x : Vec Ideal S128x5120 .bf16) (j : S128x5120.Idx) :
    k0_pay9 (F := Ideal) (k0_pay3 (F := Ideal) x) (k0_pay8 (F := Ideal) (k0_pay4 (F := Ideal) x) (k0_pay5 (F := Ideal) x)) j
      = codeOf (x j) (amax (fun k : Fin 5120 => x (ix2 (j 0) k))) := by
  have e := pay8_at x (ix2 (j 0) 0)
  generalize k0_pay8 (F := Ideal) (k0_pay4 (F := Ideal) x) (k0_pay5 (F := Ideal) x) = v at e
  pointwise [k0_pay9, k0_pay3, codeOf]
  exact congrArg (fun z : EReal => min (Ideal.ofBits FTy.f32 1197473792#32) (max (Ideal.ofBits FTy.f32 3344957440#32) (x j * z))) e

theorem gs_at (v : FVec Ideal S128x1 .f32) (j : S1x1x128.Idx) : k0_pay1 (F := Ideal) v j = v (ix2 (j 2) 0) := by
  pointwise [k0_pay1]

theorem smax_at (s : Vec Ideal S1x5120 .f32) (i : S1x1.Idx) : (k0_pay11 (F := Ideal) s i : EReal) = amax (fun k : Fin 5120 => s (ix2 0 k)) := by
  pointwise [k0_pay11, k0_pay10, amax]
  rfl

theorem pay12_at (s : Vec Ideal S1x5120 .f32) (i : S1x1.Idx) : k0_pay12 (F := Ideal) s i
    = stepv (k0_pay11 (F := Ideal) s i) (stepv (k0_pay11 (F := Ideal) s i) (stepv (k0_pay11 (F := Ideal) s i) 0#32 128#32) 64#32) 32#32 := by
  unfold k0_pay12
  generalize k0_pay11 (F := Ideal) s = v
  rfl
theorem sel16_at (s : Vec Ideal S1x5120 .f32) (i : S1x1.Idx) :
    Scalar.select (k0_pay14 (F := Ideal) s i) (k0_pay12 (F := Ideal) s i) (k0_pay13 (F := Ideal) s i)
      = stepv (k0_pay11 (F := Ideal) s i) (k0_pay12 (F := Ideal) s i) 16#32 := by
  unfold k0_pay14 k0_pay13
  generalize k0_pay11 (F := Ideal) s = v
  generalize k0_pay12 (F := Ideal) s = u
  rfl
/-- One step of the search on one-word arrays. -/
def stepV (v : FVec Ideal S1x1 .f32) (f : IVec S1x1 32) (b : BitVec 32) : IVec S1x1 32 :=
  select (cmpf .olt v (bitcastToFloat .f32 (shli (addi f (broadcast S1x1 b)) (broadcast S1x1 23#32)))) f (addi f (broadcast S1x1 b))
theorem stepV_at (v : FVec Ideal S1x1 .f32) (f : IVec S1x1 32) (b : BitVec 32) (i : S1x1.Idx) : stepV v f b i = stepv (v i) (f i) b := rfl
/-- The bits of the inverse shift, on one-word arrays. -/
def ratV (f : IVec S1x1 32) : FVec Ideal S1x1 .f32 :=
  bitcastToFloat .f32 (subi (broadcast S1x1 2130706432#32) (minsi (broadcast S1x1 2113929216#32) (maxsi (broadcast S1x1 8388608#32)
    (shli f (broadcast S1x1 23#32)))))
theorem ratV_at (f : IVec S1x1 32) (i : S1x1.Idx) : ratV f i = FloatOps.ofBits (F := Ideal) .f32 (IntOp.subi 2130706432#32 (IntOp.minsi 2113929216#32
      (IntOp.maxsi 8388608#32 (IntOp.shli .vector (f i) 23#32)))) := by
  pointwise [ratV]
theorem pay15_eq (a : FVec Ideal S1x5120 .f32) (v : FVec Ideal S1x1 .f32) (f f' : IVec S1x1 32) (b : IVec S1x1 1) :
    k0_pay15 (F := Ideal) a v f f' b = mulf a (broadcastTo S1x5120 (ratV (stepV v (stepV v (stepV v (stepV v (select b f f') 8#32) 4#32) 2#32) 1#32)) broadcasts_S1x1_S1x5120) := by
  unfold k0_pay15 ratV stepV
  rfl
theorem mulrow_at (a : FVec Ideal S1x5120 .f32) (W : FVec Ideal S1x1 .f32) (j : S1x5120.Idx) :
    (mulf a (broadcastTo S1x5120 W broadcasts_S1x1_S1x5120) j : EReal) = a j * W (ix2 0 0) := by
  pointwise []
theorem pay15_of (a : FVec Ideal S1x5120 .f32) (v : FVec Ideal S1x1 .f32) (f f' : IVec S1x1 32) (b : IVec S1x1 1) (j : S1x5120.Idx) :
    (k0_pay15 (F := Ideal) a v f f' b j : EReal) = a j * FloatOps.ofBits (F := Ideal) .f32 (IntOp.subi 2130706432#32 (IntOp.minsi 2113929216#32
      (IntOp.maxsi 8388608#32 (IntOp.shli .vector (stepv (v (ix2 0 0)) (stepv (v (ix2 0 0)) (stepv (v (ix2 0 0)) (stepv (v (ix2 0 0))
        (Scalar.select (b (ix2 0 0)) (f (ix2 0 0)) (f' (ix2 0 0))) 8#32) 4#32) 2#32) 1#32) 23#32)))) := by
  rw [pay15_eq, mulrow_at, ratV_at, stepV_at, stepV_at, stepV_at, stepV_at]
  rfl
/-- The factor the codes are multiplied by to be shifted. -/
theorem ratio_at (s : Vec Ideal S1x5120 .f32) (j : S1x5120.Idx) :
    (k0_pay15 (F := Ideal) (k0_pay10 (F := Ideal) s) (k0_pay11 (F := Ideal) s) (k0_pay12 (F := Ideal) s) (k0_pay13 (F := Ideal) s) (k0_pay14 (F := Ideal) s) j : EReal)
      = s j * FloatOps.ofBits (F := Ideal) .f32 (IntOp.subi 2130706432#32 (shb (amax fun k : Fin 5120 => s (ix2 0 k)))) := by
  rw [pay15_of, sel16_at, pay12_at, smax_at]
  have e : (k0_pay10 (F := Ideal) s j : EReal) = s j := by pointwise [k0_pay10]
  rw [e]
  unfold shb search
  rfl
/-- The shifted codes. -/
theorem shifted_at (v : FVec Ideal S128x5120 .fp8e5m2) (s : Vec Ideal S1x5120 .f32) (j : S128x5120.Idx) :
    (k0_pay17 (F := Ideal) v (k0_pay10 (F := Ideal) s) (k0_pay11 (F := Ideal) s) (k0_pay12 (F := Ideal) s) (k0_pay13 (F := Ideal) s) (k0_pay14 (F := Ideal) s) j : EReal)
      = v j * (s (ix2 0 (j 1)) * FloatOps.ofBits (F := Ideal) .f32 (IntOp.subi 2130706432#32 (shb (amax fun k : Fin 5120 => s (ix2 0 k))))) := by
  rw [← ratio_at s (ix2 0 (j 1))]
  unfold k0_pay17 k0_pay16
  generalize k0_pay15 (F := Ideal) (k0_pay10 (F := Ideal) s) (k0_pay11 (F := Ideal) s) (k0_pay12 (F := Ideal) s) (k0_pay13 (F := Ideal) s) (k0_pay14 (F := Ideal) s) = u
  pointwise []
end Cert.KernelIdeal.Own
-- ==== Proof.KVal0.lean ====
/- The quantise call's arrays after its twelve points, at an index. -/
module

public import proofs.«01_k».proof.Proof.KPay
public import proofs.«01_k».proof.Proof.KernelIdealQuantRun

@[expose] public section

set_option maxRecDepth 16384

noncomputable section

namespace Cert.KernelIdeal.Own

open Idealize.ShloMosaic Idealize.ShloMosaic.TcCoe Idealize.ShloMosaic.Tactic
open Idealize.SL.Sem
open Idealize.ShloMosaic.Pipeline (Dat Cfg Window)
open Cert.KernelIdeal Cert.KernelIdeal.Gen
open Cert.Alg

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0]
    ∧ win0_3.index t = ![t.val, 0] ∧ win0_4.index t = ![t.val, 0, 0] :=
  (by decide +kernel : ∀ t : Fin grid0.N, _)
theorem lt_N0 (t : Fin cfg0.N) : t.val < 12 := t.isLt
theorem hz2 : (![0, 0] : Fin 2 → Nat) = fun _ => 0 := funext fun a => by fin_cases a <;> rfl
theorem hz3 : (![0, 0, 0] : Fin 3 → Nat) = fun _ => 0 := funext fun a => by fin_cases a <;> rfl

/-- The row of point `t`'s block. -/
def rowT (t : Fin cfg0.N) (r : Fin 128) : Fin 1536 := ⟨t.val * 128 + r.val, by have := lt_N0 t; omega⟩

theorem blk0_0 (c : Dev nD) (t : Fin cfg0.N) (r : Fin 128) (k : Fin 5120) :
    iblk0 V c 0 t (ix2 r k) = V c main_v1 (ix2 (rowT t r) k) := by
  blk_ext! [iblk0, idx0 t, rowT]
theorem blk0_1 (c : Dev nD) (t : Fin cfg0.N) (k : Fin 5120) :
    iblk0 V c 1 t (ix2 0 k) = V c main_v2 (ix2 0 k) := by
  blk_ext! [iblk0, idx0 t]

/-- The codes. -/
theorem arr0_2 (c : Dev nD) : (dat0 V c).arrAt 2 cfg0.N
    = (fun j => codeOf (V c main_v1 j) (amax fun k : Fin 5120 => V c main_v1 (ix2 (j 0) k)) : S1536x5120.Idx → EReal) := by
  refine (dat0 V c).arrAt_eq_of_covers 2 _ (by decide +kernel) fun t hf y => ?_
  blk_simp
  rw [after0_2]
  unfold out0_2 k0_pay18 k0_pay21 k0_pay19 k0_pay20
  rw [View.canon_unit_zero hz2, View.ld_unit_zero hz2]
  obtain ⟨r, k, rfl⟩ : ∃ (r : Fin 128) (k : Fin 5120), y = ix2 r k := ⟨y 0, y 1, by blk_ext⟩
  have e0 : (win0_2.blk t).view.emb (ix2 r k) = ix2 (rowT t r) k := by blk_ext [idx0 t, rowT]
  refine (codes_at _ _).trans ?_
  rw [e0]
  exact congrArg₂ codeOf (blk0_0 V c t r k) (congrArg amax (funext fun k' => blk0_0 V c t r k'))

/-- The shifted codes. -/
theorem arr0_3 (c : Dev nD) : (dat0 V c).arrAt 3 cfg0.N
    = (fun j => codeOf (V c main_v1 j) (amax fun k : Fin 5120 => V c main_v1 (ix2 (j 0) k)) * @HMul.hMul EReal EReal EReal _ (V c main_v2 (ix2 0 (j 1)))
        (FloatOps.ofBits (F := Ideal) .f32 (IntOp.subi 2130706432#32 (shb (amax fun k : Fin 5120 => V c main_v2 (ix2 0 k))))) : S1536x5120.Idx → EReal) := by
  refine (dat0 V c).arrAt_eq_of_covers 3 _ (by decide +kernel) fun t hf y => ?_
  blk_simp
  rw [after0_3]
  unfold out0_3 k0_pay22 k0_pay23 k0_pay24 k0_pay25 k0_pay26 k0_pay27 k0_pay18 k0_pay21 k0_pay19 k0_pay20
  rw [View.canon_unit_zero hz2, View.ld_unit_zero hz2, View.ld_unit_zero hz2]
  obtain ⟨r, k, rfl⟩ : ∃ (r : Fin 128) (k : Fin 5120), y = ix2 r k := ⟨y 0, y 1, by blk_ext⟩
  have e0 : (win0_3.blk t).view.emb (ix2 r k) = ix2 (rowT t r) k := by blk_ext [idx0 t, rowT]
  refine (shifted_at _ _ _).trans ?_
  rw [e0]
  refine congrArg₂ (fun a b : EReal => a * b) ((codes_at _ _).trans (congrArg₂ codeOf (blk0_0 V c t r k) (congrArg amax (funext fun k' => blk0_0 V c t r k'))))
    (congrArg₂ (fun a b : EReal => a * b) (blk0_1 V c t k) (congrArg (fun z : EReal => FloatOps.ofBits (F := Ideal) .f32 (IntOp.subi 2130706432#32 (shb z))) (congrArg amax (funext fun k' => blk0_1 V c t k'))))

/-- The scales. -/
theorem arr0_4 (c : Dev nD) : (dat0 V c).arrAt 4 cfg0.N
    = (fun j => scl (amax (fun k : Fin 5120 => V c main_v1 (ix2 ⟨((j 0).val * 128 + (j 2).val) % 1536, Nat.mod_lt _ (Nat.succ_pos 1535)⟩ k)) * cq) : S12x1x128.Idx → EReal) := by
  refine (dat0 V c).arrAt_eq_of_covers 4 _ (by decide +kernel) fun t hf y => ?_
  blk_simp
  rw [after0_4]
  unfold out0_4 k0_pay19 k0_pay20
  rw [View.canon_unit_zero hz3, View.ld_unit_zero hz2]
  obtain ⟨u, v, r, rfl⟩ : ∃ (u : Fin 1) (v : Fin 1) (r : Fin 128), y = ix3 u v r := ⟨y 0, y 1, y 2, by blk_ext⟩
  have ht := lt_N0 t
  refine (gs_at _ _).trans ((pay7_at _ _).trans ?_)
  refine congrArg (fun z : EReal => scl (z * cq)) (congrArg amax (funext fun k' => (blk0_0 V c t r k').trans (congrArg (fun q : Fin 1536 => V c main_v1 (ix2 q k')) (Fin.ext ?_))))
  simp only [idx0 t]
  show t.val * 128 + r.val = (t.val * 128 + (0 * 128 + r.val)) % 1536
  omega

end Cert.KernelIdeal.Own
-- ==== Proof.WhtAlg.lean ====
/- The butterflies over the reals: a signed sum over the plane. -/
module

public import proofs.«01_k».proof.Proof.WhtRun
public import Idealize.ShloMosaic.PureOps.Ideal.Laws
public import Idealize.ShloMosaic.Lib.IdealHost
public import Mathlib.Tactic.IntervalCases
public import Mathlib.Tactic.Linarith
public import Mathlib.Tactic.Positivity
public import Mathlib.Tactic.NormNum
public import Mathlib.Tactic.Ring

@[expose] public section

set_option maxRecDepth 16384

noncomputable section

namespace Cert.Alg

open Idealize.ShloMosaic

open Cert.Wht

/-- The sign of the pair `k`, `i` of numbers below eight: minus at an odd count of common bits. -/
def sg (k i : Nat) : ℝ := if ((k &&& i) % 2 + (k &&& i) / 2 % 2 + (k &&& i) / 4 % 2) % 2 = 0 then 1 else -1

/-- Output `k` of the butterfly on eight reals. -/
def bkR (k : Nat) (x : Nat → ℝ) : ℝ := match k with
  | 0 => ((x 0 + x 1) + (x 2 + x 3)) + ((x 4 + x 5) + (x 6 + x 7))
  | 1 => ((x 0 - x 1) + (x 2 - x 3)) + ((x 4 - x 5) + (x 6 - x 7))
  | 2 => ((x 0 + x 1) - (x 2 + x 3)) + ((x 4 + x 5) - (x 6 + x 7))
  | 3 => ((x 0 - x 1) - (x 2 - x 3)) + ((x 4 - x 5) - (x 6 - x 7))
  | 4 => ((x 0 + x 1) + (x 2 + x 3)) - ((x 4 + x 5) + (x 6 + x 7))
  | 5 => ((x 0 - x 1) + (x 2 - x 3)) - ((x 4 - x 5) + (x 6 - x 7))
  | 6 => ((x 0 + x 1) - (x 2 + x 3)) - ((x 4 + x 5) - (x 6 + x 7))
  | _ => ((x 0 - x 1) - (x 2 - x 3)) - ((x 4 - x 5) - (x 6 - x 7))

theorem bk_coe (k : Nat) (hk : k < 8) (x : Nat → ℝ) : bk (F := Ideal) k (fun i => ((x i : ℝ) : EReal)) = ((bkR k x : ℝ) : EReal) := by
  interval_cases k <;> (unfold bk bkR; simp only [EReal.coe_add, EReal.coe_sub]; rfl)

theorem bkR_sum (k : Nat) (hk : k < 8) (x : Nat → ℝ) : bkR k x = ∑ i ∈ Finset.range 8, sg k i * x i := by
  interval_cases k <;> simp [bkR, Finset.sum_range_succ, sg] <;> ring

theorem bk_real (k : Nat) (hk : k < 8) (x : Nat → ℝ) :
    bk (F := Ideal) k (fun i => ((x i : ℝ) : EReal)) = ((∑ i ∈ Finset.range 8, sg k i * x i : ℝ) : EReal) := by
  rw [bk_coe k hk, bkR_sum k hk]

theorem bk_real' (k : Nat) (hk : k < 8) (y : Nat → Ideal .f32) (x : Nat → ℝ) (h : ∀ i, i < 8 → y i = ((x i : ℝ) : EReal)) :
    bk (F := Ideal) k y = ((∑ i ∈ Finset.range 8, sg k i * x i : ℝ) : EReal) := by
  rw [← bk_real k hk x]
  exact bk_congr k h

/-- The sign between the row `a` of the transformed plane and the row `q` of the plane. -/
def sgn3 (a q : Nat) : ℝ := sg (a / 8 % 8) (q % 8) * sg (a % 8) (q / 8 % 8) * sg (a / 64) (q / 64)

theorem wht_real (P : Nat → Nat → Ideal .f32) (R : Nat → Nat → ℝ) (a l : Nat) (ha : a < 512)
    (h : ∀ q, q < 512 → P q l = ((R q l : ℝ) : EReal)) :
    wht (F := Ideal) P a l = ((∑ q ∈ Finset.range 512, sgn3 a q * R q l : ℝ) : EReal) := by
  unfold wht
  rw [bk_real' _ (by omega) _ (fun i => ∑ i2 ∈ Finset.range 8, sg (a % 8) i2 * ∑ i3 ∈ Finset.range 8, sg (a / 64) i3 * R (64 * i3 + 8 * i2 + i) l) fun i hi => ?_]
  · congr 1
    have e : ∑ q ∈ Finset.range 512, sgn3 a q * R q l = ∑ x ∈ Finset.range 8 ×ˢ (Finset.range 8 ×ˢ Finset.range 8),
        sgn3 a (64 * x.2.2 + 8 * x.2.1 + x.1) * R (64 * x.2.2 + 8 * x.2.1 + x.1) l := by
      refine Finset.sum_nbij' (fun q => (q % 8, q / 8 % 8, q / 64)) (fun x => 64 * x.2.2 + 8 * x.2.1 + x.1) ?_ ?_ ?_ ?_ ?_
      · intro q hq; simp only [Finset.mem_product, Finset.mem_range] at *; omega
      · intro x hx; simp only [Finset.mem_product, Finset.mem_range] at *; omega
      · intro q hq; simp only; omega
      · rintro ⟨x1, x2, x3⟩ hx; simp only [Finset.mem_product, Finset.mem_range] at *; simp only [Prod.mk.injEq]; omega
      · intro q hq
        have : 64 * (q / 64) + 8 * (q / 8 % 8) + q % 8 = q := by omega
        simp only [this]
    rw [e, Finset.sum_product]
    refine Finset.sum_congr rfl fun i hi => ?_
    rw [Finset.sum_product, Finset.mul_sum]
    refine Finset.sum_congr rfl fun i2 hi2 => ?_
    rw [Finset.mul_sum, Finset.mul_sum]
    refine Finset.sum_congr rfl fun i3 hi3 => ?_
    simp only [Finset.mem_range] at hi hi2 hi3
    unfold sgn3
    rw [show (64 * i3 + 8 * i2 + i) % 8 = i by omega, show (64 * i3 + 8 * i2 + i) / 8 % 8 = i2 by omega, show (64 * i3 + 8 * i2 + i) / 64 = i3 by omega]
    ring
  · refine bk_real' _ (by omega) _ _ fun i2 hi2 => ?_
    exact bk_real' _ (by omega) _ _ fun i3 hi3 => h _ (by omega)

/-- The parity of the common bits, on words. -/
def walshBit (p q : BitVec 32) : BitVec 1 := IntOp.cmpi .eq (IntOp.andi (IntOp.ctpop (IntOp.andi p q)) 1#32) 0#32

/-- Whether a three-bit number has an even count of bits. -/
def par (d : Nat) : Bool := (d % 2 + d / 2 % 2 + d / 4 % 2) % 2 == 0

theorem par_tab : ∀ x : Fin 512, (IntOp.cmpi .eq (IntOp.andi (IntOp.ctpop (BitVec.ofNat 32 x.val)) 1#32) 0#32 == 1#1)
    = ((par (x.val % 8) == par (x.val / 8 % 8)) == par (x.val / 64)) := by decide +kernel

theorem sg_eq (k i : Nat) : sg k i = if par (k &&& i) then 1 else -1 := by unfold sg par; simp

theorem and_digits (p q : Nat) : (q &&& p) % 8 = p % 8 &&& q % 8 ∧ (q &&& p) / 8 % 8 = p / 8 % 8 &&& q / 8 % 8 ∧ (q &&& p) / 64 = p / 64 &&& q / 64 := by
  have e8 : (8 : Nat) = 2 ^ 3 := rfl
  have e64 : (64 : Nat) = 2 ^ 6 := rfl
  have d3 : ∀ x y : Nat, (x &&& y) / 2 ^ 3 = x / 2 ^ 3 &&& y / 2 ^ 3 := fun x y => by
    simp only [← Nat.shiftRight_eq_div_pow, Nat.shiftRight_and_distrib]
  have d6 : ∀ x y : Nat, (x &&& y) / 2 ^ 6 = x / 2 ^ 6 &&& y / 2 ^ 6 := fun x y => by
    simp only [← Nat.shiftRight_eq_div_pow, Nat.shiftRight_and_distrib]
  have m3 : ∀ x y : Nat, (x &&& y) % 2 ^ 3 = x % 2 ^ 3 &&& y % 2 ^ 3 := fun x y => Nat.and_mod_two_pow
  rw [e8, e64]
  refine ⟨?_, ?_, ?_⟩
  · rw [m3, Nat.and_comm]
  · rw [d3, m3, Nat.and_comm]
  · rw [d6, Nat.and_comm]

/-- The Walsh matrix of the reference is the sign of the butterflies, at the row in the order the output has. -/
theorem walsh_sgn (a q b : Nat) (ha : a < 512) (hq : q < 512) (hb : b = 64 * (a / 64) + 8 * (a % 8) + a / 8 % 8) :
    (if walshBit (BitVec.ofNat 32 q) (BitVec.ofNat 32 b) = 1#1 then (1 : ℝ) else -1) = sgn3 a q := by
  have hb5 : b < 512 := by omega
  have hlt : q &&& b < 512 := Nat.and_lt_two_pow q (n := 9) hb5
  have h := par_tab ⟨q &&& b, hlt⟩
  simp only at h
  obtain ⟨d0, d1, d2⟩ := and_digits b q
  rw [d0, d1, d2] at h
  have b0 : b % 8 = a / 8 % 8 := by omega
  have b1 : b / 8 % 8 = a % 8 := by omega
  have b2 : b / 64 = a / 64 := by omega
  rw [b0, b1, b2] at h
  have e : IntOp.andi (BitVec.ofNat 32 q) (BitVec.ofNat 32 b) = BitVec.ofNat 32 (q &&& b) := by
    show BitVec.ofNat 32 q &&& BitVec.ofNat 32 b = _
    rw [BitVec.ofNat_and]
  unfold walshBit sgn3
  rw [e, sg_eq, sg_eq, sg_eq]
  simp only [← beq_iff_eq (a := IntOp.cmpi CmpIPredicate.eq _ _), h]
  cases par (a / 8 % 8 &&& q % 8) <;> cases par (a % 8 &&& q / 8 % 8) <;> cases par (a / 64 &&& q / 64) <;> simp

end Cert.Alg
end
-- ==== Proof.WhtVal.lean ====
/- The main call's block over the real numbers: signed sums of products of codes and scaled weights, times the row's scale. -/
module

public import proofs.«01_k».proof.Proof.WhtAlg
public import proofs.«01_k».proof.Proof.QuantAlg
public import Idealize.ShloMosaic.Lib.Pipeline.ValueKit
public import Idealize.ShloMosaic.Lib.Pointwise

@[expose] public section

set_option maxRecDepth 16384

noncomputable section

namespace Cert.Wht

open Idealize.ShloMosaic
open Idealize.SL.Sem
open Cert.Alg

/-! ## The shift -/

/-- The largest absolute column factor, as a one-word array. -/
def colMax (s : FVec Ideal TS .bf16) : FVec Ideal T11 .f32 :=
  shapeCast T11 (multiReduction .maximumf [1] T1 (absf (extf .f32 s lt_bf16)) 0xFF800000#32 red_S (.inl rfl) rfl) sc_1_11
theorem colMax_at (s : FVec Ideal TS .bf16) (i : T11.Idx) : (colMax s i : EReal) = amax fun k : Fin 5120 => s (ix2 0 k) := by
  pointwise [colMax, amax]
  rfl
/-- The clamped bits of a field. -/
def clampV (f : IVec T11 32) : FVec Ideal T11 .f32 :=
  bitcastToFloat .f32 (minsi (broadcast T11 2113929216#32) (maxsi (broadcast T11 8388608#32) (shli f (broadcast T11 23#32))))
theorem clampV_at (f : IVec T11 32) (i : T11.Idx) : (clampV f i : EReal) = FloatOps.ofBits (F := Ideal) .f32 (IntOp.minsi 2113929216#32
      (IntOp.maxsi 8388608#32 (IntOp.shli .vector (f i) 23#32))) := by
  pointwise [clampV]
theorem fieldStep_at (v : FVec Ideal T11 .f32) (f : IVec T11 32) (b : BitVec 32) (i : T11.Idx) : fieldStep v f b i = stepv (v i) (f i) b := rfl
/-- The eight steps on one-word arrays. -/
def searchV (x : FVec Ideal T11 .f32) : IVec T11 32 :=
  fieldStep x (fieldStep x (fieldStep x (fieldStep x (fieldStep x (fieldStep x (fieldStep x (fieldStep x
    (broadcast T11 0#32) 128#32) 64#32) 32#32) 16#32) 8#32) 4#32) 2#32) 1#32
theorem searchV_at (x : FVec Ideal T11 .f32) (i : T11.Idx) : searchV x i = search (x i) := by
  unfold searchV search
  simp only [fieldStep_at]
  rfl
theorem shift_eq (s : FVec Ideal TS .bf16) : shift s = clampV (searchV (colMax s)) := by
  unfold shift clampV searchV colMax
  rfl
theorem shift_at (s : FVec Ideal TS .bf16) (i : T11.Idx) : (shift s i : EReal) = FloatOps.ofBits (F := Ideal) .f32 (shb (amax fun k : Fin 5120 => s (ix2 0 k))) := by
  rw [shift_eq, clampV_at, searchV_at]
  unfold shb
  exact congrArg (fun z : EReal => FloatOps.ofBits (F := Ideal) .f32 (IntOp.minsi 2113929216#32
      (IntOp.maxsi 8388608#32 (IntOp.shli .vector (search z) 23#32)))) (colMax_at s i)

/-! ## The two products -/

theorem prodA_at (W : Vec Ideal TW .fp8e4m3) (x : FVec Ideal TXj .fp8e5m2) (s : FVec Ideal TS .bf16) (q : Fin 512) (b : Fin 256) :
    (prodA W x s (ix2 q b) : EReal) = (∑ k : Fin 5120, (W (ix2 q k) : EReal) * x (ix2 b k)) * shift s (ix2 0 0) := by
  unfold prodA
  generalize shift s = v
  pointwise []
theorem prodB_at (W : Vec Ideal TW .fp8e4m3) (x : FVec Ideal TXj .fp8e5m2) (s : FVec Ideal TS .bf16) (q : Fin 512) (b : Fin 256) :
    (prodB W x s (ix2 q b) : EReal) = ∑ k : Fin 5120, ((W (ix2 q k) : EReal) * s (ix2 0 k)) * x (ix2 b k) := by
  pointwise [prodB]

/-- The entry of a 1536-row array of codes `j`'s block reads. -/
theorem xrows_at (X : Vec Ideal TX .fp8e5m2) (j : Nat) (b : Fin 256) (k : Fin 5120) :
    xrows X j (ix2 b k) = X (ix2 (⟨(256 * j + b.val) % 1536, Nat.mod_lt _ (Nat.succ_pos 1535)⟩ : Fin 1536) k) := by
  unfold xrows
  refine congrArg X (funext fun a => ?_)
  match a with
  | ⟨0, _⟩ => rfl
  | ⟨1, _⟩ => rfl

/-- Either product over the reals: the sum of codes by scaled weights. -/
theorem prod_real (f : Vec Ideal T1 .i32) (W : Vec Ideal TW .fp8e4m3) (X X' : Vec Ideal TX .fp8e5m2) (S : FVec Ideal TS .bf16) (j : Nat)
    (wR : Fin 512 → Fin 5120 → ℝ) (cR : Fin 1536 → Fin 5120 → ℝ) (sR : Fin 5120 → ℝ)
    (hW : ∀ q k, W (ix2 q k) = ((wR q k : ℝ) : EReal)) (hS : ∀ k, S (ix2 0 k) = ((sR k : ℝ) : EReal))
    (hX' : ∀ r k, X' (ix2 r k) = ((cR r k : ℝ) : EReal))
    (hX : ∀ r k, X (ix2 r k) = ((cR r k : ℝ) : EReal) * (((sR k : ℝ) : EReal)
        * FloatOps.ofBits (F := Ideal) .f32 (IntOp.subi 2130706432#32 (shb (amax fun k : Fin 5120 => S (ix2 0 k)))))) (q : Fin 512) (b : Fin 256) :
    (prod f W X X' S j (ix2 q b) : EReal)
      = ((∑ k : Fin 5120, cR ⟨(256 * j + b.val) % 1536, Nat.mod_lt _ (Nat.succ_pos 1535)⟩ k * (wR q k * sR k) : ℝ) : EReal) := by
  unfold prod
  obtain ⟨ρ, h0, h1, h2⟩ := shift_val (amax fun k : Fin 5120 => S (ix2 0 k))
  by_cases hf : flv f = 0#32
  · rw [if_pos hf, prodA_at, shift_at, h1]
    have e : ∀ k : Fin 5120, (W (ix2 q k) : EReal) * xrows X j (ix2 b k)
        = ((cR ⟨(256 * j + b.val) % 1536, Nat.mod_lt _ (Nat.succ_pos 1535)⟩ k * (wR q k * sR k) * ρ⁻¹ : ℝ) : EReal) := fun k => by
      rw [xrows_at, hX, hW, h2, ← EReal.coe_mul, ← EReal.coe_mul, ← EReal.coe_mul]
      congr 1
      ring
    rw [Finset.sum_congr rfl fun k _ => e k, ← coe_sum, ← EReal.coe_mul, ← Finset.sum_mul]
    congr 1
    field_simp
  · rw [if_neg hf, prodB_at, coe_sum]
    refine Finset.sum_congr rfl fun k _ => ?_
    rw [xrows_at, hX', hW, hS, ← EReal.coe_mul, ← EReal.coe_mul]
    congr 1
    ring

/-- The block over the reals. -/
theorem outY_real (f : Vec Ideal T1 .i32) (W : Vec Ideal TW .fp8e4m3) (X X' : Vec Ideal TX .fp8e5m2) (S : Vec Ideal TS .f32) (G : Vec Ideal TG .f32)
    (wR : Fin 512 → Fin 5120 → ℝ) (cR : Fin 1536 → Fin 5120 → ℝ) (sR : Fin 5120 → ℝ) (gR : Fin 1536 → ℝ)
    (hW : ∀ q k, W (ix2 q k) = ((wR q k : ℝ) : EReal)) (hS : ∀ k, S (ix2 0 k) = ((sR k : ℝ) : EReal))
    (hX' : ∀ r k, X' (ix2 r k) = ((cR r k : ℝ) : EReal))
    (hX : ∀ r k, X (ix2 r k) = ((cR r k : ℝ) : EReal) * (((sR k : ℝ) : EReal)
        * FloatOps.ofBits (F := Ideal) .f32 (IntOp.subi 2130706432#32 (shb (amax fun k : Fin 5120 => S (ix2 0 k))))))
    (hG : ∀ r, G (ix2 0 r) = ((gR r : ℝ) : EReal)) (p : Fin 12) (z : Fin 1) (a : Fin 512) (l : Fin 128) :
    (outY f W X X' S G (ix4 p z a l) : EReal)
      = (((∑ q ∈ Finset.range 512, sgn3 a.val q * ∑ k : Fin 5120, cR ⟨(128 * p.val + l.val) % 1536, Nat.mod_lt _ (Nat.succ_pos 1535)⟩ k
          * (wR ⟨q % 512, Nat.mod_lt _ (Nat.succ_pos 511)⟩ k * sR k)) * gR ⟨(128 * p.val + l.val) % 1536, Nat.mod_lt _ (Nat.succ_pos 1535)⟩ : ℝ) : EReal) := by
  have hg : (gsG G p.val l.val : EReal) = ((gR ⟨(128 * p.val + l.val) % 1536, Nat.mod_lt _ (Nat.succ_pos 1535)⟩ : ℝ) : EReal) := by
    rw [← hG]
    unfold gsG
    refine congrArg G (funext fun a => ?_)
    match a with
    | ⟨0, _⟩ => rfl
    | ⟨1, _⟩ => rfl
  have hp : ∀ q, q < 512 → (prod f W X X' (truncf .bf16 (S : FVec Ideal TS .f32) lt_bf16) (p.val / 2) (ip q (128 * (p.val % 2) + l.val)) : EReal)
      = ((∑ k : Fin 5120, cR ⟨(128 * p.val + l.val) % 1536, Nat.mod_lt _ (Nat.succ_pos 1535)⟩ k * (wR ⟨q % 512, Nat.mod_lt _ (Nat.succ_pos 511)⟩ k * sR k) : ℝ) : EReal) := fun q hq => by
    have ei : ip q (128 * (p.val % 2) + l.val) = ix2 (⟨q % 512, Nat.mod_lt _ (Nat.succ_pos 511)⟩ : Fin 512)
        (⟨(128 * (p.val % 2) + l.val) % 256, Nat.mod_lt _ (Nat.succ_pos 255)⟩ : Fin 256) := by
      unfold ip
      funext a
      match a with
      | ⟨0, _⟩ => rfl
      | ⟨1, _⟩ => rfl
    rw [ei]
    refine (prod_real f W X X' (truncf .bf16 (S : FVec Ideal TS .f32) lt_bf16) (p.val / 2) wR cR sR hW hS hX' hX _ _).trans ?_
    have er : (256 * (p.val / 2) + (128 * (p.val % 2) + l.val) % 256) % 1536 = (128 * p.val + l.val) % 1536 := by
      have := p.isLt; have := l.isLt; omega
    simp only [er]
  show FloatOps.mulf (F := Ideal) (φ := .f32) (wht (F := Ideal) (fun a l => prod f W X X' (truncf .bf16 (S : FVec Ideal TS .f32) lt_bf16) (p.val / 2)
      (ip a (128 * (p.val % 2) + l))) a.val l.val) (gsG G p.val l.val) = _
  rw [wht_real _ (fun q l' => ∑ k : Fin 5120, cR ⟨(128 * p.val + l') % 1536, Nat.mod_lt _ (Nat.succ_pos 1535)⟩ k * (wR ⟨q % 512, Nat.mod_lt _ (Nat.succ_pos 511)⟩ k * sR k))
    a.val l.val a.isLt hp, hg]
  exact (EReal.coe_mul _ _).symm

end Cert.Wht
-- ==== Proof.YReal.lean ====
/- The first result at an index, over the reals. -/
module

public import proofs.«01_k».proof.Proof.WhtAlg

@[expose] public section

set_option maxRecDepth 16384

noncomputable section

namespace Cert.Alg

/-- The result at plane `p`, row block `n`, row `a`, lane `l`: the signed sum over the block's 512 rows of the products of
    codes and scaled weights, times the row's scale. -/
def yR (wR : Fin 22528 → Fin 5120 → ℝ) (cR : Fin 1536 → Fin 5120 → ℝ) (sR : Fin 5120 → ℝ) (gR : Fin 1536 → ℝ) (p n a l : Nat) : ℝ :=
  (∑ q ∈ Finset.range 512, sgn3 a q * ∑ k : Fin 5120, cR ⟨(128 * p + l) % 1536, Nat.mod_lt _ (Nat.succ_pos 1535)⟩ k
    * (wR ⟨(512 * n + q) % 22528, Nat.mod_lt _ (Nat.succ_pos 22527)⟩ k * sR k)) * gR ⟨(128 * p + l) % 1536, Nat.mod_lt _ (Nat.succ_pos 1535)⟩
theorem yR_congr (wR : Fin 22528 → Fin 5120 → ℝ) (cR : Fin 1536 → Fin 5120 → ℝ) (sR : Fin 5120 → ℝ) (gR : Fin 1536 → ℝ) {p p' n n' a a' l l' : Nat}
    (hp : p = p') (hn : n = n') (ha : a = a') (hl : l = l') : yR wR cR sR gR p n a l = yR wR cR sR gR p' n' a' l' := by
  subst hp hn ha hl; rfl

end Cert.Alg
-- ==== Proof.KVal1.lean ====
/- The main call's array after its forty-four points, over the reals. -/
module

public import proofs.«01_k».proof.Proof.WhtVal
public import proofs.«01_k».proof.Proof.KernelIdealMain
public import proofs.«01_k».proof.Proof.YReal

@[expose] public section

set_option maxRecDepth 16384

noncomputable section

namespace Cert.KernelIdeal.Own

open Idealize.ShloMosaic Idealize.ShloMosaic.TcCoe Idealize.ShloMosaic.Tactic
open Idealize.SL.Sem
open Idealize.ShloMosaic.Pipeline (Dat Cfg Window)
open Cert.KernelIdeal Cert.KernelIdeal.Gen
open Cert.Alg

variable (V : (c : Dev nD) → (b : Ref sig .tc) → Buf (Elt Ideal) ((c : Thread nD τ).loc b))

theorem idx1 : ∀ t : Fin cfg1.N, win1_1.index t = ![t.val, 0] ∧ win1_2.index t = ![0, 0] ∧ win1_3.index t = ![0, 0]
    ∧ win1_4.index t = ![0, 0] ∧ win1_5.index t = ![0, 0] ∧ win1_6.index t = ![0, t.val, 0, 0] :=
  (by decide +kernel : ∀ t : Fin grid1.N, _)
theorem lt_N1 (t : Fin cfg1.N) : t.val < 44 := t.isLt

/-- The row of the weights that row `q` of point `t`'s block is. -/
def rowW (t : Fin cfg1.N) (q : Fin 512) : Fin 22528 := ⟨t.val * 512 + q.val, by have := lt_N1 t; omega⟩

theorem blk1_1 (c : Dev nD) (t : Fin cfg1.N) (q : Fin 512) (k : Fin 5120) : iblk1 V c 1 t (ix2 q k) = V c main_v0 (ix2 (rowW t q) k) := by
  blk_ext! [iblk1, idx1 t, rowW]
theorem blk1_2 (c : Dev nD) (t : Fin cfg1.N) (r : Fin 1536) (k : Fin 5120) : iblk1 V c 2 t (ix2 r k) = V c main_v3_1 (ix2 r k) := by
  blk_ext! [iblk1, idx1 t]
theorem blk1_3 (c : Dev nD) (t : Fin cfg1.N) (r : Fin 1536) (k : Fin 5120) : iblk1 V c 3 t (ix2 r k) = V c main_v3_0 (ix2 r k) := by
  blk_ext! [iblk1, idx1 t]
theorem blk1_4 (c : Dev nD) (t : Fin cfg1.N) (k : Fin 5120) : iblk1 V c 4 t (ix2 0 k) = V c main_v2 (ix2 0 k) := by
  blk_ext! [iblk1, idx1 t]
theorem blk1_5 (c : Dev nD) (t : Fin cfg1.N) (r : Fin 1536) : iblk1 V c 5 t (ix2 0 r) = V c main_v6 (ix2 0 r) := by
  blk_ext! [iblk1, idx1 t]

/-- The main call's array. -/
theorem arr1_6 (c : Dev nD) (wR : Fin 22528 → Fin 5120 → ℝ) (cR : Fin 1536 → Fin 5120 → ℝ) (sR : Fin 5120 → ℝ) (gR : Fin 1536 → ℝ)
    (hW : ∀ o k, (V c main_v0 (ix2 o k) : EReal) = ((wR o k : ℝ) : EReal)) (hS : ∀ k, (V c main_v2 (ix2 0 k) : EReal) = ((sR k : ℝ) : EReal))
    (hX' : ∀ r k, (V c main_v3_0 (ix2 r k) : EReal) = ((cR r k : ℝ) : EReal))
    (hX : ∀ r k, (V c main_v3_1 (ix2 r k) : EReal) = ((cR r k : ℝ) : EReal) * (((sR k : ℝ) : EReal)
        * FloatOps.ofBits (F := Ideal) .f32 (IntOp.subi 2130706432#32 (shb (amax fun k : Fin 5120 => V c main_v2 (ix2 0 k))))))
    (hG : ∀ r, (V c main_v6 (ix2 0 r) : EReal) = ((gR r : ℝ) : EReal)) :
    (dat1 V c).arrAt 6 cfg1.N = (fun j => ((yR wR cR sR gR (j 0).val (j 1).val (j 2).val (j 3).val : ℝ) : EReal) : S12x44x512x128.Idx → EReal) := by
  refine (dat1 V c).arrAt_eq_of_covers 6 _ (by decide +kernel) fun t hf y => ?_
  blk_simp
  rw [after1_6]
  unfold outsAt1
  obtain ⟨p, z, a, l, rfl⟩ : ∃ (p : Fin 12) (z : Fin 1) (a : Fin 512) (l : Fin 128), y = ix4 p z a l := ⟨y 0, y 1, y 2, y 3, by blk_ext⟩
  have ht := lt_N1 t
  have eS : (fun k : Fin 5120 => iblk1 V c 4 t (ix2 0 k)) = fun k : Fin 5120 => V c main_v2 (ix2 0 k) := funext fun k => blk1_4 V c t k
  refine (Wht.outY_real (iblk1 V c 0 t) (iblk1 V c 1 t) (iblk1 V c 2 t) (iblk1 V c 3 t) (iblk1 V c 4 t) (iblk1 V c 5 t)
    (fun q k => wR (rowW t q) k) cR sR gR (fun q k => (blk1_1 V c t q k).trans (hW _ _)) (fun k => (blk1_4 V c t k).trans (hS k))
    (fun r k => (blk1_3 V c t r k).trans (hX' r k)) (fun r k => (blk1_2 V c t r k).trans ((hX r k).trans ?_)) (fun r => (blk1_5 V c t r).trans (hG r)) p z a l).trans ?_
  · exact congrArg (fun f : Fin 5120 → EReal => ((cR r k : ℝ) : EReal) * (((sR k : ℝ) : EReal)
        * FloatOps.ofBits (F := Ideal) .f32 (IntOp.subi 2130706432#32 (shb (amax f))))) eS.symm
  · have e : ∀ q ∈ Finset.range 512, ∀ k : Fin 5120, wR (rowW t ⟨q % 512, Nat.mod_lt _ (Nat.succ_pos 511)⟩) k
        = wR ⟨(512 * t.val + q) % 22528, Nat.mod_lt _ (Nat.succ_pos 22527)⟩ k := fun q hq k => by
      refine congrArg (fun o => wR o k) (Fin.ext ?_)
      have := Finset.mem_range.mp hq
      show t.val * 512 + q % 512 = (512 * t.val + q) % 22528
      omega
    refine Eq.trans (b := ((yR wR cR sR gR p.val t.val a.val l.val : ℝ) : EReal)) (congrArg (fun z : ℝ => (z : EReal)) ?_)
      (congrArg (fun z : ℝ => (z : EReal)) (yR_congr wR cR sR gR ?_ ?_ ?_ ?_))
    · unfold yR
      refine congrArg (· * _) (Finset.sum_congr rfl fun q hq => congrArg (sgn3 a q * ·) (Finset.sum_congr rfl fun k _ => ?_))
      rw [e q hq k]
    · simp [idx1 t]
    · simp [idx1 t]
    · simp [idx1 t]
    · simp [idx1 t]

end Cert.KernelIdeal.Own
-- ==== Proof.KHost.lean ====
/- The host's steps around the kernel's two calls, read at an index. -/
module

public import proofs.«01_k».proof.Proof.KernelIdealRun
public import Idealize.ShloMosaic.Lib.StableHlo.ReadAt
public import Idealize.ShloMosaic.Lib.Pipeline.ValueKit
public import Idealize.ShloMosaic.Lib.Pointwise

@[expose] public section

set_option maxRecDepth 16384

noncomputable section

namespace Cert.KernelIdeal.Own

open Idealize.ShloMosaic Idealize.ShloMosaic.TcCoe Idealize.ShloMosaic.Tactic
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem V1_v0 (c : Dev nD) (o : Fin 22528) (k : Fin 5120) : V1 m ρ c main_v0 (ix2 o k) = m ((c : Thread nD τ).loc main_arg1) (ix2 o k) := by
  show StableHlo.after hostOps0 (W0 m ρ c) (Proc.devRef .tc main_v0) (ix2 o k) = _
  after_reads_at
theorem V1_v1 (c : Dev nD) (r : Fin 1536) (k : Fin 5120) : V1 m ρ c main_v1 (ix2 r k)
    = m ((c : Thread nD τ).loc main_arg0) (ix3 (⟨r.val / 256, by omega⟩ : Fin 6) (⟨r.val % 256, by omega⟩ : Fin 256) k) := by
  show StableHlo.after hostOps0 (W0 m ρ c) (Proc.devRef .tc main_v1) (ix2 r k) = _
  after_reads_at
theorem V1_v2 (c : Dev nD) (k : Fin 5120) : V1 m ρ c main_v2 (ix2 0 k) = m ((c : Thread nD τ).loc main_arg2) (ix1 k) := by
  show StableHlo.after hostOps0 (W0 m ρ c) (Proc.devRef .tc main_v2) (ix2 0 k) = _
  after_reads_at

theorem V3_v0 (c : Dev nD) : V3 m ρ c main_v0 = V1 m ρ c main_v0 :=
  (W3_of m ρ c main_v0 (by decide)).trans (W2_of m ρ c main_v0 (by decide))
theorem V3_v2 (c : Dev nD) : V3 m ρ c main_v2 = V1 m ρ c main_v2 :=
  (W3_of m ρ c main_v2 (by decide)).trans (W2_of m ρ c main_v2 (by decide))
theorem V3_v3_0 (c : Dev nD) : V3 m ρ c main_v3_0 = (dat0 (V1 m ρ) c).arrAt 2 cfg0.N :=
  (W3_of m ρ c main_v3_0 (by decide)).trans (W2_arr m ρ c 2)
theorem V3_v3_1 (c : Dev nD) : V3 m ρ c main_v3_1 = (dat0 (V1 m ρ) c).arrAt 3 cfg0.N :=
  (W3_of m ρ c main_v3_1 (by decide)).trans (W2_arr m ρ c 3)
theorem V3_v3_2 (c : Dev nD) : V3 m ρ c main_v3_2 = (dat0 (V1 m ρ) c).arrAt 4 cfg0.N :=
  (W3_of m ρ c main_v3_2 (by decide)).trans (W2_arr m ρ c 4)
theorem V3_v6 (c : Dev nD) (r : Fin 1536) : V3 m ρ c main_v6 (ix2 0 r)
    = W2 m ρ c (Proc.devRef .tc main_v3_2) (ix3 (⟨r.val / 128, by omega⟩ : Fin 12) (0 : Fin 1) (⟨r.val % 128, by omega⟩ : Fin 128)) := by
  show StableHlo.after hostOps1 (W2 m ρ c) (Proc.devRef .tc main_v6) (ix2 0 r) = _
  after_reads_at

theorem W5_v7 (c : Dev nD) : W5 m ρ c (Proc.devRef .tc main_v7) = (dat1 (V3 m ρ) c).arrAt 6 cfg1.N :=
  (W5_of m ρ c main_v7 (by decide)).trans (W4_arr m ρ c 6)
theorem W4_v3_0 (c : Dev nD) : W4 m ρ c (Proc.devRef .tc main_v3_0) = (dat0 (V1 m ρ) c).arrAt 2 cfg0.N :=
  (W4_of m ρ c main_v3_0 (by decide)).trans (V3_v3_0 m ρ c)
theorem W4_v3_2 (c : Dev nD) : W4 m ρ c (Proc.devRef .tc main_v3_2) = (dat0 (V1 m ρ) c).arrAt 4 cfg0.N :=
  (W4_of m ρ c main_v3_2 (by decide)).trans (V3_v3_2 m ρ c)
theorem W5_v8 (c : Dev nD) (a : Fin 6) (b : Fin 256) (k : Fin 5120) : W5 m ρ c (Proc.devRef .tc main_v8) (ix3 a b k)
    = W4 m ρ c (Proc.devRef .tc main_v3_0) (ix2 (⟨a.val * 256 + b.val, by omega⟩ : Fin 1536) k) := by
  show StableHlo.after hostOps2 (W4 m ρ c) (Proc.devRef .tc main_v8) (ix3 a b k) = _
  after_reads_at
theorem W5_v9 (c : Dev nD) (a : Fin 6) (b : Fin 256) : W5 m ρ c (Proc.devRef .tc main_v9) (ix2 a b)
    = W4 m ρ c (Proc.devRef .tc main_v3_2) (ix3 (⟨(a.val * 256 + b.val) / 128, by omega⟩ : Fin 12) (0 : Fin 1) (⟨(a.val * 256 + b.val) % 128, by omega⟩ : Fin 128)) := by
  show StableHlo.after hostOps2 (W4 m ρ c) (Proc.devRef .tc main_v9) (ix2 a b) = _
  after_reads_at
  exact congrArg₂ (fun (u : Fin 12) (v : Fin 128) => W4 m ρ c (Proc.devRef .tc main_v3_2) (ix3 u (0 : Fin 1) v))
    (Fin.ext (show a.val * 2 + b.val / 128 = (a.val * 256 + b.val) / 128 by omega)) (Fin.ext (show b.val % 128 = (a.val * 256 + b.val) % 128 by omega))

end Cert.KernelIdeal.Own
-- ==== Proof.Rows.lean ====
/- The rows of the activation, and that a row's scale is a real number. -/
module

public import proofs.«01_k».proof.Proof.QuantAlg
public import Idealize.ShloMosaic.Lib.Pipeline.ValueKit

@[expose] public section

set_option maxRecDepth 16384

noncomputable section

namespace Cert.Alg

open Idealize.ShloMosaic

/-- Row `r` of the activation, its two leading axes read as one. -/
def xrow (g : (⟨3, ![6, 256, 5120]⟩ : Shape).Idx → EReal) (r : Fin 1536) (k : Fin 5120) : EReal :=
  g (ix3 (⟨r.val / 256, by omega⟩ : Fin 6) (⟨r.val % 256, by omega⟩ : Fin 256) k)

/-- The scale of a row the precondition admits is a real number. -/
theorem scl_real (a : EReal) (h : RowOk a) : ∃ r : ℝ, scl (a * cq) = ((r : ℝ) : EReal) := by
  rcases h with h | ⟨hlo, hhi⟩
  · subst h
    exact ⟨1, (scl_zero (0 * cq) (by rw [zero_mul]; exact search_0)).1⟩
  · rw [lo_val] at hlo
    rw [hi_val] at hhi
    have n1 : a ≠ ⊤ := ne_of_lt (lt_of_le_of_lt hhi (EReal.coe_lt_top _))
    have n2 : a ≠ ⊥ := ne_of_gt (lt_of_lt_of_le (EReal.bot_lt_coe _) hlo)
    obtain ⟨r, rfl⟩ : ∃ r : ℝ, a = (r : EReal) := ⟨_, (EReal.coe_toReal n1 n2).symm⟩
    have hlo' : 57344 * (2 : ℝ) ^ (-126 : Int) ≤ r := EReal.coe_le_coe_iff.1 hlo
    have hhi' : r ≤ 255 * (2 : ℝ) ^ (120 : Int) := EReal.coe_le_coe_iff.1 hhi
    have ex : (r : EReal) * cq = ((r * (9586981 / 2 ^ 39) : ℝ) : EReal) := by rw [cq_val, EReal.coe_mul]
    have p : (0 : ℝ) < (2 : ℝ) ^ (-126 : Int) := by positivity
    have xlo : (2 : ℝ) ^ (-126 : Int) ≤ r * (9586981 / 2 ^ 39) := by
      calc (2 : ℝ) ^ (-126 : Int) ≤ (57344 * (2 : ℝ) ^ (-126 : Int)) * (9586981 / 2 ^ 39) := by
              have : (1 : ℝ) ≤ 57344 * (9586981 / 2 ^ 39) := by norm_num
              nlinarith
        _ ≤ _ := mul_le_mul_of_nonneg_right hlo' (by positivity)
    have xhi : r * (9586981 / 2 ^ 39) < (2 : ℝ) ^ (126 : Int) := by
      calc r * (9586981 / 2 ^ 39) ≤ (255 * (2 : ℝ) ^ (120 : Int)) * (9586981 / 2 ^ 39) := mul_le_mul_of_nonneg_right hhi' (by positivity)
        _ < _ := by norm_num
    obtain ⟨n, m1, m2, m3, m4, m5⟩ := search_normal _ xlo xhi
    exact ⟨_, (scl_val _ n m1 m2 (by rw [ex]; exact m3)).1⟩

end Cert.Alg
-- ==== Proof.KFinal.lean ====
/- What the kernel's three results hold after a run, as functions of the arguments. -/
module

public import proofs.«01_k».proof.Proof.KVal0
public import proofs.«01_k».proof.Proof.KVal1
public import proofs.«01_k».proof.Proof.KHost
public import proofs.«01_k».proof.Proof.Rows

@[expose] public section

set_option maxRecDepth 16384

noncomputable section

namespace Cert.KernelIdeal.Own

open Idealize.ShloMosaic Idealize.ShloMosaic.TcCoe Idealize.ShloMosaic.Tactic
open Idealize.SL.Sem
open Idealize.ShloMosaic.Pipeline (Dat Cfg Window)
open Cert.KernelIdeal Cert.KernelIdeal.Gen
open Cert.Alg

variable (m : (ℓ : Loc nD τ sig) → Buf (Elt Ideal) ℓ) (ρ : Dev nD → PrngReg)

/-- The activation's rows on device `c`. -/
abbrev xr (c : Dev nD) (r : Fin 1536) (k : Fin 5120) : EReal := xrow (m ((c : Thread nD τ).loc main_arg0)) r k

theorem V1_row (c : Dev nD) (r : Fin 1536) (k : Fin 5120) : (V1 m ρ c main_v1 (ix2 r k) : EReal) = xr m c r k := V1_v1 m ρ c r k
theorem amax_row (c : Dev nD) (r : Fin 1536) : amax (fun k : Fin 5120 => V1 m ρ c main_v1 (ix2 r k)) = amax (xr m c r) :=
  congrArg amax (funext fun k => V1_row m ρ c r k)

theorem codes_val (c : Dev nD) (r : Fin 1536) (k : Fin 5120) :
    ((dat0 (V1 m ρ) c).arrAt 2 cfg0.N (ix2 r k) : EReal) = codeOf (xr m c r k) (amax (xr m c r)) :=
  (congrFun (arr0_2 (V1 m ρ) c) (ix2 r k)).trans (congrArg₂ codeOf (V1_row m ρ c r k) (amax_row m ρ c r))

theorem gs_val (c : Dev nD) (u : Fin 12) (v : Fin 128) (r : Fin 1536) (h : u.val * 128 + v.val = r.val) :
    ((dat0 (V1 m ρ) c).arrAt 4 cfg0.N (ix3 u (0 : Fin 1) v) : EReal) = scl (amax (xr m c r) * cq) := by
  refine (congrFun (arr0_4 (V1 m ρ) c) (ix3 u (0 : Fin 1) v)).trans (congrArg (fun z : EReal => scl (z * cq)) ?_)
  refine Eq.trans (congrArg (fun q : Fin 1536 => amax (fun k : Fin 5120 => V1 m ρ c main_v1 (ix2 q k))) (Fin.ext ?_)) (amax_row m ρ c r)
  show (u.val * 128 + v.val) % 1536 = r.val
  have := r.isLt
  omega

/-- The second result: the codes. -/
theorem k_codes (c : Dev nD) (a : Fin 6) (b : Fin 256) (k : Fin 5120) (r : Fin 1536) (h : a.val * 256 + b.val = r.val) :
    (W5 m ρ c (Proc.devRef .tc main_v8) (ix3 a b k) : EReal) = codeOf (xr m c r k) (amax (xr m c r)) := by
  refine (W5_v8 m ρ c a b k).trans ((congrFun (W4_v3_0 m ρ c) _).trans ?_)
  refine Eq.trans (congrArg (fun q : Fin 1536 => (dat0 (V1 m ρ) c).arrAt 2 cfg0.N (ix2 q k)) (Fin.ext h)) (codes_val m ρ c r k)

/-- The third result: the scales. -/
theorem k_gs (c : Dev nD) (a : Fin 6) (b : Fin 256) (r : Fin 1536) (h : a.val * 256 + b.val = r.val) :
    (W5 m ρ c (Proc.devRef .tc main_v9) (ix2 a b) : EReal) = scl (amax (xr m c r) * cq) := by
  refine (W5_v9 m ρ c a b).trans ((congrFun (W4_v3_2 m ρ c) _).trans (gs_val m ρ c _ _ r ?_))
  show (a.val * 256 + b.val) / 128 * 128 + (a.val * 256 + b.val) % 128 = r.val
  omega

/-- The first result. -/
theorem k_y (c : Dev nD) (wR : Fin 22528 → Fin 5120 → ℝ) (cR : Fin 1536 → Fin 5120 → ℝ) (sR : Fin 5120 → ℝ) (gR : Fin 1536 → ℝ)
    (hw : ∀ o k, (m ((c : Thread nD τ).loc main_arg1) (ix2 o k) : EReal) = ((wR o k : ℝ) : EReal))
    (hs : ∀ k, (m ((c : Thread nD τ).loc main_arg2) (ix1 k) : EReal) = ((sR k : ℝ) : EReal))
    (hc : ∀ r k, codeOf (xr m c r k) (amax (xr m c r)) = ((cR r k : ℝ) : EReal))
    (hg : ∀ r, scl (amax (xr m c r) * cq) = ((gR r : ℝ) : EReal)) :
    W5 m ρ c (Proc.devRef .tc main_v7)
      = (fun j => ((yR wR cR sR gR (j 0).val (j 1).val (j 2).val (j 3).val : ℝ) : EReal) : S12x44x512x128.Idx → EReal) := by
  have h2 : ∀ k, (V1 m ρ c main_v2 (ix2 0 k) : EReal) = ((sR k : ℝ) : EReal) := fun k => (V1_v2 m ρ c k).trans (hs k)
  have e2 : ∀ k : Fin 5120, V3 m ρ c main_v2 (ix2 0 k) = V1 m ρ c main_v2 (ix2 0 k) := fun k => congrFun (V3_v2 m ρ c) (ix2 0 k)
  refine (W5_v7 m ρ c).trans (arr1_6 (V3 m ρ) c wR cR sR gR ?_ ?_ ?_ ?_ ?_)
  · exact fun o k => (congrFun (V3_v0 m ρ c) (ix2 o k)).trans ((V1_v0 m ρ c o k).trans (hw o k))
  · exact fun k => (e2 k).trans (h2 k)
  · exact fun r k => (congrFun (V3_v3_0 m ρ c) (ix2 r k)).trans ((codes_val m ρ c r k).trans (hc r k))
  · intro r k
    refine (congrFun (V3_v3_1 m ρ c) (ix2 r k)).trans ((congrFun (arr0_3 (V1 m ρ) c) (ix2 r k)).trans ?_)
    refine congrArg₂ (fun x y : EReal => x * y) ((congrArg₂ codeOf (V1_row m ρ c r k) (amax_row m ρ c r)).trans (hc r k))
      (congrArg₂ (fun x y : EReal => x * y) (h2 k) (congrArg (fun z : EReal => FloatOps.ofBits (F := Ideal) .f32 (IntOp.subi 2130706432#32 (shb z)))
        (congrArg amax (funext fun k => (e2 k).symm))))
  · intro r
    refine (V3_v6 m ρ c r).trans ((congrFun (W2_arr m ρ c 4) _).trans ((gs_val m ρ c _ _ r ?_).trans (hg r)))
    show r.val / 128 * 128 + r.val % 128 = r.val
    omega

end Cert.KernelIdeal.Own
-- ==== Proof.RPay.lean ====
/- The reference's payloads read at an index. -/
module

public import proofs.«01_k».proof.Proof.QuantAlg
public import proofs.«01_k».proof.Proof.Gen.ReferenceIdeal.Skeleton
public import Idealize.ShloMosaic.Lib.Pipeline.ValueKit
public import Idealize.ShloMosaic.Lib.Pointwise

@[expose] public section

set_option maxRecDepth 16384

noncomputable section

namespace Cert.ReferenceIdeal.Own

open Idealize.ShloMosaic
open Idealize.SL.Sem
open Cert.ReferenceIdeal Cert.ReferenceIdeal.Gen
open Cert.Alg

/-- The rows' largest absolute values, as one column. -/
def rowMax (x : Vec Ideal S1536x5120 .bf16) : FVec Ideal S1536x1 .f32 :=
  shapeCast S1536x1 (multiReduction .maximumf [1] S1536 (absf (k0_pay2 (F := Ideal) x)) 0xFF800000#32 reduces_S1536x5120_S1536 (.inl rfl) rfl) shapeCasts_S1536_S1536x1
theorem rowMax_at (x : Vec Ideal S1536x5120 .bf16) (i : S1536x1.Idx) : (rowMax x i : EReal) = amax fun k : Fin 5120 => x (ix2 (i 0) k) := by
  pointwise [rowMax, k0_pay2, amax]
  rfl

/-- The powers of two a column is compared with. -/
def pows : FVec Ideal S1x254 .f32 := exp2 (sitofp .f32 (subi (iota .tc S1x254 32 [1] iota_S1x254_d1_w32) (broadcast S1x254 126#32)))
/-- One where an entry of the column is at least the power. -/
def hits (v : FVec Ideal S1536x1 .f32) (w : FVec Ideal S1x254 .f32) : FVec Ideal S1536x254 .f32 :=
  select (cmpf .oge (broadcastTo S1536x254 v broadcasts_S1536x1_S1536x254) (broadcastTo S1536x254 w broadcasts_S1x254_S1536x254))
    (broadcast S1536x254 (Scalar.ofBits .f32 0x3F800000#32)) (broadcast S1536x254 (Scalar.ofBits .f32 0x00000000#32))
/-- The count of the powers at most each entry of the column. -/
def cntV (h : FVec Ideal S1536x254 .f32) : FVec Ideal S1536x1 .f32 :=
  shapeCast S1536x1 (multiReduction .add [1] S1536 h 0x00000000#32 reduces_S1536x254_S1536 (.inl rfl) rfl) shapeCasts_S1536_S1536x1
theorem cntV_at (h : FVec Ideal S1536x254 .f32) (i : S1536x1.Idx) : (cntV h i : EReal) = ∑ k : Fin 254, (h (ix2 (i 0) k) : EReal) := by
  pointwise [cntV]
theorem hits_at (v : FVec Ideal S1536x1 .f32) (w : FVec Ideal S1x254 .f32) (r : Fin 1536) (k : Fin 254) :
    (hits v w (ix2 r k) : EReal) = Scalar.select (FloatOps.cmpf (F := Ideal) (φ := .f32) .oge (v (ix2 r 0)) (w (ix2 0 k)))
      (FloatOps.ofBits (F := Ideal) .f32 0x3F800000#32) (FloatOps.ofBits (F := Ideal) .f32 0x00000000#32) := by
  unfold hits
  refine (congrArg₂ (fun a b : EReal => Scalar.select (FloatOps.cmpf (F := Ideal) (φ := .f32) .oge a b)
      (FloatOps.ofBits (F := Ideal) .f32 0x3F800000#32) (FloatOps.ofBits (F := Ideal) .f32 0x00000000#32))
    (broadcastTo_apply v broadcasts_S1536x1_S1536x254 (ix2 r k) (ix2 r 0) ?_) (broadcastTo_apply w broadcasts_S1x254_S1536x254 (ix2 r k) (ix2 0 k) ?_))
  · intro q
    exact match q with
    | ⟨0, _⟩ => rfl
    | ⟨1, _⟩ => rfl
  · intro q
    exact match q with
    | ⟨0, _⟩ => rfl
    | ⟨1, _⟩ => rfl
theorem pows_at (k : Fin 254) : (pows (ix2 0 k) : EReal)
    = FloatOps.exp2 (F := Ideal) (φ := .f32) (FloatOps.sitofp (F := Ideal) .f32 (IntOp.subi (BitVec.ofNat 32 k.val) 126#32)) := by
  pointwise [pows]

/-- The exponent of a row from its maximum and its count. -/
def expV (M C : FVec Ideal S1536x1 .f32) : FVec Ideal S1536x1 .f32 :=
  select (cmpf .oeq M (broadcast S1536x1 (Scalar.ofBits .f32 0x00000000#32))) (broadcast S1536x1 (Scalar.ofBits .f32 0x00000000#32))
    (subf C (broadcast S1536x1 (Scalar.ofBits .f32 0x42FC0000#32)))
theorem expV_at (M C : FVec Ideal S1536x1 .f32) (i : S1536x1.Idx) : (expV M C i : EReal)
    = Scalar.select (FloatOps.cmpf (F := Ideal) (φ := .f32) .oeq (M i) (FloatOps.ofBits .f32 0x00000000#32)) (FloatOps.ofBits (F := Ideal) .f32 0x00000000#32)
    (FloatOps.subf (F := Ideal) (φ := .f32) (C i) (FloatOps.ofBits .f32 0x42FC0000#32)) := rfl
/-- A column times the quantiser's factor. -/
def timesC (M : FVec Ideal S1536x1 .f32) : FVec Ideal S1536x1 .f32 := mulf M (broadcast S1536x1 (Scalar.ofBits .f32 0x37924925#32))
theorem timesC_at (M : FVec Ideal S1536x1 .f32) (i : S1536x1.Idx) : (timesC M i : EReal) = FloatOps.mulf (F := Ideal) (φ := .f32) (M i) cq := rfl

theorem pay3_eq (x : Vec Ideal S1536x5120 .bf16) : k0_pay3 (F := Ideal) x = expV (rowMax x) (cntV (hits (timesC (rowMax x)) pows)) := by
  unfold k0_pay3 expV cntV hits timesC rowMax pows
  rfl

/-- The codes from the rows' exponents. -/
def codesV (g : FVec Ideal S1536x5120 .f32) (v : FVec Ideal S1536x1 .f32) : FVec Ideal S1536x5120 .fp8e5m2 :=
  truncf .fp8e5m2 (minimumf (broadcast S1536x5120 (Scalar.ofBits .f32 0x47600000#32)) (maximumf (broadcast S1536x5120 (Scalar.ofBits .f32 0xC7600000#32))
    (mulf g (broadcastTo S1536x5120 (exp2 (subf (broadcast S1536x1 (Scalar.ofBits .f32 0x00000000#32)) v)) broadcasts_S1536x1_S1536x5120)))) bitsLt_fp8e5m2_f32
theorem codesV_at (g : FVec Ideal S1536x5120 .f32) (v : FVec Ideal S1536x1 .f32) (j : S1536x5120.Idx) : (codesV g v j : EReal)
    = min (FloatOps.ofBits (F := Ideal) .f32 0x47600000#32) (max (FloatOps.ofBits (F := Ideal) .f32 0xC7600000#32)
      (g j * Ideal.exp2 (FloatOps.subf (F := Ideal) (φ := .f32) (FloatOps.ofBits .f32 0x00000000#32) (v (ix2 (j 0) 0))))) := by
  unfold codesV
  refine congrArg (fun z : EReal => min (FloatOps.ofBits (F := Ideal) .f32 0x47600000#32) (max (FloatOps.ofBits (F := Ideal) .f32 0xC7600000#32) (g j * z)))
    (broadcastTo_apply _ broadcasts_S1536x1_S1536x5120 j (ix2 (j 0) 0) ?_)
  intro q
  exact match q with
  | ⟨0, _⟩ => rfl
  | ⟨1, _⟩ => rfl
theorem pay4_eq (x : Vec Ideal S1536x5120 .bf16) : k0_pay4 (F := Ideal) x = codesV (k0_pay2 (F := Ideal) x) (k0_pay3 (F := Ideal) x) := by
  unfold k0_pay4 codesV
  rfl
theorem pay2_at (x : Vec Ideal S1536x5120 .bf16) (j : S1536x5120.Idx) : (k0_pay2 (F := Ideal) x j : EReal) = x j := by
  pointwise [k0_pay2]

/-- The product. -/
theorem pay1_at (q : FVec Ideal S1536x5120 .fp8e5m2) (w : Vec Ideal S22528x5120 .fp8e4m3) (s : Vec Ideal S1x5120 .f32) (j : S1536x22528.Idx) :
    (k0_pay1 (F := Ideal) q w s j : EReal) = ∑ k : Fin 5120, (q (ix2 (j 0) k) : EReal) * ((w (ix2 (j 1) k) : EReal) * s (ix2 0 k)) := by
  pointwise [k0_pay1]

end Cert.ReferenceIdeal.Own
-- ==== Proof.RVal0.lean ====
/- The reference's scale and codes at an index. -/
module

public import proofs.«01_k».proof.Proof.RPay

@[expose] public section

set_option maxRecDepth 16384

noncomputable section

namespace Cert.ReferenceIdeal.Own

open Idealize.ShloMosaic
open Idealize.SL.Sem
open Cert.ReferenceIdeal Cert.ReferenceIdeal.Gen
open Cert.Alg

/-- The exponent from a maximum and a count. -/
def eOf (a s : EReal) : EReal :=
  Scalar.select (FloatOps.cmpf (F := Ideal) (φ := .f32) .oeq a (FloatOps.ofBits .f32 0x00000000#32)) (FloatOps.ofBits (F := Ideal) .f32 0x00000000#32)
    (FloatOps.subf (F := Ideal) (φ := .f32) s (FloatOps.ofBits .f32 0x42FC0000#32))
/-- One if the scaled maximum is at least the power. -/
def hitOf (a : EReal) (k : Fin 254) : EReal :=
  Scalar.select (FloatOps.cmpf (F := Ideal) (φ := .f32) .oge (FloatOps.mulf (F := Ideal) (φ := .f32) a cq)
        (FloatOps.exp2 (F := Ideal) (φ := .f32) (FloatOps.sitofp (F := Ideal) .f32 (IntOp.subi (BitVec.ofNat 32 k.val) 126#32))))
      (FloatOps.ofBits (F := Ideal) .f32 0x3F800000#32) (FloatOps.ofBits (F := Ideal) .f32 0x00000000#32)
theorem eRef_eq (a : EReal) : eRef a = eOf a (∑ k : Fin 254, hitOf a k) := by
  unfold eRef eOf hitOf
  rfl
theorem hits_of (M : FVec Ideal S1536x1 .f32) (r : Fin 1536) (k : Fin 254) : (hits (timesC M) pows (ix2 r k) : EReal) = hitOf (M (ix2 r 0)) k := by
  rw [hits_at, pows_at]
  unfold hitOf
  rw [timesC_at]
theorem expV_of (M C : FVec Ideal S1536x1 .f32) (i : S1536x1.Idx) : (expV M C i : EReal) = eOf (M i) (C i) := expV_at M C i

/-- The exponent of a row. -/
theorem pay3_at (x : Vec Ideal S1536x5120 .bf16) (r : Fin 1536) : (k0_pay3 (F := Ideal) x (ix2 r 0) : EReal) = eRef (amax fun k : Fin 5120 => x (ix2 r k)) := by
  have hM : (rowMax x (ix2 r 0) : EReal) = amax fun k : Fin 5120 => x (ix2 r k) := rowMax_at x (ix2 r 0)
  have hC : (cntV (hits (timesC (rowMax x)) pows) (ix2 r 0) : EReal) = ∑ k : Fin 254, hitOf (rowMax x (ix2 r 0)) k :=
    (cntV_at (hits (timesC (rowMax x)) pows) (ix2 r 0)).trans (Finset.sum_congr rfl fun k _ => hits_of (rowMax x) r k)
  refine (congrFun (pay3_eq x) (ix2 r 0)).trans ((expV_of (rowMax x) (cntV (hits (timesC (rowMax x)) pows)) (ix2 r 0)).trans ?_)
  refine (congrArg (eOf (rowMax x (ix2 r 0))) hC).trans ?_
  refine (congrArg (fun a : EReal => eOf a (∑ k : Fin 254, hitOf a k)) hM).trans ?_
  exact (eRef_eq (amax fun k : Fin 5120 => x (ix2 r k))).symm

theorem exp2_at (v : FVec Ideal S1536x1 .f32) (i : S1536x1.Idx) : (exp2 v i : EReal) = Ideal.exp2 (v i) := rfl
theorem pay5_eq (x : Vec Ideal S1536x5120 .bf16) : k0_pay5 (F := Ideal) x = exp2 (k0_pay3 (F := Ideal) x) := by
  unfold k0_pay5
  rfl
/-- The scale of a row. -/
theorem pay5_at (x : Vec Ideal S1536x5120 .bf16) (r : Fin 1536) (h : RowOk (amax fun k : Fin 5120 => x (ix2 r k))) :
    (k0_pay5 (F := Ideal) x (ix2 r 0) : EReal) = scl (amax (fun k : Fin 5120 => x (ix2 r k)) * cq) :=
  (congrFun (pay5_eq x) (ix2 r 0)).trans ((exp2_at _ _).trans ((congrArg Ideal.exp2 (pay3_at x r)).trans (quant_spec _ h).1))

/-- The codes. -/
theorem pay4_at (x : Vec Ideal S1536x5120 .bf16) (r : Fin 1536) (k : Fin 5120) (h : RowOk (amax fun k : Fin 5120 => x (ix2 r k))) :
    (k0_pay4 (F := Ideal) x (ix2 r k) : EReal) = codeOf (x (ix2 r k)) (amax fun k : Fin 5120 => x (ix2 r k)) := by
  refine (congrFun (pay4_eq x) (ix2 r k)).trans ((codesV_at _ _ _).trans ?_)
  refine (congrArg₂ (fun z E : EReal => min (FloatOps.ofBits (F := Ideal) .f32 0x47600000#32) (max (FloatOps.ofBits (F := Ideal) .f32 0xC7600000#32)
      (z * Ideal.exp2 (FloatOps.subf (F := Ideal) (φ := .f32) (FloatOps.ofBits .f32 0x00000000#32) E)))) (pay2_at x (ix2 r k)) (pay3_at x r)).trans ?_
  exact congrArg (fun E : EReal => min (FloatOps.ofBits (F := Ideal) .f32 0x47600000#32) (max (FloatOps.ofBits (F := Ideal) .f32 0xC7600000#32)
      (x (ix2 r k) * E))) (quant_spec _ h).2

end Cert.ReferenceIdeal.Own
-- ==== Proof.RVal1.lean ====
/- The reference's three arrays after its one point. -/
module

public import proofs.«01_k».proof.Proof.RVal0
public import proofs.«01_k».proof.Proof.Gen.ReferenceIdeal.Frame

@[expose] public section

set_option maxRecDepth 16384

noncomputable section

namespace Cert.ReferenceIdeal.Own

open Idealize.ShloMosaic Idealize.ShloMosaic.TcCoe Idealize.ShloMosaic.Tactic
open Idealize.SL.Sem
open Idealize.ShloMosaic.Pipeline (Dat Cfg Window)
open Cert.ReferenceIdeal Cert.ReferenceIdeal.Gen
open Cert.Alg

variable (m : (ℓ : Loc nD τ sig) → Buf (Elt Ideal) ℓ)

/-- The one point. -/
def tt : Fin cfg0.N := ⟨0, by decide⟩
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)
theorem hz2 : (![0, 0] : Fin 2 → Nat) = fun _ => 0 := funext fun a => by fin_cases a <;> rfl

theorem iblk_0 (c : Dev nD) (t : Fin cfg0.N) : iblk m c 0 t = V m c main_v1 := by
  blk_ext! [iblk, idx t]
theorem iblk_1 (c : Dev nD) (t : Fin cfg0.N) : iblk m c 1 t = V m c main_v0 := by
  blk_ext! [iblk, idx t]
theorem iblk_2 (c : Dev nD) (t : Fin cfg0.N) : iblk m c 2 t = V m c main_v2 := by
  blk_ext! [iblk, idx t]

theorem arr_3 (c : Dev nD) : (dats m 0 c).arrAt 3 cfg0.N = k0_pay4 (F := Ideal) (V m c main_v1) := by
  refine (dats m 0 c).arrAt_eq_of_after_last 3 tt (by decide +kernel) _ fun j => ?_
  blk_simp
  rw [after0_3]
  unfold out0_3
  rw [View.canon_unit_zero hz2, View.ld_unit_zero hz2, iblk_0]
theorem arr_4 (c : Dev nD) : (dats m 0 c).arrAt 4 cfg0.N = k0_pay5 (F := Ideal) (V m c main_v1) := by
  refine (dats m 0 c).arrAt_eq_of_after_last 4 tt (by decide +kernel) _ fun j => ?_
  blk_simp
  rw [after0_4]
  unfold out0_4
  rw [View.canon_unit_zero hz2, View.ld_unit_zero hz2, iblk_0]
theorem arr_5 (c : Dev nD) : (dats m 0 c).arrAt 5 cfg0.N = k0_pay1 (F := Ideal) (k0_pay4 (F := Ideal) (V m c main_v1)) (V m c main_v0) (V m c main_v2) := by
  refine (dats m 0 c).arrAt_eq_of_after_last 5 tt (by decide +kernel) _ fun j => ?_
  blk_simp
  rw [after0_5]
  unfold out0_5
  rw [View.canon_unit_zero hz2, View.ld_unit_zero hz2, View.ld_unit_zero hz2, View.ld_unit_zero hz2, iblk_0, iblk_1, iblk_2]

end Cert.ReferenceIdeal.Own
-- ==== Proof.RHost.lean ====
/- The host's steps around the reference's call, read at an index. -/
module

public import proofs.«01_k».proof.Proof.RVal1
public import Idealize.ShloMosaic.Lib.StableHlo.ReadAt

@[expose] public section

set_option maxRecDepth 16384

noncomputable section

namespace Cert.ReferenceIdeal.Own

open Idealize.ShloMosaic Idealize.ShloMosaic.TcCoe Idealize.ShloMosaic.Tactic
open Idealize.SL.Sem
open Idealize.ShloMosaic.Pipeline (Dat Cfg Window)
open Cert.ReferenceIdeal Cert.ReferenceIdeal.Gen
open Cert.Alg

variable (m : (ℓ : Loc nD τ sig) → Buf (Elt Ideal) ℓ)

theorem V_v0 (c : Dev nD) (o : Fin 22528) (k : Fin 5120) : V m c main_v0 (ix2 o k) = m ((c : Thread nD τ).loc main_arg1) (ix2 o k) := by
  unfold V V0
  after_reads_at
theorem V_v1 (c : Dev nD) (r : Fin 1536) (k : Fin 5120) : V m c main_v1 (ix2 r k)
    = m ((c : Thread nD τ).loc main_arg0) (ix3 (⟨r.val / 256, by omega⟩ : Fin 6) (⟨r.val % 256, by omega⟩ : Fin 256) k) := by
  unfold V V0
  after_reads_at
theorem V_v2 (c : Dev nD) (k : Fin 5120) : V m c main_v2 (ix2 0 k) = m ((c : Thread nD τ).loc main_arg2) (ix1 k) := by
  unfold V V0
  after_reads_at

/-- The buffers after the call. -/
abbrev Z (c : Dev nD) : Valuation τ sig (Elt Ideal) := Pipeline.withArrays spec0 c (V0 m c) fun w => (dats m 0 c).arrAt w cfg0.N
theorem Z_3_0 (c : Dev nD) : Z m c (Proc.devRef .tc main_v3_0) = (dats m 0 c).arrAt 3 cfg0.N := Pipeline.withArrays_arr spec0 launch0.win.arr_inj c _ _ 3
theorem Z_3_1 (c : Dev nD) : Z m c (Proc.devRef .tc main_v3_1) = (dats m 0 c).arrAt 4 cfg0.N := Pipeline.withArrays_arr spec0 launch0.win.arr_inj c _ _ 4
theorem Z_3_2 (c : Dev nD) : Z m c (Proc.devRef .tc main_v3_2) = (dats m 0 c).arrAt 5 cfg0.N := Pipeline.withArrays_arr spec0 launch0.win.arr_inj c _ _ 5

theorem tail_v21 (Y : Valuation τ sig (Elt Ideal)) (a : Fin 6) (b : Fin 256) (k : Fin 5120) :
    StableHlo.after (List.flatten [hostOps1, hostOps1_1, hostOps1_2]) Y (Proc.devRef .tc main_v21) (ix3 a b k)
      = Y (Proc.devRef .tc main_v3_0) (ix2 (⟨a.val * 256 + b.val, by omega⟩ : Fin 1536) k) := by
  after_reads_at
theorem tail_v22 (Y : Valuation τ sig (Elt Ideal)) (a : Fin 6) (b : Fin 256) :
    StableHlo.after (List.flatten [hostOps1, hostOps1_1, hostOps1_2]) Y (Proc.devRef .tc main_v22) (ix2 a b)
      = Y (Proc.devRef .tc main_v3_1) (ix2 (⟨a.val * 256 + b.val, by omega⟩ : Fin 1536) (0 : Fin 1)) := by
  after_reads_at

end Cert.ReferenceIdeal.Own
-- ==== Proof.RTail.lean ====
/- The reference's last steps, read at an index: the scale, the Hadamard product, the order of the rows. -/
module

public import proofs.«01_k».proof.Proof.RHost
public import proofs.«01_k».proof.Proof.WhtAlg
public import Idealize.ShloMosaic.Lib.StableHlo.ReadAt

@[expose] public section

set_option maxRecDepth 16384

noncomputable section

namespace Cert.ReferenceIdeal.Own

open Idealize.ShloMosaic Idealize.ShloMosaic.TcCoe Idealize.ShloMosaic.Tactic
open Idealize.SL.Sem
open Idealize.ShloMosaic.Pipeline (Dat Cfg Window)
open Cert.ReferenceIdeal Cert.ReferenceIdeal.Gen
open Cert.Alg

/-- The table of signs the reference builds. -/
def hadV : FVec Ideal S512x512 .f32 :=
  select (cmpi .eq (andi (ctpop (andi (iotaInDim S512x512 32 0) (iotaInDim S512x512 32 1)))
      (broadcastInDim S512x512 ![] bcast_S_S512x512 (constantI S_ 32 1#32)))
      (broadcastInDim S512x512 ![] bcast_S_S512x512 (constantI S_ 32 0#32)))
    (broadcastInDim S512x512 ![] bcast_S_S512x512 (constant S_ .f32 1065353216#32))
    (broadcastInDim S512x512 ![] bcast_S_S512x512 (constant S_ .f32 3212836864#32))

theorem one_lit : FloatOps.ofBits (F := Ideal) .f32 0x3F800000#32 = ((1 : ℝ) : EReal) := by
  show Ideal.ofBits .f32 0x3F800000#32 = _
  simp [Ideal.ofBits, Ideal.ieee, -EReal.coe_mul]
  norm_num
theorem neg_one_lit : FloatOps.ofBits (F := Ideal) .f32 0xBF800000#32 = ((-1 : ℝ) : EReal) := by
  show Ideal.ofBits .f32 0xBF800000#32 = _
  simp [Ideal.ofBits, Ideal.ieee, -EReal.coe_mul]
  norm_num

theorem hadV_at (q b : Fin 512) : (hadV (ix2 q b) : EReal)
    = (((if walshBit (BitVec.ofNat 32 q.val) (BitVec.ofNat 32 b.val) = 1#1 then (1 : ℝ) else -1 : ℝ)) : EReal) := by
  have e : (hadV (ix2 q b) : EReal) = Scalar.select (walshBit (BitVec.ofNat 32 q.val) (BitVec.ofNat 32 b.val))
      (FloatOps.ofBits (F := Ideal) .f32 0x3F800000#32) (FloatOps.ofBits (F := Ideal) .f32 0xBF800000#32) := rfl
  rw [e, one_lit, neg_one_lit]
  show (if walshBit (BitVec.ofNat 32 q.val) (BitVec.ofNat 32 b.val) = 1#1 then ((1 : ℝ) : EReal) else ((-1 : ℝ) : EReal)) = _
  split <;> rfl

theorem had_row (a q : Fin 512) (b : Fin 512) (hb : b.val = a.val / 64 * 64 + a.val % 8 * 8 + a.val / 8 % 8) :
    (hadV (ix2 q b) : EReal) = ((sgn3 a.val q.val : ℝ) : EReal) :=
  (hadV_at q b).trans (congrArg (fun z : ℝ => (z : EReal)) (walsh_sgn a.val q.val b.val a.isLt q.isLt (by omega)))

theorem tail_v20 (Y : Valuation τ sig (Elt Ideal)) (p : Fin 12) (n : Fin 44) (a : Fin 512) (l : Fin 128) :
    StableHlo.after (List.flatten [hostOps1, hostOps1_1, hostOps1_2]) Y (Proc.devRef .tc main_v20) (ix4 p n a l)
      = (∑ x : Fin 512, @HMul.hMul EReal EReal EReal _ (@HMul.hMul EReal EReal EReal _
          (Y (Proc.devRef .tc main_v3_2) (ix2 (⟨p.val * 128 + l.val, by omega⟩ : Fin 1536) (⟨n.val * 512 + x.val, by omega⟩ : Fin 22528)))
          (Y (Proc.devRef .tc main_v3_1) (ix2 (⟨p.val * 128 + l.val, by omega⟩ : Fin 1536) (0 : Fin 1)))) ((sgn3 a.val x.val : ℝ) : EReal) : EReal) := by
  after_reads_at
  exact Finset.sum_congr rfl fun x _ => congrArg (fun z : EReal => _ * z) (had_row a x _ rfl)

end Cert.ReferenceIdeal.Own
-- ==== Proof.RFinal.lean ====
/- What the reference's three results hold after a run, as functions of the arguments. -/
module

public import proofs.«01_k».proof.Proof.RTail
public import proofs.«01_k».proof.Proof.Rows
public import proofs.«01_k».proof.Proof.YReal

@[expose] public section

set_option maxRecDepth 16384

noncomputable section

namespace Cert.ReferenceIdeal.Own

open Idealize.ShloMosaic Idealize.ShloMosaic.TcCoe Idealize.ShloMosaic.Tactic
open Idealize.SL.Sem
open Idealize.ShloMosaic.Pipeline (Dat Cfg Window)
open Cert.ReferenceIdeal Cert.ReferenceIdeal.Gen
open Cert.Alg

variable (m : (ℓ : Loc nD τ sig) → Buf (Elt Ideal) ℓ)

/-- The activation's rows on device `c`. -/
abbrev xr (c : Dev nD) (r : Fin 1536) (k : Fin 5120) : EReal := xrow (m ((c : Thread nD τ).loc main_arg0)) r k

theorem V_row (c : Dev nD) (r : Fin 1536) (k : Fin 5120) : (V m c main_v1 (ix2 r k) : EReal) = xr m c r k := V_v1 m c r k
theorem amax_row (c : Dev nD) (r : Fin 1536) : amax (fun k : Fin 5120 => V m c main_v1 (ix2 r k)) = amax (xr m c r) :=
  congrArg amax (funext fun k => V_row m c r k)

theorem codes_val (c : Dev nD) (r : Fin 1536) (k : Fin 5120) (h : RowOk (amax (xr m c r))) :
    (k0_pay4 (F := Ideal) (V m c main_v1) (ix2 r k) : EReal) = codeOf (xr m c r k) (amax (xr m c r)) :=
  (pay4_at (V m c main_v1) r k (by rw [amax_row]; exact h)).trans (congrArg₂ codeOf (V_row m c r k) (amax_row m c r))
theorem gs_val (c : Dev nD) (r : Fin 1536) (h : RowOk (amax (xr m c r))) :
    (k0_pay5 (F := Ideal) (V m c main_v1) (ix2 r 0) : EReal) = scl (amax (xr m c r) * cq) :=
  (pay5_at (V m c main_v1) r (by rw [amax_row]; exact h)).trans (congrArg (fun z : EReal => scl (z * cq)) (amax_row m c r))

/-- The second result: the codes. -/
theorem r_codes (c : Dev nD) (a : Fin 6) (b : Fin 256) (k : Fin 5120) (r : Fin 1536) (h : a.val * 256 + b.val = r.val) (hr : RowOk (amax (xr m c r))) :
    (Pipeline.afterTail₀ cfgs (dats m) 0 (V0 m) [hostOps1, hostOps1_1, hostOps1_2] c main_v21 (ix3 a b k) : EReal) = codeOf (xr m c r k) (amax (xr m c r)) := by
  refine (tail_v21 (Z m c) a b k).trans ((congrFun (Z_3_0 m c) _).trans ((congrFun (arr_3 m c) _).trans ?_))
  exact Eq.trans (congrArg (fun q : Fin 1536 => k0_pay4 (F := Ideal) (V m c main_v1) (ix2 q k)) (Fin.ext h)) (codes_val m c r k hr)

/-- The third result: the scales. -/
theorem r_gs (c : Dev nD) (a : Fin 6) (b : Fin 256) (r : Fin 1536) (h : a.val * 256 + b.val = r.val) (hr : RowOk (amax (xr m c r))) :
    (Pipeline.afterTail₀ cfgs (dats m) 0 (V0 m) [hostOps1, hostOps1_1, hostOps1_2] c main_v22 (ix2 a b) : EReal) = scl (amax (xr m c r) * cq) := by
  refine (tail_v22 (Z m c) a b).trans ((congrFun (Z_3_1 m c) _).trans ((congrFun (arr_4 m c) _).trans ?_))
  exact Eq.trans (congrArg (fun q : Fin 1536 => k0_pay5 (F := Ideal) (V m c main_v1) (ix2 q 0)) (Fin.ext h)) (gs_val m c r hr)

/-- The product at a row and a column. -/
theorem acc_val (c : Dev nD) (wR : Fin 22528 → Fin 5120 → ℝ) (cR : Fin 1536 → Fin 5120 → ℝ) (sR : Fin 5120 → ℝ)
    (hw : ∀ o k, (m ((c : Thread nD τ).loc main_arg1) (ix2 o k) : EReal) = ((wR o k : ℝ) : EReal))
    (hs : ∀ k, (m ((c : Thread nD τ).loc main_arg2) (ix1 k) : EReal) = ((sR k : ℝ) : EReal))
    (hr : ∀ r, RowOk (amax (xr m c r))) (hc : ∀ r k, codeOf (xr m c r k) (amax (xr m c r)) = ((cR r k : ℝ) : EReal)) (r : Fin 1536) (o : Fin 22528) :
    (k0_pay1 (F := Ideal) (k0_pay4 (F := Ideal) (V m c main_v1)) (V m c main_v0) (V m c main_v2) (ix2 r o) : EReal)
      = ((∑ k : Fin 5120, cR r k * (wR o k * sR k) : ℝ) : EReal) := by
  refine (pay1_at _ _ _ _).trans ?_
  rw [coe_sum]
  refine Finset.sum_congr rfl fun k _ => ?_
  rw [EReal.coe_mul, EReal.coe_mul]
  exact congrArg₂ (fun x y : EReal => x * y) ((codes_val m c r k (hr r)).trans (hc r k))
    (congrArg₂ (fun x y : EReal => x * y) ((V_v0 m c o k).trans (hw o k)) ((V_v2 m c k).trans (hs k)))

/-- The first result. -/
theorem r_y (c : Dev nD) (wR : Fin 22528 → Fin 5120 → ℝ) (cR : Fin 1536 → Fin 5120 → ℝ) (sR : Fin 5120 → ℝ) (gR : Fin 1536 → ℝ)
    (hw : ∀ o k, (m ((c : Thread nD τ).loc main_arg1) (ix2 o k) : EReal) = ((wR o k : ℝ) : EReal))
    (hs : ∀ k, (m ((c : Thread nD τ).loc main_arg2) (ix1 k) : EReal) = ((sR k : ℝ) : EReal))
    (hr : ∀ r, RowOk (amax (xr m c r))) (hc : ∀ r k, codeOf (xr m c r k) (amax (xr m c r)) = ((cR r k : ℝ) : EReal))
    (hg : ∀ r, scl (amax (xr m c r) * cq) = ((gR r : ℝ) : EReal)) :
    Pipeline.afterTail₀ cfgs (dats m) 0 (V0 m) [hostOps1, hostOps1_1, hostOps1_2] c main_v20
      = (fun j => ((yR wR cR sR gR (j 0).val (j 1).val (j 2).val (j 3).val : ℝ) : EReal) : S12x44x512x128.Idx → EReal) := by
  funext j
  obtain ⟨p, n, a, l, rfl⟩ : ∃ (p : Fin 12) (n : Fin 44) (a : Fin 512) (l : Fin 128), j = ix4 p n a l := ⟨j 0, j 1, j 2, j 3, by blk_ext⟩
  refine (tail_v20 (Z m c) p n a l).trans ?_
  show _ = ((yR wR cR sR gR p.val n.val a.val l.val : ℝ) : EReal)
  have e : (yR wR cR sR gR p.val n.val a.val l.val : ℝ) = ∑ x : Fin 512,
      ((∑ k : Fin 5120, cR (⟨p.val * 128 + l.val, by omega⟩ : Fin 1536) k * (wR (⟨n.val * 512 + x.val, by omega⟩ : Fin 22528) k * sR k))
        * gR (⟨p.val * 128 + l.val, by omega⟩ : Fin 1536)) * sgn3 a.val x.val := by
    have er : (⟨(128 * p.val + l.val) % 1536, Nat.mod_lt _ (Nat.succ_pos 1535)⟩ : Fin 1536) = ⟨p.val * 128 + l.val, by omega⟩ :=
      Fin.ext (show (128 * p.val + l.val) % 1536 = p.val * 128 + l.val by omega)
    unfold yR
    rw [er, Finset.sum_mul, Finset.sum_range]
    refine Finset.sum_congr rfl fun x _ => ?_
    have ew : (⟨(512 * n.val + x.val) % 22528, Nat.mod_lt _ (Nat.succ_pos 22527)⟩ : Fin 22528) = ⟨n.val * 512 + x.val, by omega⟩ :=
      Fin.ext (show (512 * n.val + x.val) % 22528 = n.val * 512 + x.val by omega)
    rw [ew]
    ring
  rw [e, coe_sum]
  refine Finset.sum_congr rfl fun x _ => ?_
  rw [EReal.coe_mul, EReal.coe_mul]
  refine congrArg₂ (fun x y : EReal => x * y) (congrArg₂ (fun x y : EReal => x * y) ?_ ?_) rfl
  · exact (congrFun (Z_3_2 m c) _).trans ((congrFun (arr_5 m c) _).trans (acc_val m c wR cR sR hw hs hr hc _ _))
  · exact (congrFun (Z_3_1 m c) _).trans ((congrFun (arr_4 m c) _).trans ((gs_val m c _ (hr _)).trans (hg _)))

end Cert.ReferenceIdeal.Own
-- ==== Proof.PreVal.lean ====
/- What the precondition says of the operands. -/
module

public import proofs.«01_k».proof.Pre_pre
public import proofs.«01_k».proof.Proof.QuantAlg
public import Idealize.ShloMosaic.Lib.ReduceAll
public import Idealize.ShloMosaic.Lib.Pointwise
public import Idealize.ShloMosaic.Lib.Pipeline.ValueKit

@[expose] public section

set_option maxRecDepth 16384

noncomputable section

namespace Cert.Pre_pre

open Idealize.ShloMosaic
open Cert.Alg

instance facts : Facts where
  bitsLt_bf16_f32 := by decide
  reducesTo_S6x256x5120_S6x256_d2 := by decide
  h_S_ := by decide
  bcast_S_S6x256 := by decide
  reducesTo_S6x256_S_d0_1 := by decide
  bcast_S_S22528x5120 := by decide
  reducesTo_S22528x5120_S_d0_1 := by decide
  bcast_S_S5120 := by decide
  reducesTo_S5120_S_d0 := by decide
open Facts

instance : Subsingleton S_.Idx := ⟨fun a b => funext fun i => i.elim0⟩

/-- The rows' test. -/
def rowT (g : FVec Ideal S6x256x5120 .bf16) : FVec Ideal S6x256 .f32 :=
  Host.reduce FloatOps.maximumf (Host.absf (extf .f32 g bitsLt_bf16_f32)) (constant S_ .f32 0xFF800000#32) reducesTo_S6x256x5120_S6x256_d2 h_S_
def rowB (v : FVec Ideal S6x256 .f32) : IVec S6x256 1 :=
  ori (cmpf .oeq v (broadcastInDim S6x256 ![] bcast_S_S6x256 (constant S_ .f32 0x00000000#32)))
    (andi (cmpf .oge v (broadcastInDim S6x256 ![] bcast_S_S6x256 (constant S_ .f32 0x08600000#32)))
      (cmpf .ole v (broadcastInDim S6x256 ![] bcast_S_S6x256 (constant S_ .f32 0x7F7F0000#32))))
def finB {s : Shape} (h : S_.BroadcastsInDim s (![] : Fin 0 → Fin s.rank)) (v : FVec Ideal s .f32) : IVec s 1 :=
  cmpf .olt (Host.absf v) (broadcastInDim s ![] h (constant S_ .f32 0x7F800000#32))

theorem fn_eq (g : FVec Ideal S6x256x5120 .bf16) (w : FVec Ideal S22528x5120 .f32) (s : FVec Ideal S5120 .f32) :
    fn (F := Ideal) g w s = andi (andi (Host.reduce IntOp.andi (rowB (rowT g)) (constantI S_ 1 1#1) reducesTo_S6x256_S_d0_1 h_S_)
      (Host.reduce IntOp.andi (finB bcast_S_S22528x5120 w) (constantI S_ 1 1#1) reducesTo_S22528x5120_S_d0_1 h_S_))
      (Host.reduce IntOp.andi (finB bcast_S_S5120 s) (constantI S_ 1 1#1) reducesTo_S5120_S_d0 h_S_) := by
  unfold fn fn_part1 rowB rowT finB
  rfl

theorem rowT_at (g : FVec Ideal S6x256x5120 .bf16) (a : Fin 6) (b : Fin 256) : (rowT g (ix2 a b) : EReal) = amax fun k : Fin 5120 => g (ix3 a b k) := by
  pointwise [rowT, amax]
  rfl

theorem rowB_at (v : FVec Ideal S6x256 .f32) (i : S6x256.Idx) (h : rowB v i = 1#1) : RowOk (v i) := by
  have h' : IntOp.ori (Ideal.cmp .oeq (v i) (FloatOps.ofBits (F := Ideal) .f32 0x00000000#32))
      (IntOp.andi (Ideal.cmp .oge (v i) (FloatOps.ofBits (F := Ideal) .f32 0x08600000#32)) (Ideal.cmp .ole (v i) (FloatOps.ofBits (F := Ideal) .f32 0x7F7F0000#32))) = 1#1 := h
  have hz : FloatOps.ofBits (F := Ideal) .f32 0x00000000#32 = (0 : EReal) := by
    show Ideal.ofBits .f32 0x00000000#32 = _
    simp [Ideal.ofBits, Ideal.ieee]
  rcases IntOp.ori_eq_one.mp h' with h1 | h1
  · left
    have := (Ideal.cmp_oeq_eq_one (v i) _).mp h1
    exact this.trans hz
  · right
    obtain ⟨h2, h3⟩ := IntOp.andi_eq_one.mp h1
    exact ⟨(Ideal.cmp_oge_eq_one _ _).mp h2, (Ideal.cmp_ole_eq_one _ _).mp h3⟩

theorem fin_at {s : Shape} (hs : S_.BroadcastsInDim s (![] : Fin 0 → Fin s.rank)) (v : FVec Ideal s .f32) (i : s.Idx) (h : finB hs v i = 1#1) :
    ∃ r : ℝ, (v i : EReal) = ((r : ℝ) : EReal) := by
  have h' : Ideal.cmp .olt (max (v i : EReal) (-(v i : EReal))) (FloatOps.ofBits (F := Ideal) .f32 0x7F800000#32) = 1#1 := h
  have ht : FloatOps.ofBits (F := Ideal) .f32 0x7F800000#32 = (⊤ : EReal) := by
    show Ideal.ofBits .f32 0x7F800000#32 = _
    simp [Ideal.ofBits, Ideal.ieee]
  have h2 := (Ideal.cmp_olt_eq_one _ _).mp h'
  rw [ht] at h2
  obtain ⟨h3, h4⟩ := max_lt_iff.mp h2
  have h5 : (v i : EReal) ≠ ⊥ := by
    intro hb
    rw [hb] at h4
    simp at h4
  exact ⟨(v i : EReal).toReal, (EReal.coe_toReal h3.ne h5).symm⟩

theorem pre_use (g : FVec Ideal S6x256x5120 .bf16) (w : FVec Ideal S22528x5120 .f32) (s : FVec Ideal S5120 .f32) (h : fn (F := Ideal) g w s = fun _ => 1#1) :
    (∀ (a : Fin 6) (b : Fin 256), RowOk (amax fun k : Fin 5120 => g (ix3 a b k))) ∧ (∀ i, ∃ r : ℝ, (w i : EReal) = ((r : ℝ) : EReal))
      ∧ (∀ i, ∃ r : ℝ, (s i : EReal) = ((r : ℝ) : EReal)) := by
  rw [fn_eq] at h
  have h0 := congrFun h ((fun i => i.elim0 : S_.Idx))
  obtain ⟨h1, h2⟩ := IntOp.andi_eq_one.mp h0
  obtain ⟨h3, h4⟩ := IntOp.andi_eq_one.mp h1
  refine ⟨fun a b => ?_, fun i => fin_at _ w i (Host.reduce_andi_all _ _ _ _ _ h4 i), fun i => fin_at _ s i (Host.reduce_andi_all _ _ _ _ _ h2 i)⟩
  have := rowB_at (rowT g) (ix2 a b) (Host.reduce_andi_all _ _ _ _ _ h3 (ix2 a b))
  rwa [rowT_at] at this

end Cert.Pre_pre
-- ==== Proof.Algebraic.lean ====
/- Over the extended reals the kernel and the reference leave the same three results. -/
module

public import proofs.«01_k».proof.Defs
public import proofs.«01_k».proof.Proof.KFinal
public import proofs.«01_k».proof.Proof.RFinal
public import proofs.«01_k».proof.Proof.PreVal

@[expose] public section

set_option maxRecDepth 16384

noncomputable section

namespace Cert.Proof

open Idealize.ShloMosaic Idealize.ShloMosaic.TcCoe Idealize.SL.Sem
open Cert.Alg

/-- The precondition, row by row. -/
theorem row_ok (m : (ℓ : Loc Cert.KernelIdeal.nD Cert.KernelIdeal.τ Cert.KernelIdeal.sig) → Buf (Elt Ideal) ℓ)
    (h : Cert.Pre_KernelIdeal_pre m) (c : Dev Cert.KernelIdeal.nD) (r : Fin 1536) : RowOk (amax (Cert.KernelIdeal.Own.xr m c r)) :=
  (Cert.Pre_pre.pre_use _ _ _ (h c)).1 _ _

theorem algebraic : Cert.algebraic_KernelIdeal_ReferenceIdeal_pre_pre := by
  intro m g m' g' hpre hag
  have ex : ∀ (c : Dev Cert.KernelIdeal.nD), Cert.ReferenceIdeal.Own.xr m' c = Cert.KernelIdeal.Own.xr m c := fun c => by
    funext r k
    exact congrFun (hag c).1 _
  have hrow := row_ok m hpre
  have hrow' : ∀ (c : Dev Cert.KernelIdeal.nD) (r : Fin 1536), RowOk (amax (Cert.ReferenceIdeal.Own.xr m' c r)) := fun c r => by
    rw [ex c]; exact hrow c r
  refine ⟨fun c => Cert.KernelIdeal.Own.W5 m g c (Proc.devRef .tc Cert.KernelIdeal.main_v7), fun c => Cert.KernelIdeal.Own.W5 m g c (Proc.devRef .tc Cert.KernelIdeal.main_v8),
    fun c => Cert.KernelIdeal.Own.W5 m g c (Proc.devRef .tc Cert.KernelIdeal.main_v9), ?_, ?_⟩
  · refine (θ_run _ _ _).mono (fun r h c => ⟨h.1 c _ (Cert.KernelIdeal.Own.mem_uc _ (by decide)), h.1 c _ (Cert.KernelIdeal.Own.mem_uc _ (by decide)),
      h.1 c _ (Cert.KernelIdeal.Own.mem_uc _ (by decide)), ?_, ?_, ?_⟩) (Cert.KernelIdeal.Own.run_all m g)
    · exact (h.1 c _ (Cert.KernelIdeal.Own.mem_uc Cert.KernelIdeal.main_arg0 (by decide))).trans (Cert.KernelIdeal.Own.W5_main_arg0 m g c)
    · exact (h.1 c _ (Cert.KernelIdeal.Own.mem_uc Cert.KernelIdeal.main_arg1 (by decide))).trans (Cert.KernelIdeal.Own.W5_main_arg1 m g c)
    · exact (h.1 c _ (Cert.KernelIdeal.Own.mem_uc Cert.KernelIdeal.main_arg2 (by decide))).trans (Cert.KernelIdeal.Own.W5_main_arg2 m g c)
  · refine (θ_run _ _ _).mono (fun r h c => ⟨?_, ?_, ?_, (h.2 c).1, (h.2 c).2.1, (h.2 c).2.2⟩)
      (θ_run_and (Cert.ReferenceIdeal.Gen.run_main m' g') (Cert.ReferenceIdeal.Gen.unchanged m' g'))
    · refine ((h.1 c).2 Cert.ReferenceIdeal.main_v20 (by decide)).trans ?_
      obtain ⟨-, hw, hs⟩ := Cert.Pre_pre.pre_use _ _ _ (hpre c)
      choose wR hwR using hw
      choose sR hsR using hs
      choose cR hcR using fun (r : Fin 1536) (k : Fin 5120) => code_real (Cert.KernelIdeal.Own.xr m c r k) (amax (Cert.KernelIdeal.Own.xr m c r))
      choose gR hgR using fun r : Fin 1536 => scl_real (amax (Cert.KernelIdeal.Own.xr m c r)) (hrow c r)
      refine (Cert.ReferenceIdeal.Own.r_y m' c (fun o k => wR (ix2 o k)) cR (fun k => sR (ix1 k)) gR (fun o k => (congrFun (hag c).2.1 _).trans (hwR _))
        (fun k => (congrFun (hag c).2.2 _).trans (hsR _)) (hrow' c) (fun r k => ?_) (fun r => ?_)).trans
        (Cert.KernelIdeal.Own.k_y m g c (fun o k => wR (ix2 o k)) cR (fun k => sR (ix1 k)) gR (fun o k => hwR _) (fun k => hsR _) hcR hgR).symm
      · rw [ex c]; exact hcR r k
      · rw [ex c]; exact hgR r
    · refine ((h.1 c).2 Cert.ReferenceIdeal.main_v21 (by decide)).trans (funext fun j => ?_)
      obtain ⟨a, b, k, rfl⟩ : ∃ (a : Fin 6) (b : Fin 256) (k : Fin 5120), j = ix3 a b k := ⟨j 0, j 1, j 2, by blk_ext⟩
      refine (Cert.ReferenceIdeal.Own.r_codes m' c a b k ⟨a.val * 256 + b.val, by omega⟩ rfl (hrow' c _)).trans ?_
      rw [ex c]
      exact (Cert.KernelIdeal.Own.k_codes m g c a b k ⟨a.val * 256 + b.val, by omega⟩ rfl).symm
    · refine ((h.1 c).2 Cert.ReferenceIdeal.main_v22 (by decide)).trans (funext fun j => ?_)
      obtain ⟨a, b, rfl⟩ : ∃ (a : Fin 6) (b : Fin 256), j = ix2 a b := ⟨j 0, j 1, by blk_ext⟩
      refine (Cert.ReferenceIdeal.Own.r_gs m' c a b ⟨a.val * 256 + b.val, by omega⟩ rfl (hrow' c _)).trans ?_
      rw [ex c]
      exact (Cert.KernelIdeal.Own.k_gs m g c a b ⟨a.val * 256 + b.val, by omega⟩ rfl).symm

end Cert.Proof
-- ==== Proof.lean ====
/- The five claims. -/
module

public import proofs.«01_k».proof.Defs
public import proofs.«01_k».proof.Proof.KernelRun
public import proofs.«01_k».proof.Proof.KernelIdealRun
public import proofs.«01_k».proof.Proof.Gen.ReferenceIdeal.Frame
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_pre.facts,
  fun m ρ _ => Cert.Kernel.Own.frame m ρ, fun m ρ _ => Cert.KernelIdeal.Own.frame m ρ, fun m ρ _ => Cert.KernelIdeal.Own.frame m ρ,
  fun m ρ _ => Cert.ReferenceIdeal.Gen.frame m ρ, fun m ρ _ => Cert.ReferenceIdeal.Gen.frame m ρ, trivial, algebraic⟩

end Cert.Proof

end
